-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v48)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v173) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S65536x1024 : Shape := ⟨2, ![65536, 1024]⟩
abbrev S65536x2048 : Shape := ⟨2, ![65536, 2048]⟩
abbrev S2048x2048 : Shape := ⟨2, ![2048, 2048]⟩
abbrev S8x3x1024 : Shape := ⟨3, ![8, 3, 1024]⟩
abbrev S8 : Shape := ⟨1, ![8]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S128 : Shape := ⟨1, ![128]⟩
abbrev S128x1 : Shape := ⟨2, ![128, 1]⟩
abbrev S160 : Shape := ⟨1, ![160]⟩
abbrev S1x160 : Shape := ⟨2, ![1, 160]⟩
abbrev S_ : Shape := ⟨0, ![]⟩
abbrev S128x160 : Shape := ⟨2, ![128, 160]⟩
abbrev S1x128x160 : Shape := ⟨3, ![1, 128, 160]⟩
abbrev S4x128x160 : Shape := ⟨3, ![4, 128, 160]⟩
abbrev S1x128 : Shape := ⟨2, ![1, 128]⟩
abbrev S4x128 : Shape := ⟨2, ![4, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S2x512x128 : Shape := ⟨3, ![2, 512, 128]⟩
abbrev S16x512 : Shape := ⟨2, ![16, 512]⟩
abbrev S1024x512 : Shape := ⟨2, ![1024, 512]⟩
abbrev S128x512 : Shape := ⟨2, ![128, 512]⟩
abbrev S256x512 : Shape := ⟨2, ![256, 512]⟩
abbrev S1x3x1024 : Shape := ⟨3, ![1, 3, 1024]⟩
abbrev S1056x512 : Shape := ⟨2, ![1056, 512]⟩
abbrev S128x128 : Shape := ⟨2, ![128, 128]⟩
abbrev S160x128 : Shape := ⟨2, ![160, 128]⟩
abbrev S1x128x128 : Shape := ⟨3, ![1, 128, 128]⟩
abbrev S640x128 : Shape := ⟨2, ![640, 128]⟩
abbrev S1024x128 : Shape := ⟨2, ![1024, 128]⟩
abbrev S1280x128 : Shape := ⟨2, ![1280, 128]⟩
abbrev S384x128 : Shape := ⟨2, ![384, 128]⟩
abbrev S256x128 : Shape := ⟨2, ![256, 128]⟩
abbrev S512x640 : Shape := ⟨2, ![512, 640]⟩
abbrev S640x256 : Shape := ⟨2, ![640, 256]⟩
abbrev S1 : Shape := ⟨1, ![1]⟩
abbrev S512x256 : Shape := ⟨2, ![512, 256]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 116
  | .vmem => 30
  | .smem => 1
  | _ => 0

abbrev bufTy : (tb : Table) → Fin (tcTables nBuf tb) → BufTy
  | .hbm, ⟨0, _⟩ => ⟨S65536x1024, .f32⟩
  | .hbm, ⟨1, _⟩ => ⟨S65536x2048, .bf16⟩
  | .hbm, ⟨2, _⟩ => ⟨S2048x2048, .bf16⟩
  | .hbm, ⟨3, _⟩ => ⟨S8x3x1024, .f32⟩
  | .hbm, ⟨4, _⟩ => ⟨S8, .f32⟩
  | .hbm, ⟨5, _⟩ => ⟨S4x128x128, .bf16⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S128, .i32⟩
  | .hbm, ⟨11, _⟩ => ⟨S128x1, .i32⟩
  | .hbm, ⟨12, _⟩ => ⟨S160, .i32⟩
  | .hbm, ⟨13, _⟩ => ⟨S1x160, .i32⟩
  | .hbm, ⟨14, _⟩ => ⟨S_, .i32⟩
  | .hbm, ⟨15, _⟩ => ⟨S1x160, .i32⟩
  | .hbm, ⟨16, _⟩ => ⟨S1x160, .i32⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x160, .i32⟩
  | .hbm, ⟨21, _⟩ => ⟨S128x160, .i32⟩
  | .hbm, ⟨22, _⟩ => ⟨S128x160, .i1⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S128x160, .i32⟩
  | .hbm, ⟨27, _⟩ => ⟨S128x160, .i32⟩
  | .hbm, ⟨28, _⟩ => ⟨S128x160, .i1⟩
  | .hbm, ⟨29, _⟩ => ⟨S128x160, .i1⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x160, .i32⟩
  | .hbm, ⟨34, _⟩ => ⟨S128x160, .i32⟩
  | .hbm, ⟨35, _⟩ => ⟨S128x160, .i1⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x160, .i32⟩
  | .hbm, ⟨40, _⟩ => ⟨S128x160, .i32⟩
  | .hbm, ⟨41, _⟩ => ⟨S128x160, .i1⟩
  | .hbm, ⟨42, _⟩ => ⟨S128x160, .i1⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x160, .i32⟩
  | .hbm, ⟨47, _⟩ => ⟨S128x160, .i32⟩
  | .hbm, ⟨48, _⟩ => ⟨S128x160, .i1⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x160, .i32⟩
  | .hbm, ⟨53, _⟩ => ⟨S128x160, .i32⟩
  | .hbm, ⟨54, _⟩ => ⟨S128x160, .i1⟩
  | .hbm, ⟨55, _⟩ => ⟨S128x160, .i1⟩
  | .hbm, ⟨56, _⟩ => ⟨S_, .i32⟩
  | .hbm, ⟨57, _⟩ => ⟨S128x1, .i32⟩
  | .hbm, ⟨58, _⟩ => ⟨S128x1, .i32⟩
  | .hbm, ⟨59, _⟩ => ⟨S128x160, .i32⟩
  | .hbm, ⟨60, _⟩ => ⟨S128x160, .i32⟩
  | .hbm, ⟨61, _⟩ => ⟨S128x160, .i1⟩
  | .hbm, ⟨62, _⟩ => ⟨S_, .i32⟩
  | .hbm, ⟨63, _⟩ => ⟨S128x1, .i32⟩
  | .hbm, ⟨64, _⟩ => ⟨S128x1, .i32⟩
  | .hbm, ⟨65, _⟩ => ⟨S128x160, .i32⟩
  | .hbm, ⟨66, _⟩ => ⟨S128x160, .i32⟩
  | .hbm, ⟨67, _⟩ => ⟨S128x160, .i1⟩
  | .hbm, ⟨68, _⟩ => ⟨S128x160, .i1⟩
  | .hbm, ⟨69, _⟩ => ⟨S1x128x160, .i1⟩
  | .hbm, ⟨70, _⟩ => ⟨S1x128x160, .i1⟩
  | .hbm, ⟨71, _⟩ => ⟨S1x128x160, .i1⟩
  | .hbm, ⟨72, _⟩ => ⟨S1x128x160, .i1⟩
  | .hbm, ⟨73, _⟩ => ⟨S4x128x160, .i1⟩
  | .hbm, ⟨74, _⟩ => ⟨S4x128x160, .f32⟩
  | .hbm, ⟨75, _⟩ => ⟨S4x128x160, .bf16⟩
  | .hbm, ⟨76, _⟩ => ⟨S128, .i32⟩
  | .hbm, ⟨77, _⟩ => ⟨S1x128, .i32⟩
  | .hbm, ⟨78, _⟩ => ⟨S4x128, .i32⟩
  | .hbm, ⟨79, _⟩ => ⟨S512, .i32⟩
  | .hbm, ⟨80, _⟩ => ⟨S512x1, .i32⟩
  | .hbm, ⟨81, _⟩ => ⟨S128, .i32⟩
  | .hbm, ⟨82, _⟩ => ⟨S1x128, .i32⟩
  | .hbm, ⟨83, _⟩ => ⟨S_, .i32⟩
  | .hbm, ⟨84, _⟩ => ⟨S1x128, .i32⟩
  | .hbm, ⟨85, _⟩ => ⟨S1x128, .i32⟩
  | .hbm, ⟨86, _⟩ => ⟨S_, .i32⟩
  | .hbm, ⟨87, _⟩ => ⟨S512x1, .i32⟩
  | .hbm, ⟨88, _⟩ => ⟨S512x1, .i32⟩
  | .hbm, ⟨89, _⟩ => ⟨S512x128, .i32⟩
  | .hbm, ⟨90, _⟩ => ⟨S512x128, .i32⟩
  | .hbm, ⟨91, _⟩ => ⟨S512x128, .i1⟩
  | .hbm, ⟨92, _⟩ => ⟨S_, .f32⟩
  | .hbm, ⟨93, _⟩ => ⟨S_, .f32⟩
  | .hbm, ⟨94, _⟩ => ⟨S512x128, .f32⟩
  | .hbm, ⟨95, _⟩ => ⟨S512x128, .f32⟩
  | .hbm, ⟨96, _⟩ => ⟨S512x128, .f32⟩
  | .hbm, ⟨97, _⟩ => ⟨S_, .i32⟩
  | .hbm, ⟨98, _⟩ => ⟨S1x128, .i32⟩
  | .hbm, ⟨99, _⟩ => ⟨S1x128, .i32⟩
  | .hbm, ⟨100, _⟩ => ⟨S_, .i32⟩
  | .hbm, ⟨101, _⟩ => ⟨S512x1, .i32⟩
  | .hbm, ⟨102, _⟩ => ⟨S512x1, .i32⟩
  | .hbm, ⟨103, _⟩ => ⟨S512x128, .i32⟩
  | .hbm, ⟨104, _⟩ => ⟨S512x128, .i32⟩
  | .hbm, ⟨105, _⟩ => ⟨S512x128, .i1⟩
  | .hbm, ⟨106, _⟩ => ⟨S_, .f32⟩
  | .hbm, ⟨107, _⟩ => ⟨S_, .f32⟩
  | .hbm, ⟨108, _⟩ => ⟨S512x128, .f32⟩
  | .hbm, ⟨109, _⟩ => ⟨S512x128, .f32⟩
  | .hbm, ⟨110, _⟩ => ⟨S512x128, .f32⟩
  | .hbm, ⟨111, _⟩ => ⟨S1x512x128, .f32⟩
  | .hbm, ⟨112, _⟩ => ⟨S1x512x128, .f32⟩
  | .hbm, ⟨113, _⟩ => ⟨S2x512x128, .f32⟩
  | .hbm, ⟨114, _⟩ => ⟨S2x512x128, .f32⟩
  | .hbm, ⟨115, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x512, .bf16⟩
  | .local _ .vmem, ⟨5, _⟩ => ⟨S16x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S128x512, .bf16⟩
  | .local _ .vmem, ⟨11, _⟩ => ⟨S128x512, .bf16⟩
  | .local _ .vmem, ⟨12, _⟩ => ⟨S1024x512, .bf16⟩
  | .local _ .vmem, ⟨13, _⟩ => ⟨S1024x512, .bf16⟩
  | .local _ .vmem, ⟨14, _⟩ => ⟨S128x512, .bf16⟩
  | .local _ .vmem, ⟨15, _⟩ => ⟨S128x512, .bf16⟩
  | .local _ .vmem, ⟨16, _⟩ => ⟨S256x512, .bf16⟩
  | .local _ .vmem, ⟨17, _⟩ => ⟨S256x512, .bf16⟩
  | .local _ .vmem, ⟨18, _⟩ => ⟨S1x3x1024, .f32⟩
  | .local _ .vmem, ⟨19, _⟩ => ⟨S1x3x1024, .f32⟩
  | .local _ .vmem, ⟨20, _⟩ => ⟨S4x128x160, .bf16⟩
  | .local _ .vmem, ⟨21, _⟩ => ⟨S2x512x128, .f32⟩
  | .local _ .vmem, ⟨22, _⟩ => ⟨S4x128x128, .bf16⟩
  | .local _ .vmem, ⟨23, _⟩ => ⟨S1x512, .f32⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .smem, ⟨0, _⟩ => ⟨S8, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst : Ref sig .tc := ⟨.hbm, 92, rfl⟩
abbrev main_cst_10 : Ref sig .tc := ⟨.hbm, 93, rfl⟩
abbrev main_call0_v0 : Ref sig .tc := ⟨.hbm, 94, rfl⟩
abbrev main_call0_v1 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_13 : Ref sig .tc := ⟨.hbm, 106, rfl⟩
abbrev main_cst_14 : Ref sig .tc := ⟨.hbm, 107, rfl⟩
abbrev main_call1_v0 : Ref sig .tc := ⟨.hbm, 108, rfl⟩
abbrev main_call1_v1 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c2_i32 : BitVec 32 := 2#32
  let c0_i32 : BitVec 32 := 0#32
  ![v2.toNat, c2_i32.toNat]

def cc0_transform_6 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  ![v16.toNat, c3_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x160 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S65536x1024 : Shape := ⟨2, ![65536, 1024]⟩
abbrev S65536x2048 : Shape := ⟨2, ![65536, 2048]⟩
abbrev S2048x2048 : Shape := ⟨2, ![2048, 2048]⟩
abbrev S8x3x1024 : Shape := ⟨3, ![8, 3, 1024]⟩
abbrev S8 : Shape := ⟨1, ![8]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S8x8192x2048 : Shape := ⟨3, ![8, 8192, 2048]⟩
abbrev S8x256x2048 : Shape := ⟨3, ![8, 256, 2048]⟩
abbrev S8x8192x1024 : Shape := ⟨3, ![8, 8192, 1024]⟩
abbrev S8x8192x2x4x128 : Shape := ⟨5, ![8, 8192, 2, 4, 128]⟩
abbrev S8x8192x512 : Shape := ⟨3, ![8, 8192, 512]⟩
abbrev S8x8192x256 : Shape := ⟨3, ![8, 8192, 256]⟩
abbrev S8x8192x2x128 : Shape := ⟨4, ![8, 8192, 2, 128]⟩
abbrev S8x256x256 : Shape := ⟨3, ![8, 256, 256]⟩
abbrev S8x256x2x128 : Shape := ⟨4, ![8, 256, 2, 128]⟩
abbrev S8x8192x4x128 : Shape := ⟨4, ![8, 8192, 4, 128]⟩
abbrev S4x8192x8x128 : Shape := ⟨4, ![4, 8192, 8, 128]⟩
abbrev S8192 : Shape := ⟨1, ![8192]⟩
abbrev S4 : Shape := ⟨1, ![4]⟩
abbrev S_ : Shape := ⟨0, ![]⟩
abbrev S1x8192 : Shape := ⟨2, ![1, 8192]⟩
abbrev S4x1 : Shape := ⟨2, ![4, 1]⟩
abbrev S4x8192 : Shape := ⟨2, ![4, 8192]⟩
abbrev S1x1x8192 : Shape := ⟨3, ![1, 1, 8192]⟩
abbrev S4x8192x1 : Shape := ⟨3, ![4, 8192, 1]⟩
abbrev S4x8192x8192 : Shape := ⟨3, ![4, 8192, 8192]⟩
abbrev S4x8192x1x1 : Shape := ⟨4, ![4, 8192, 1, 1]⟩
abbrev S1x1x512 : Shape := ⟨3, ![1, 1, 512]⟩
abbrev S8192x1 : Shape := ⟨2, ![8192, 1]⟩
abbrev S8192x8192 : Shape := ⟨2, ![8192, 8192]⟩
abbrev S8x2x8192x8192x4 : Shape := ⟨5, ![8, 2, 8192, 8192, 4]⟩
abbrev S8x2x4x8192x8192 : Shape := ⟨5, ![8, 2, 4, 8192, 8192]⟩
abbrev S8x2x256x8192x4 : Shape := ⟨5, ![8, 2, 256, 8192, 4]⟩
abbrev S8x2x4x8192x256 : Shape := ⟨5, ![8, 2, 4, 8192, 256]⟩
abbrev S1x1x1x8192x8192 : Shape := ⟨5, ![1, 1, 1, 8192, 8192]⟩
abbrev S1x2x4x1x1 : Shape := ⟨5, ![1, 2, 4, 1, 1]⟩
abbrev S8x2x4x8192 : Shape := ⟨4, ![8, 2, 4, 8192]⟩
abbrev S8x2x4x8192x1 : Shape := ⟨5, ![8, 2, 4, 8192, 1]⟩
abbrev S8x2x4x8192x128 : Shape := ⟨5, ![8, 2, 4, 8192, 128]⟩
abbrev S8x8192x4x2x128 : Shape := ⟨5, ![8, 8192, 4, 2, 128]⟩
abbrev S8x8192x4x1x64 : Shape := ⟨5, ![8, 8192, 4, 1, 64]⟩
abbrev S8x8192x4x64 : Shape := ⟨4, ![8, 8192, 4, 64]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 181
  | .vmem => 0
  | .smem => 0
  | _ => 0

abbrev hbmTy0_0 (i : Nat) : BufTy := match i % 128 with
  | 0 => ⟨S65536x1024, .f32⟩
  | 1 => ⟨S65536x2048, .bf16⟩
  | 2 => ⟨S2048x2048, .bf16⟩
  | 3 => ⟨S8x3x1024, .f32⟩
  | 4 => ⟨S8, .f32⟩
  | 5 => ⟨S4x128x128, .bf16⟩
  | 6 => ⟨S1x512, .f32⟩
  | 7 => ⟨S1024x1024, .bf16⟩
  | 8 => ⟨S1x1024, .f32⟩
  | 9 => ⟨S1x1024, .f32⟩
  | 10 => ⟨S65536x2048, .f32⟩
  | 11 => ⟨S8x8192x2048, .f32⟩
  | 12 => ⟨S2048x2048, .f32⟩
  | 13 => ⟨S8x256x2048, .f32⟩
  | 14 => ⟨S8x8192x1024, .f32⟩
  | 15 => ⟨S8x8192x2x4x128, .f32⟩
  | 16 => ⟨S8x8192x512, .f32⟩
  | 17 => ⟨S8x8192x256, .f32⟩
  | 18 => ⟨S8x8192x2x128, .f32⟩
  | 19 => ⟨S8x8192x256, .f32⟩
  | 20 => ⟨S8x8192x2x128, .f32⟩
  | 21 => ⟨S8x256x256, .f32⟩
  | 22 => ⟨S8x256x2x128, .f32⟩
  | 23 => ⟨S8x256x256, .f32⟩
  | 24 => ⟨S8x256x2x128, .f32⟩
  | 25 => ⟨S4x128x128, .f32⟩
  | 26 => ⟨S8x8192x4x128, .f32⟩
  | 27 => ⟨S4x8192x8x128, .f32⟩
  | 28 => ⟨S8192, .i32⟩
  | 29 => ⟨S4, .i32⟩
  | 30 => ⟨S_, .i32⟩
  | 31 => ⟨S4, .i32⟩
  | 32 => ⟨S4, .i32⟩
  | 33 => ⟨S1x8192, .i32⟩
  | 34 => ⟨S4x1, .i32⟩
  | 35 => ⟨S4x8192, .i32⟩
  | 36 => ⟨S4x8192, .i32⟩
  | 37 => ⟨S4x8192, .i32⟩
  | 38 => ⟨S_, .i32⟩
  | 39 => ⟨S4x8192, .i32⟩
  | 40 => ⟨S4x8192, .i32⟩
  | 41 => ⟨S1x8192, .i32⟩
  | 42 => ⟨S4x1, .i32⟩
  | 43 => ⟨S4x8192, .i32⟩
  | 44 => ⟨S4x8192, .i32⟩
  | 45 => ⟨S4x8192, .i32⟩
  | 46 => ⟨S_, .i32⟩
  | 47 => ⟨S4x8192, .i32⟩
  | 48 => ⟨S4x8192, .i32⟩
  | 49 => ⟨S1x1x8192, .i32⟩
  | 50 => ⟨S4x8192x1, .i32⟩
  | 51 => ⟨S4x8192x8192, .i32⟩
  | 52 => ⟨S4x8192x8192, .i32⟩
  | 53 => ⟨S4x8192x8192, .i1⟩
  | 54 => ⟨S1x1x8192, .i32⟩
  | 55 => ⟨S4x8192x1, .i32⟩
  | 56 => ⟨S4x8192x8192, .i32⟩
  | 57 => ⟨S4x8192x8192, .i32⟩
  | 58 => ⟨S4x8192x8192, .i1⟩
  | 59 => ⟨S4x8192x8192, .i1⟩
  | 60 => ⟨S4x8192x8192, .f32⟩
  | 61 => ⟨S4x8192x8x128, .f32⟩
  | 62 => ⟨S4x8192, .i32⟩
  | 63 => ⟨S4x8192, .f32⟩
  | 64 => ⟨S4x8192x1x1, .f32⟩
  | 65 => ⟨S4x8192x8x128, .f32⟩
  | 66 => ⟨S4x8192x8x128, .f32⟩
  | 67 => ⟨S4x8192x8x128, .f32⟩
  | 68 => ⟨S4x8192x8x128, .f32⟩
  | 69 => ⟨S8x8192x4x128, .f32⟩
  | 70 => ⟨S8x8192x512, .f32⟩
  | 71 => ⟨S1x1x512, .f32⟩
  | 72 => ⟨S8x8192x512, .f32⟩
  | 73 => ⟨S8x8192x512, .f32⟩
  | 74 => ⟨S8192, .i32⟩
  | 75 => ⟨S8192x1, .i32⟩
  | 76 => ⟨S1x8192, .i32⟩
  | 77 => ⟨S8192x8192, .i32⟩
  | 78 => ⟨S8192x8192, .i32⟩
  | 79 => ⟨S8192x8192, .i32⟩
  | 80 => ⟨S8192x8192, .i32⟩
  | 81 => ⟨S_, .i32⟩
  | 82 => ⟨S8192x8192, .i32⟩
  | 83 => ⟨S8192x8192, .i1⟩
  | 84 => ⟨S_, .f32⟩
  | 85 => ⟨S_, .f32⟩
  | 86 => ⟨S8x2x8192x8192x4, .f32⟩
  | 87 => ⟨S8x2x4x8192x8192, .f32⟩
  | 88 => ⟨S8x2x4x8192x8192, .f32⟩
  | 89 => ⟨S8x2x4x8192x8192, .f32⟩
  | 90 => ⟨S8x2x256x8192x4, .f32⟩
  | 91 => ⟨S8x2x4x8192x256, .f32⟩
  | 92 => ⟨S8x2x4x8192x256, .f32⟩
  | 93 => ⟨S8x2x4x8192x256, .f32⟩
  | 94 => ⟨S1x1x1x8192x8192, .i1⟩
  | 95 => ⟨S_, .f32⟩
  | 96 => ⟨S_, .f32⟩
  | 97 => ⟨S8x2x4x8192x8192, .i1⟩
  | 98 => ⟨S8x2x4x8192x8192, .f32⟩
  | 99 => ⟨S8x2x4x8192x8192, .f32⟩
  | 100 => ⟨S1x2x4x1x1, .f32⟩
  | 101 => ⟨S_, .f32⟩
  | 102 => ⟨S8x2x4x8192, .f32⟩
  | 103 => ⟨S8x2x4x8192x1, .f32⟩
  | 104 => ⟨S_, .f32⟩
  | 105 => ⟨S8x2x4x8192, .f32⟩
  | 106 => ⟨S8x2x4x8192x1, .f32⟩
  | 107 => ⟨S8x2x4x8192x1, .f32⟩
  | 108 => ⟨S8x2x4x8192x1, .f32⟩
  | 109 => ⟨S8x2x4x8192x1, .f32⟩
  | 110 => ⟨S8x2x4x8192x8192, .f32⟩
  | 111 => ⟨S8x2x4x8192x8192, .f32⟩
  | 112 => ⟨S8x2x4x8192x8192, .f32⟩
  | 113 => ⟨S8x2x4x8192x256, .f32⟩
  | 114 => ⟨S8x2x4x8192x256, .f32⟩
  | 115 => ⟨S8x2x4x8192x256, .f32⟩
  | 116 => ⟨S_, .f32⟩
  | 117 => ⟨S8x2x4x8192, .f32⟩
  | 118 => ⟨S8x2x4x8192x1, .f32⟩
  | 119 => ⟨S_, .f32⟩
  | 120 => ⟨S8x2x4x8192, .f32⟩
  | 121 => ⟨S8x2x4x8192x1, .f32⟩
  | 122 => ⟨S8x2x4x8192x1, .f32⟩
  | 123 => ⟨S8x2x4x8192x1, .f32⟩
  | 124 => ⟨S8x2x4x8192x1, .f32⟩
  | 125 => ⟨S8x2x4x8192x1, .f32⟩
  | 126 => ⟨S8x2x4x8192x1, .f32⟩
  | 127 => ⟨S8x2x4x8192x128, .f32⟩
  | _ => ⟨S65536x1024, .f32⟩

abbrev hbmTy0_1 (i : Nat) : BufTy := match i % 128 with
  | 0 => ⟨S8x2x4x8192x128, .f32⟩
  | 1 => ⟨S8x2x4x8192x128, .f32⟩
  | 2 => ⟨S8x2x4x8192x128, .f32⟩
  | 3 => ⟨S8x2x4x8192x128, .f32⟩
  | 4 => ⟨S8x8192x2x4x128, .f32⟩
  | 5 => ⟨S8x8192x4x2x128, .f32⟩
  | 6 => ⟨S8x8192x4x1x64, .f32⟩
  | 7 => ⟨S8x8192x4x64, .f32⟩
  | 8 => ⟨S8x8192x4x1x64, .f32⟩
  | 9 => ⟨S8x8192x4x64, .f32⟩
  | 10 => ⟨S8x8192x4x128, .f32⟩
  | 11 => ⟨S8x8192x512, .f32⟩
  | 12 => ⟨S8x8192x1024, .f32⟩
  | 13 => ⟨S1024x1024, .f32⟩
  | 14 => ⟨S8x8192x1024, .f32⟩
  | 15 => ⟨S8x8192x1024, .f32⟩
  | 16 => ⟨S_, .f32⟩
  | 17 => ⟨S8x8192x1024, .f32⟩
  | 18 => ⟨S8x8192x1024, .f32⟩
  | 19 => ⟨S8x1x1024, .f32⟩
  | 20 => ⟨S8x8192x1024, .f32⟩
  | 21 => ⟨S8x8192x1024, .f32⟩
  | 22 => ⟨S8x8192x1024, .f32⟩
  | 23 => ⟨S_, .f32⟩
  | 24 => ⟨S8x8192, .f32⟩
  | 25 => ⟨S8x8192x1, .f32⟩
  | 26 => ⟨S_, .f32⟩
  | 27 => ⟨S8x8192x1, .f32⟩
  | 28 => ⟨S8x8192x1, .f32⟩
  | 29 => ⟨S8x8192x1024, .f32⟩
  | 30 => ⟨S8x8192x1024, .f32⟩
  | 31 => ⟨S8x8192x1024, .f32⟩
  | 32 => ⟨S_, .f32⟩
  | 33 => ⟨S8x8192, .f32⟩
  | 34 => ⟨S8x8192x1, .f32⟩
  | 35 => ⟨S_, .f32⟩
  | 36 => ⟨S8x8192x1, .f32⟩
  | 37 => ⟨S8x8192x1, .f32⟩
  | 38 => ⟨S8x8192x1024, .f32⟩
  | 39 => ⟨S8x8192x1024, .f32⟩
  | 40 => ⟨S_, .f32⟩
  | 41 => ⟨S8x8192x1, .f32⟩
  | 42 => ⟨S8x8192x1, .f32⟩
  | 43 => ⟨S8x8192x1, .f32⟩
  | 44 => ⟨S8x8192x1024, .f32⟩
  | 45 => ⟨S8x8192x1024, .f32⟩
  | 46 => ⟨S1x1x1024, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_c_2 : Ref sig .tc := ⟨.hbm, 81, rfl⟩
abbrev main_v68 : Ref sig .tc := ⟨.hbm, 82, rfl⟩
abbrev main_v69 : Ref sig .tc := ⟨.hbm, 83, rfl⟩
abbrev main_cst : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_3 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v80 : Ref sig .tc := ⟨.hbm, 99, rfl⟩
abbrev main_v81 : Ref sig .tc := ⟨.hbm, 100, rfl⟩
abbrev main_cst_4 : Ref sig .tc := ⟨.hbm, 101, rfl⟩
abbrev main_v82 : Ref sig .tc := ⟨.hbm, 102, rfl⟩
abbrev main_v83 : Ref sig .tc := ⟨.hbm, 103, rfl⟩
abbrev main_cst_5 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_6 : Ref sig .tc := ⟨.hbm, 116, rfl⟩
abbrev main_v95 : Ref sig .tc := ⟨.hbm, 117, rfl⟩
abbrev main_v96 : Ref sig .tc := ⟨.hbm, 118, rfl⟩
abbrev main_cst_7 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_8 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_9 : Ref sig .tc := ⟨.hbm, 151, rfl⟩
abbrev main_v127 : Ref sig .tc := ⟨.hbm, 152, rfl⟩
abbrev main_v128 : Ref sig .tc := ⟨.hbm, 153, rfl⟩
abbrev main_cst_10 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_11 : Ref sig .tc := ⟨.hbm, 160, rfl⟩
abbrev main_v134 : Ref sig .tc := ⟨.hbm, 161, rfl⟩
abbrev main_v135 : Ref sig .tc := ⟨.hbm, 162, rfl⟩
abbrev main_cst_12 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_13 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩

abbrev nD : Nat := 1
abbrev τ : Topo := Topo.v7x

variable {F : FTy → Type} [FloatOps F]
-- ==== Kernel2.lean ====
abbrev S65536x1024 : Shape := ⟨2, ![65536, 1024]⟩
abbrev S8x3x1024 : Shape := ⟨3, ![8, 3, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1x3x1024 : Shape := ⟨3, ![1, 3, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x2816 : Shape := ⟨2, ![256, 2816]⟩

abbrev nBuf : Space → Nat
  | .hbm => 8
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S8x3x1024, .f32⟩
  | .hbm, ⟨2, _⟩ => ⟨S1x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1024x1024, .f32⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S65536x1024 : Shape := ⟨2, ![65536, 1024]⟩
abbrev S8x3x1024 : Shape := ⟨3, ![8, 3, 1024]⟩
abbrev S1x1024 : Shape := ⟨2, ![1, 1024]⟩
abbrev S1024x2816 : Shape := ⟨2, ![1024, 2816]⟩
abbrev S2816x1024 : Shape := ⟨2, ![2816, 1024]⟩
abbrev S8x8192x1024 : Shape := ⟨3, ![8, 8192, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S8x8192x2816 : Shape := ⟨3, ![8, 8192, 2816]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x3x1024, .f32⟩
  | .hbm, ⟨2, _⟩ => ⟨S1x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S8x8192x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S1024x2816, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S_, .f32⟩
  | .hbm, ⟨46, _⟩ => ⟨S8x8192x2816, .f32⟩
  | .hbm, ⟨47, _⟩ => ⟨S8x8192x2816, .f32⟩
  | .hbm, ⟨48, _⟩ => ⟨S_, .f32⟩
  | .hbm, ⟨49, _⟩ => ⟨S8x8192x2816, .f32⟩
  | .hbm, ⟨50, _⟩ => ⟨S8x8192x2816, .f32⟩
  | .hbm, ⟨51, _⟩ => ⟨S8x8192x2816, .f32⟩
  | .hbm, ⟨52, _⟩ => ⟨S1024x2816, .f32⟩
  | .hbm, ⟨53, _⟩ => ⟨S8x8192x2816, .f32⟩
  | .hbm, ⟨54, _⟩ => ⟨S8x8192x2816, .f32⟩
  | .hbm, ⟨55, _⟩ => ⟨S2816x1024, .f32⟩
  | .hbm, ⟨56, _⟩ => ⟨S8x8192x1024, .f32⟩
  | .hbm, ⟨57, _⟩ => ⟨S_, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S_, .f32⟩
  | .hbm, ⟨76, _⟩ => ⟨S8x8192, .f32⟩
  | .hbm, ⟨77, _⟩ => ⟨S8x8192x1, .f32⟩
  | .hbm, ⟨78, _⟩ => ⟨S_, .f32⟩
  | .hbm, ⟨79, _⟩ => ⟨S8x8192x1, .f32⟩
  | .hbm, ⟨80, _⟩ => ⟨S8x8192x1, .f32⟩
  | .hbm, ⟨81, _⟩ => ⟨S8x8192x1024, .f32⟩
  | .hbm, ⟨82, _⟩ => ⟨S8x8192x1024, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S8x8192x1, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | .hbm, ⟨92, _⟩ => ⟨S1x1x1024, .f32⟩
  | .hbm, ⟨93, _⟩ => ⟨S8x8192x1024, .f32⟩
  | .hbm, ⟨94, _⟩ => ⟨S8x8192x1024, .f32⟩
  | .hbm, ⟨95, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Kernel3.lean ====
abbrev S65536x1024 : Shape := ⟨2, ![65536, 1024]⟩
abbrev S8x3x1024 : Shape := ⟨3, ![8, 3, 1024]⟩
abbrev S1024x1280 : Shape := ⟨2, ![1024, 1280]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S65536x2048 : Shape := ⟨2, ![65536, 2048]⟩
abbrev S1024x1024 : Shape := ⟨2, ![1024, 1024]⟩
abbrev S1x3x1024 : Shape := ⟨3, ![1, 3, 1024]⟩
abbrev S1024x128 : Shape := ⟨2, ![1024, 128]⟩
abbrev S1024x2048 : Shape := ⟨2, ![1024, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S256x1280 : Shape := ⟨2, ![256, 1280]⟩
abbrev S256x512 : Shape := ⟨2, ![256, 512]⟩

abbrev nBuf : Space → Nat
  | .hbm => 57
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S8x3x1024, .f32⟩
  | .hbm, ⟨2, _⟩ => ⟨S1024x1280, .bf16⟩
  | .hbm, ⟨3, _⟩ => ⟨S128, .i32⟩
  | .hbm, ⟨4, _⟩ => ⟨S128x64, .i32⟩
  | .hbm, ⟨5, _⟩ => ⟨S8192, .i32⟩
  | .hbm, ⟨6, _⟩ => ⟨S8192, .f32⟩
  | .hbm, ⟨7, _⟩ => ⟨S64, .i32⟩
  | .hbm, ⟨8, _⟩ => ⟨S1x64, .i32⟩
  | .hbm, ⟨9, _⟩ => ⟨S128x64, .i32⟩
  | .hbm, ⟨10, _⟩ => ⟨S8192, .i32⟩
  | .hbm, ⟨11, _⟩ => ⟨S8192, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8192x1, .f32⟩
  | .hbm, ⟨27, _⟩ => ⟨S1x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x1, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S_, .f32⟩
  | .hbm, ⟨41, _⟩ => ⟨S8192x16, .f32⟩
  | .hbm, ⟨42, _⟩ => ⟨S8192x64, .f32⟩
  | .hbm, ⟨43, _⟩ => ⟨S8192x16, .f32⟩
  | .hbm, ⟨44, _⟩ => ⟨S8192x16, .f32⟩
  | .hbm, ⟨45, _⟩ => ⟨S8192x64, .f32⟩
  | .hbm, ⟨46, _⟩ => ⟨S8192x64, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S1x8192x1x64, .f32⟩
  | .hbm, ⟨51, _⟩ => ⟨S1x8192x2x64, .f32⟩
  | .hbm, ⟨52, _⟩ => ⟨S8192x128, .f32⟩
  | .hbm, ⟨53, _⟩ => ⟨S1x8192x1x64, .f32⟩
  | .hbm, ⟨54, _⟩ => ⟨S1x8192x2x64, .f32⟩
  | .hbm, ⟨55, _⟩ => ⟨S8192x128, .f32⟩
  | .hbm, ⟨56, _⟩ => ⟨S65536x2048, .bf16⟩
  | .local _ .vmem, ⟨0, _⟩ => ⟨S1024x1024, .f32⟩
  | .local _ .vmem, ⟨1, _⟩ => ⟨S1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x1280, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | .local _ .vmem, ⟨12, _⟩ => ⟨S1024x2048, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S65536x1024 : Shape := ⟨2, ![65536, 1024]⟩
abbrev S8x3x1024 : Shape := ⟨3, ![8, 3, 1024]⟩
abbrev S1024x1280 : Shape := ⟨2, ![1024, 1280]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8x8192x1024 : Shape := ⟨3, ![8, 8192, 1024]⟩
abbrev S8x8192 : Shape := ⟨2, ![8, 8192]⟩
abbrev S8x8192x1 : Shape := ⟨3, ![8, 8192, 1]⟩
abbrev S8x1x1024 : Shape := ⟨3, ![8, 1, 1024]⟩
abbrev S8x8192x1280 : Shape := ⟨3, ![8, 8192, 1280]⟩
abbrev S8x8192x512 : Shape := ⟨3, ![8, 8192, 512]⟩
abbrev S8x8192x8x64 : Shape := ⟨4, ![8, 8192, 8, 64]⟩
abbrev S8x8192x8x32 : Shape := ⟨4, ![8, 8192, 8, 32]⟩
abbrev S8192x1x16 : Shape := ⟨3, ![8192, 1, 16]⟩
abbrev S8x8192x8x16 : Shape := ⟨4, ![8, 8192, 8, 16]⟩
abbrev S1x8192x1x16 : Shape := ⟨4, ![1, 8192, 1, 16]⟩
abbrev S8x8192x128 : Shape := ⟨3, ![8, 8192, 128]⟩
abbrev S8x8192x2x64 : Shape := ⟨4, ![8, 8192, 2, 64]⟩
abbrev S8x8192x2x32 : Shape := ⟨4, ![8, 8192, 2, 32]⟩
abbrev S8x8192x2x16 : Shape := ⟨4, ![8, 8192, 2, 16]⟩
abbrev S8x8192x4x2x64 : Shape := ⟨5, ![8, 8192, 4, 2, 64]⟩
abbrev S8x8192x4x64 : Shape := ⟨4, ![8, 8192, 4, 64]⟩
abbrev S8x8192x4x1x64 : Shape := ⟨5, ![8, 8192, 4, 1, 64]⟩
abbrev S8x8192x4x256 : Shape := ⟨4, ![8, 8192, 4, 256]⟩
abbrev S8x8192x2x128 : Shape := ⟨4, ![8, 8192, 2, 128]⟩
abbrev S8x8192x256 : Shape := ⟨3, ![8, 8192, 256]⟩
abbrev S8x8192x2048 : Shape := ⟨3, ![8, 8192, 2048]⟩
abbrev S65536x2048 : Shape := ⟨2, ![65536, 2048]⟩

abbrev nBuf : Space → Nat
  | .hbm => 190
  | .vmem => 0
  | .smem => 0
  | _ => 0

abbrev hbmTy0_0 (i : Nat) : BufTy := match i % 128 with
  | 0 => ⟨S65536x1024, .f32⟩
  | 1 => ⟨S8x3x1024, .f32⟩
  | 2 => ⟨S1024x1280, .bf16⟩
  | 3 => ⟨S128, .i32⟩
  | 4 => ⟨S128x64, .i32⟩
  | 5 => ⟨S8192, .i32⟩
  | 6 => ⟨S8192, .f32⟩
  | 7 => ⟨S64, .i32⟩
  | 8 => ⟨S1x64, .i32⟩
  | 9 => ⟨S128x64, .i32⟩
  | 10 => ⟨S8192, .i32⟩
  | 11 => ⟨S8192, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192x1, .f32⟩
  | 32 => ⟨S1x16, .f32⟩
  | 33 => ⟨S8192x16, .f32⟩
  | 34 => ⟨S8192x16, .f32⟩
  | 35 => ⟨S8192x16, .f32⟩
  | 36 => ⟨S8x8192x1024, .f32⟩
  | 37 => ⟨S_, .f32⟩
  | 38 => ⟨S8x8192, .f32⟩
  | 39 => ⟨S8x8192x1, .f32⟩
  | 40 => ⟨S_, .f32⟩
  | 41 => ⟨S8x8192x1, .f32⟩
  | 42 => ⟨S8x8192x1, .f32⟩
  | 43 => ⟨S8x8192x1024, .f32⟩
  | 44 => ⟨S8x8192x1024, .f32⟩
  | 45 => ⟨S8x8192x1024, .f32⟩
  | 46 => ⟨S_, .f32⟩
  | 47 => ⟨S8x8192, .f32⟩
  | 48 => ⟨S8x8192x1, .f32⟩
  | 49 => ⟨S_, .f32⟩
  | 50 => ⟨S8x8192x1, .f32⟩
  | 51 => ⟨S8x8192x1, .f32⟩
  | 52 => ⟨S8x8192x1024, .f32⟩
  | 53 => ⟨S8x8192x1024, .f32⟩
  | 54 => ⟨S_, .f32⟩
  | 55 => ⟨S8x8192x1, .f32⟩
  | 56 => ⟨S8x8192x1, .f32⟩
  | 57 => ⟨S8x8192x1, .f32⟩
  | 58 => ⟨S8x8192x1024, .f32⟩
  | 59 => ⟨S8x8192x1024, .f32⟩
  | 60 => ⟨S8x1x1024, .f32⟩
  | 61 => ⟨S_, .f32⟩
  | 62 => ⟨S8x1x1024, .f32⟩
  | 63 => ⟨S8x1x1024, .f32⟩
  | 64 => ⟨S8x8192x1024, .f32⟩
  | 65 => ⟨S8x8192x1024, .f32⟩
  | 66 => ⟨S8x1x1024, .f32⟩
  | 67 => ⟨S8x8192x1024, .f32⟩
  | 68 => ⟨S8x8192x1024, .f32⟩
  | 69 => ⟨S1024x1280, .f32⟩
  | 70 => ⟨S8x8192x1280, .f32⟩
  | 71 => ⟨S8x8192x512, .f32⟩
  | 72 => ⟨S8x8192x8x64, .f32⟩
  | 73 => ⟨S8x8192x8x32, .f32⟩
  | 74 => ⟨S8192x16, .f32⟩
  | 75 => ⟨S8192x1x16, .f32⟩
  | 76 => ⟨S8192x16, .f32⟩
  | 77 => ⟨S8192x1x16, .f32⟩
  | 78 => ⟨S8x8192x8x16, .f32⟩
  | 79 => ⟨S8x8192x8x16, .f32⟩
  | 80 => ⟨S1x8192x1x16, .f32⟩
  | 81 => ⟨S8x8192x8x16, .f32⟩
  | 82 => ⟨S8x8192x8x16, .f32⟩
  | 83 => ⟨S1x8192x1x16, .f32⟩
  | 84 => ⟨S8x8192x8x16, .f32⟩
  | 85 => ⟨S8x8192x8x16, .f32⟩
  | 86 => ⟨S8x8192x8x16, .f32⟩
  | 87 => ⟨S1x8192x1x16, .f32⟩
  | 88 => ⟨S8x8192x8x16, .f32⟩
  | 89 => ⟨S8x8192x8x16, .f32⟩
  | 90 => ⟨S1x8192x1x16, .f32⟩
  | 91 => ⟨S8x8192x8x16, .f32⟩
  | 92 => ⟨S8x8192x8x16, .f32⟩
  | 93 => ⟨S8x8192x8x16, .f32⟩
  | 94 => ⟨S8x8192x8x32, .f32⟩
  | 95 => ⟨S8x8192x8x32, .f32⟩
  | 96 => ⟨S8192x16, .f32⟩
  | 97 => ⟨S8192x1x16, .f32⟩
  | 98 => ⟨S8192x16, .f32⟩
  | 99 => ⟨S8192x1x16, .f32⟩
  | 100 => ⟨S8x8192x8x16, .f32⟩
  | 101 => ⟨S8x8192x8x16, .f32⟩
  | 102 => ⟨S1x8192x1x16, .f32⟩
  | 103 => ⟨S8x8192x8x16, .f32⟩
  | 104 => ⟨S8x8192x8x16, .f32⟩
  | 105 => ⟨S1x8192x1x16, .f32⟩
  | 106 => ⟨S8x8192x8x16, .f32⟩
  | 107 => ⟨S8x8192x8x16, .f32⟩
  | 108 => ⟨S8x8192x8x16, .f32⟩
  | 109 => ⟨S1x8192x1x16, .f32⟩
  | 110 => ⟨S8x8192x8x16, .f32⟩
  | 111 => ⟨S8x8192x8x16, .f32⟩
  | 112 => ⟨S1x8192x1x16, .f32⟩
  | 113 => ⟨S8x8192x8x16, .f32⟩
  | 114 => ⟨S8x8192x8x16, .f32⟩
  | 115 => ⟨S8x8192x8x16, .f32⟩
  | 116 => ⟨S8x8192x8x32, .f32⟩
  | 117 => ⟨S8x8192x8x64, .f32⟩
  | 118 => ⟨S_, .f32⟩
  | 119 => ⟨S_, .f32⟩
  | 120 => ⟨S_, .f32⟩
  | 121 => ⟨S_, .f32⟩
  | 122 => ⟨S8x8192x8x64, .f32⟩
  | 123 => ⟨S8x8192x8x64, .f32⟩
  | 124 => ⟨S8x8192x128, .f32⟩
  | 125 => ⟨S8x8192x2x64, .f32⟩
  | 126 => ⟨S8x8192x2x32, .f32⟩
  | 127 => ⟨S8192x16, .f32⟩
  | _ => ⟨S65536x1024, .f32⟩

abbrev hbmTy0_1 (i : Nat) : BufTy := match i % 128 with
  | 0 => ⟨S8192x1x16, .f32⟩
  | 1 => ⟨S8192x16, .f32⟩
  | 2 => ⟨S8192x1x16, .f32⟩
  | 3 => ⟨S8x8192x2x16, .f32⟩
  | 4 => ⟨S8x8192x2x16, .f32⟩
  | 5 => ⟨S1x8192x1x16, .f32⟩
  | 6 => ⟨S8x8192x2x16, .f32⟩
  | 7 => ⟨S8x8192x2x16, .f32⟩
  | 8 => ⟨S1x8192x1x16, .f32⟩
  | 9 => ⟨S8x8192x2x16, .f32⟩
  | 10 => ⟨S8x8192x2x16, .f32⟩
  | 11 => ⟨S8x8192x2x16, .f32⟩
  | 12 => ⟨S1x8192x1x16, .f32⟩
  | 13 => ⟨S8x8192x2x16, .f32⟩
  | 14 => ⟨S8x8192x2x16, .f32⟩
  | 15 => ⟨S1x8192x1x16, .f32⟩
  | 16 => ⟨S8x8192x2x16, .f32⟩
  | 17 => ⟨S8x8192x2x16, .f32⟩
  | 18 => ⟨S8x8192x2x16, .f32⟩
  | 19 => ⟨S8x8192x2x32, .f32⟩
  | 20 => ⟨S8x8192x2x32, .f32⟩
  | 21 => ⟨S8192x16, .f32⟩
  | 22 => ⟨S8192x1x16, .f32⟩
  | 23 => ⟨S8192x16, .f32⟩
  | 24 => ⟨S8192x1x16, .f32⟩
  | 25 => ⟨S8x8192x2x16, .f32⟩
  | 26 => ⟨S8x8192x2x16, .f32⟩
  | 27 => ⟨S1x8192x1x16, .f32⟩
  | 28 => ⟨S8x8192x2x16, .f32⟩
  | 29 => ⟨S8x8192x2x16, .f32⟩
  | 30 => ⟨S1x8192x1x16, .f32⟩
  | 31 => ⟨S8x8192x2x16, .f32⟩
  | 32 => ⟨S8x8192x2x16, .f32⟩
  | 33 => ⟨S8x8192x2x16, .f32⟩
  | 34 => ⟨S1x8192x1x16, .f32⟩
  | 35 => ⟨S8x8192x2x16, .f32⟩
  | 36 => ⟨S8x8192x2x16, .f32⟩
  | 37 => ⟨S1x8192x1x16, .f32⟩
  | 38 => ⟨S8x8192x2x16, .f32⟩
  | 39 => ⟨S8x8192x2x16, .f32⟩
  | 40 => ⟨S8x8192x2x16, .f32⟩
  | 41 => ⟨S8x8192x2x32, .f32⟩
  | 42 => ⟨S8x8192x2x64, .f32⟩
  | 43 => ⟨S8x8192x128, .f32⟩
  | 44 => ⟨S8x8192x2x64, .f32⟩
  | 45 => ⟨S8x8192x4x2x64, .f32⟩
  | 46 => ⟨S_, .f32⟩
  | 47 => ⟨S8x8192x4x64, .f32⟩
  | 48 => ⟨S8x8192x4x1x64, .f32⟩
  | 49 => ⟨S8x8192x4x64, .f32⟩
  | 50 => ⟨S8x8192x4x1x64, .f32⟩
  | 51 => ⟨S8x8192x4x64, .f32⟩
  | 52 => ⟨S8x8192x4x256, .f32⟩
  | 53 => ⟨S8x8192x1024, .f32⟩
  | 54 => ⟨S8x8192x2x128, .f32⟩
  | 55 => ⟨S8x8192x256, .f32⟩
  | 56 => ⟨S8x8192x2x128, .f32⟩
  | 57 => ⟨S8x8192x256, .f32⟩
  | 58 => ⟨S8x8192x512, .f32⟩
  | 59 => ⟨S8x8192x2048, .f32⟩
  | 60 => ⟨S65536x2048, .f32⟩
  | 61 => ⟨S65536x2048, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_9 : Ref sig .tc := ⟨.hbm, 118, rfl⟩
abbrev main_v105 : Ref sig .tc := ⟨.hbm, 119, rfl⟩
abbrev main_cst_10 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_cst_11 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩

abbrev nD : Nat := 1
abbrev τ : Topo := Topo.v7x

variable {F : FTy → Type} [FloatOps F]
-- ==== Kernel4.lean ====
abbrev S2048x1024 : Shape := ⟨2, ![2048, 1024]⟩
abbrev S1x3x1024 : Shape := ⟨3, ![1, 3, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x2816 : Shape := ⟨2, ![256, 2816]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x3x1024, .f32⟩
  | .hbm, ⟨2, _⟩ => ⟨S1x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x3x1024, .f32⟩
  | .local _ .vmem, ⟨3, _⟩ => ⟨S1x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2048x1024 : Shape := ⟨2, ![2048, 1024]⟩
abbrev S1x3x1024 : Shape := ⟨3, ![1, 3, 1024]⟩
abbrev S1x1024 : Shape := ⟨2, ![1, 1024]⟩
abbrev S1024x2816 : Shape := ⟨2, ![1024, 2816]⟩
abbrev S2816x1024 : Shape := ⟨2, ![2816, 1024]⟩
abbrev S1x2048x1024 : Shape := ⟨3, ![1, 2048, 1024]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x2048x2816 : Shape := ⟨3, ![1, 2048, 2816]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x3x1024, .f32⟩
  | .hbm, ⟨2, _⟩ => ⟨S1x1024, .f32⟩
  | .hbm, ⟨3, _⟩ => ⟨S1x1024, .f32⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1x2048x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S_, .f32⟩
  | .hbm, ⟨21, _⟩ => ⟨S1x2048, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048x1, .f32⟩
  | .hbm, ⟨30, _⟩ => ⟨S1x2048x1, .f32⟩
  | .hbm, ⟨31, _⟩ => ⟨S1x2048x1, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S1024x2816, .f32⟩
  | .hbm, ⟨42, _⟩ => ⟨S1x2048x2816, .f32⟩
  | .hbm, ⟨43, _⟩ => ⟨S1x2048x2816, .f32⟩
  | .hbm, ⟨44, _⟩ => ⟨S1x2048x2816, .f32⟩
  | .hbm, ⟨45, _⟩ => ⟨S_, .f32⟩
  | .hbm, ⟨46, _⟩ => ⟨S1x2048x2816, .f32⟩
  | .hbm, ⟨47, _⟩ => ⟨S1x2048x2816, .f32⟩
  | .hbm, ⟨48, _⟩ => ⟨S_, .f32⟩
  | .hbm, ⟨49, _⟩ => ⟨S1x2048x2816, .f32⟩
  | .hbm, ⟨50, _⟩ => ⟨S1x2048x2816, .f32⟩
  | .hbm, ⟨51, _⟩ => ⟨S1x2048x2816, .f32⟩
  | .hbm, ⟨52, _⟩ => ⟨S1024x2816, .f32⟩
  | .hbm, ⟨53, _⟩ => ⟨S1x2048x2816, .f32⟩
  | .hbm, ⟨54, _⟩ => ⟨S1x2048x2816, .f32⟩
  | .hbm, ⟨55, _⟩ => ⟨S2816x1024, .f32⟩
  | .hbm, ⟨56, _⟩ => ⟨S1x2048x1024, .f32⟩
  | .hbm, ⟨57, _⟩ => ⟨S_, .f32⟩
  | .hbm, ⟨58, _⟩ => ⟨S1x2048x1024, .f32⟩
  | .hbm, ⟨59, _⟩ => ⟨S1x2048x1024, .f32⟩
  | .hbm, ⟨60, _⟩ => ⟨S_, .f32⟩
  | .hbm, ⟨61, _⟩ => ⟨S1x1x1024, .f32⟩
  | .hbm, ⟨62, _⟩ => ⟨S1x1x1024, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S_, .f32⟩
  | .hbm, ⟨67, _⟩ => ⟨S1x2048, .f32⟩
  | .hbm, ⟨68, _⟩ => ⟨S1x2048x1, .f32⟩
  | .hbm, ⟨69, _⟩ => ⟨S_, .f32⟩
  | .hbm, ⟨70, _⟩ => ⟨S1x2048x1, .f32⟩
  | .hbm, ⟨71, _⟩ => ⟨S1x2048x1, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S_, .f32⟩
  | .hbm, ⟨76, _⟩ => ⟨S1x2048, .f32⟩
  | .hbm, ⟨77, _⟩ => ⟨S1x2048x1, .f32⟩
  | .hbm, ⟨78, _⟩ => ⟨S_, .f32⟩
  | .hbm, ⟨79, _⟩ => ⟨S1x2048x1, .f32⟩
  | .hbm, ⟨80, _⟩ => ⟨S1x2048x1, .f32⟩
  | .hbm, ⟨81, _⟩ => ⟨S1x2048x1024, .f32⟩
  | .hbm, ⟨82, _⟩ => ⟨S1x2048x1024, .f32⟩
  | .hbm, ⟨83, _⟩ => ⟨S_, .f32⟩
  | .hbm, ⟨84, _⟩ => ⟨S1x2048x1, .f32⟩
  | .hbm, ⟨85, _⟩ => ⟨S1x2048x1, .f32⟩
  | .hbm, ⟨86, _⟩ => ⟨S1x2048x1, .f32⟩
  | .hbm, ⟨87, _⟩ => ⟨S1x2048x1024, .f32⟩
  | .hbm, ⟨88, _⟩ => ⟨S1x2048x1024, .f32⟩
  | .hbm, ⟨89, _⟩ => ⟨S1x1x1024, .f32⟩
  | .hbm, ⟨90, _⟩ => ⟨S1x2048x1024, .f32⟩
  | .hbm, ⟨91, _⟩ => ⟨S1x2048x1024, .f32⟩
  | .hbm, ⟨92, _⟩ => ⟨S1x1x1024, .f32⟩
  | .hbm, ⟨93, _⟩ => ⟨S1x2048x1024, .f32⟩
  | .hbm, ⟨94, _⟩ => ⟨S1x2048x1024, .f32⟩
  | .hbm, ⟨95, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Proof.Mix.Softmax.lean ====
/- The softmax of one query row, in base two over a band of keys and in base e over a whole sequence: the two forms
   are the same extended real. Nothing here names a program. -/
module

public import Idealize.ShloMosaic.PureOps.Ideal
public import Idealize.ShloMosaic.PureOps.Ideal.Laws

@[expose] public section

noncomputable section

namespace Cert.Mix

open Idealize.ShloMosaic

/-- The natural logarithm of two, as an extended real. -/
abbrev ln2 : EReal := ((Real.log 2 : ℝ) : EReal)

theorem log_two_pos : 0 < Real.log 2 := Real.log_pos (by norm_num)

theorem exp_mul_ln2 (x : EReal) : Ideal.exp (x * ln2) = Ideal.exp2 x := by
  induction x with
  | bot => rw [EReal.bot_mul_coe_of_pos log_two_pos]; rfl
  | top => rw [EReal.top_mul_coe_of_pos log_two_pos]; rfl
  | coe r =>
    rw [← EReal.coe_mul, Ideal.exp_coe, Ideal.exp2_coe]
    congr 1
    show _ = (2 : ℝ) ^ r
    rw [Real.rpow_def_of_pos (by norm_num), mul_comm]

theorem sub_mul_ln2 (x y : EReal) : (x - y) * ln2 = x * ln2 - y * ln2 := by
  have hp := log_two_pos
  induction x with
  | bot => rw [EReal.bot_sub, EReal.bot_mul_coe_of_pos hp, EReal.bot_sub]
  | top =>
    induction y with
    | bot => simp [EReal.top_mul_coe_of_pos hp, EReal.bot_mul_coe_of_pos hp]
    | top => simp [EReal.top_mul_coe_of_pos hp, EReal.bot_mul_coe_of_pos hp]
    | coe s => rw [EReal.top_sub_coe, EReal.top_mul_coe_of_pos hp, ← EReal.coe_mul, EReal.top_sub_coe]
  | coe r =>
    induction y with
    | bot => simp [EReal.top_mul_coe_of_pos hp, EReal.bot_mul_coe_of_pos hp]; rw [← EReal.coe_mul, EReal.coe_sub_bot]
    | top => simp [EReal.top_mul_coe_of_pos hp, EReal.bot_mul_coe_of_pos hp]
    | coe s => rw [← EReal.coe_sub, ← EReal.coe_mul, ← EReal.coe_mul, ← EReal.coe_mul, ← EReal.coe_sub, sub_mul]

theorem exp_sub_ln2 (x y : EReal) : Ideal.exp (x * ln2 - y * ln2) = Ideal.exp2 (x - y) := by
  rw [← sub_mul_ln2, exp_mul_ln2]

theorem mul_ln2_mono : Monotone fun x : EReal => x * ln2 :=
  fun _ _ h => mul_le_mul_of_nonneg_right h (EReal.coe_nonneg.mpr log_two_pos.le)

theorem max_mul_ln2 (x y : EReal) : max (x * ln2) (y * ln2) = max x y * ln2 := (mul_ln2_mono.map_max (a := x) (b := y)).symm

theorem sup_mul_ln2 {n : ℕ} (f : Fin n → EReal) :
    (Finset.univ.sup fun k => f k * ln2) = Finset.univ.sup f * ln2 := by
  have h := Finset.comp_sup_eq_sup_comp (s := (Finset.univ : Finset (Fin n))) (f := f) (fun x : EReal => x * ln2)
    (fun x y => mul_ln2_mono.map_sup x y) (by exact EReal.bot_mul_coe_of_pos log_two_pos)
  exact h.symm

theorem mul_log2e_mul_ln2 (s : EReal) : s * (((Real.log 2)⁻¹ : ℝ) : EReal) * ln2 = s := by
  rw [mul_assoc, ← EReal.coe_mul, inv_mul_cancel₀ log_two_pos.ne', EReal.coe_one, mul_one]

/-- A sum whose nonzero terms sit at shifted places of another sum is that sum. -/
theorem sum_shift {M : Type} [AddCommMonoid M] {N P : ℕ} (o b : ℕ) (f : Fin N → M) (g : Fin P → M)
    (hf : ∀ t, f t = 0 ∨ ∃ j : Fin P, t.val + o = b + j.val ∧ f t = g j)
    (hg : ∀ j, g j = 0 ∨ ∃ t : Fin N, t.val + o = b + j.val ∧ f t = g j) : ∑ t, f t = ∑ j, g j := by
  refine Finset.sum_bij_ne_zero (fun t _ ht => ((hf t).resolve_left ht).choose) (fun _ _ _ => Finset.mem_univ _) ?_ ?_ ?_
  · intro t₁ _ h₁ t₂ _ h₂ he
    have e₁ := ((hf t₁).resolve_left h₁).choose_spec.1
    have e₂ := ((hf t₂).resolve_left h₂).choose_spec.1
    rw [he] at e₁
    exact Fin.ext (by omega)
  · intro j _ hj
    obtain ⟨t, ht, e⟩ := (hg j).resolve_left hj
    refine ⟨t, Finset.mem_univ _, by rw [e]; exact hj, ?_⟩
    have h := ((hf t).resolve_left (by rw [e]; exact hj)).choose_spec.1
    exact Fin.ext (by omega)
  · intro t _ ht
    exact ((hf t).resolve_left ht).choose_spec.2

/-- The same of two suprema. -/
theorem sup_shift {N P : ℕ} (f : Fin N → EReal) (g : Fin P → EReal)
    (hf : ∀ t, f t = ⊥ ∨ ∃ j : Fin P, f t = g j) (hg : ∀ j, g j = ⊥ ∨ ∃ t : Fin N, f t = g j) :
    Finset.univ.sup f = Finset.univ.sup g := by
  refine le_antisymm (Finset.sup_le fun t _ => ?_) (Finset.sup_le fun j _ => ?_)
  · rcases hf t with h | ⟨j, h⟩
    · rw [h]; exact bot_le
    · rw [h]; exact Finset.le_sup (f := g) (Finset.mem_univ j)
  · rcases hg j with h | ⟨t, h⟩
    · rw [h]; exact bot_le
    · rw [← h]; exact Finset.le_sup (f := f) (Finset.mem_univ t)

/-- One query's attention over a list of keys, in base two: scores `T`, one coordinate of the values `W`, sink score `s`. -/
def bandRow {P : ℕ} (T W : Fin P → EReal) (s : EReal) : EReal :=
  Ideal.div (∑ k, Ideal.exp2 (T k - max (Finset.univ.sup T) s) * W k)
    ((∑ k, Ideal.exp2 (T k - max (Finset.univ.sup T) s)) + Ideal.exp2 (s - max (Finset.univ.sup T) s))

/-- One query's attention in base e, over a sequence (scores `S`, values `V`) and a context (`Sc`, `Vc`), with sink score `s`. -/
def fullRow {N C : ℕ} (S V : Fin N → EReal) (Sc Vc : Fin C → EReal) (s : EReal) : EReal :=
  Ideal.div
    ((∑ k, Ideal.exp (S k - max (max (Finset.univ.sup S) (Finset.univ.sup Sc)) s) * V k)
      + ∑ k, Ideal.exp (Sc k - max (max (Finset.univ.sup S) (Finset.univ.sup Sc)) s) * Vc k)
    ((∑ k, Ideal.exp (S k - max (max (Finset.univ.sup S) (Finset.univ.sup Sc)) s))
      + (∑ k, Ideal.exp (Sc k - max (max (Finset.univ.sup S) (Finset.univ.sup Sc)) s))
      + Ideal.exp (s - max (max (Finset.univ.sup S) (Finset.univ.sup Sc)) s))

theorem sup_append {P C : ℕ} (T : Fin (P + C) → EReal) :
    Finset.univ.sup T = max (Finset.univ.sup fun k => T (Fin.castAdd C k)) (Finset.univ.sup fun k => T (Fin.natAdd P k)) := by
  refine le_antisymm (Finset.sup_le fun k _ => ?_) (max_le (Finset.sup_le fun k _ => ?_) (Finset.sup_le fun k _ => ?_))
  · refine Fin.addCases (fun i => ?_) (fun i => ?_) k
    · exact le_max_of_le_left (Finset.le_sup (f := fun k => T (Fin.castAdd C k)) (Finset.mem_univ i))
    · exact le_max_of_le_right (Finset.le_sup (f := fun k => T (Fin.natAdd P k)) (Finset.mem_univ i))
  · exact Finset.le_sup (f := T) (Finset.mem_univ _)
  · exact Finset.le_sup (f := T) (Finset.mem_univ _)

/-- The band form of a query's attention is its full form: the band's first `P` keys are the sequence's keys shifted,
    every other key of either list has score −∞, and the band's last `C` keys are the context. -/
theorem bandRow_eq_fullRow {N P C : ℕ} (o b : ℕ) (T W : Fin (P + C) → EReal) (S V : Fin N → EReal) (Sc Vc : Fin C → EReal)
    (s : EReal)
    (hS : ∀ t, S t = ⊥ ∨ ∃ j : Fin P, t.val + o = b + j.val ∧ S t = T (Fin.castAdd C j) * ln2 ∧ V t = W (Fin.castAdd C j))
    (hT : ∀ j : Fin P, T (Fin.castAdd C j) = ⊥ ∨
      ∃ t : Fin N, t.val + o = b + j.val ∧ S t = T (Fin.castAdd C j) * ln2 ∧ V t = W (Fin.castAdd C j))
    (hSc : ∀ k, Sc k = T (Fin.natAdd P k) * ln2) (hVc : ∀ k, Vc k = W (Fin.natAdd P k)) :
    bandRow T W (s * (((Real.log 2)⁻¹ : ℝ) : EReal)) = fullRow S V Sc Vc s := by
  set s' := s * (((Real.log 2)⁻¹ : ℝ) : EReal) with hs'
  have es : s = s' * ln2 := (mul_log2e_mul_ln2 s).symm
  have hb : (⊥ : EReal) * ln2 = ⊥ := EReal.bot_mul_coe_of_pos log_two_pos
  have e1 : Finset.univ.sup S = (Finset.univ.sup fun k => T (Fin.castAdd C k)) * ln2 := by
    rw [← sup_mul_ln2]
    refine sup_shift _ _ (fun t => (hS t).imp_right fun ⟨j, _, h, _⟩ => ⟨j, h⟩)
      (fun j => (hT j).imp (fun h => by rw [h, hb]) fun ⟨t, _, h, _⟩ => ⟨t, h⟩)
  have e2 : Finset.univ.sup Sc = (Finset.univ.sup fun k => T (Fin.natAdd P k)) * ln2 := by
    rw [← sup_mul_ln2]; exact congrArg _ (funext hSc)
  have eM : max (max (Finset.univ.sup S) (Finset.univ.sup Sc)) s = max (Finset.univ.sup T) s' * ln2 := by
    rw [e1, e2, sup_append T]
    conv_lhs => rw [es]
    rw [max_mul_ln2, max_mul_ln2]
  unfold bandRow fullRow
  rw [eM]
  generalize max (Finset.univ.sup T) s' = M
  have hx : ∀ x y : EReal, x = y * ln2 → Ideal.exp (x - M * ln2) = Ideal.exp2 (y - M) := fun x y h => by
    rw [h, exp_sub_ln2]
  have h0 : ∀ x : EReal, x = ⊥ → Ideal.exp (x - M * ln2) = 0 := fun x h => by rw [h, EReal.bot_sub]; rfl
  have h0' : ∀ x : EReal, x = ⊥ → Ideal.exp2 (x - M) = 0 := fun x h => by rw [h, EReal.bot_sub]; rfl
  have eN : (∑ k, Ideal.exp (S k - M * ln2) * V k)
      = ∑ j : Fin P, Ideal.exp2 (T (Fin.castAdd C j) - M) * W (Fin.castAdd C j) := by
    refine sum_shift o b _ _ (fun t => (hS t).imp (fun h => by rw [h0 _ h, zero_mul]) fun ⟨j, hj, h, hv⟩ => ⟨j, hj, ?_⟩)
      (fun j => (hT j).imp (fun h => by rw [h0' _ h, zero_mul]) fun ⟨t, ht, h, hv⟩ => ⟨t, ht, ?_⟩)
    · rw [hx _ _ h, hv]
    · rw [hx _ _ h, hv]
  have eD : (∑ k, Ideal.exp (S k - M * ln2)) = ∑ j : Fin P, Ideal.exp2 (T (Fin.castAdd C j) - M) :=
    sum_shift o b _ _ (fun t => (hS t).imp (fun h => h0 _ h) fun ⟨j, hj, h, _⟩ => ⟨j, hj, hx _ _ h⟩)
      (fun j => (hT j).imp (fun h => h0' _ h) fun ⟨t, ht, h, _⟩ => ⟨t, ht, hx _ _ h⟩)
  have eNc : (∑ k, Ideal.exp (Sc k - M * ln2) * Vc k)
      = ∑ k : Fin C, Ideal.exp2 (T (Fin.natAdd P k) - M) * W (Fin.natAdd P k) :=
    Finset.sum_congr rfl fun k _ => by rw [hx _ _ (hSc k), hVc]
  have eDc : (∑ k, Ideal.exp (Sc k - M * ln2)) = ∑ k : Fin C, Ideal.exp2 (T (Fin.natAdd P k) - M) :=
    Finset.sum_congr rfl fun k _ => hx _ _ (hSc k)
  rw [eN, eD, eNc, eDc, hx s s' es, Fin.sum_univ_add, Fin.sum_univ_add]

end Cert.Mix

end
-- ==== Proof.Mix.Attn.lean ====
/- The attention of one block of queries, as the kernel's stores compute it, read at an index. -/
module

public import proofs.«01_k».proof.Proof.Gen.KernelIdeal.Skeleton
public import proofs.«01_k».proof.Proof.Mix.Softmax
public import Idealize.ShloMosaic.Lib.Pointwise

@[expose] public section

set_option maxRecDepth 16384

noncomputable section

namespace Cert.Mix

open Cert.KernelIdeal Cert.KernelIdeal.Gen Idealize.ShloMosaic
variable [Facts]
open Facts

/-- A block's band of keys or values: the sequence's rows from `o`, then the context's. -/
def bandV (kp : Vec Ideal S128x128 .bf16) (kc : Vec Ideal S1024x128 .bf16) (kn : Vec Ideal S128x128 .bf16)
    (kx : Vec Ideal S256x128 .bf16) (o : ℕ) (ho : S1280x128.Slices ![o, 0] S384x128) : FVec Ideal S640x128 .bf16 :=
  concatenate S640x128 0 [⟨S384x128, extractStridedSlice S384x128 ![o, 0] (concatenate S1280x128 0 [⟨S128x128, kp⟩, ⟨S1024x128, kc⟩, ⟨S128x128, kn⟩] concatenates_S128x128_S1024x128_S128x128_S1280x128_d0) ho⟩, ⟨S256x128, kx⟩] concatenates_S384x128_S256x128_S640x128_d0

/-- The scores of one block of four heads' queries against its band of keys and the context's. -/
def scores (q0 q1 q2 q3 : Vec Ideal S128x128 .bf16) (kp : Vec Ideal S128x128 .bf16) (kc : Vec Ideal S1024x128 .bf16)
    (kn : Vec Ideal S128x128 .bf16) (kx : Vec Ideal S256x128 .bf16) (o : ℕ) (ho : S1280x128.Slices ![o, 0] S384x128) :
    FVec Ideal S512x640 .f32 :=
  matmul dot_S512x128_S640x128_S512x640_1_1_0_0_n_n none
    (concatenate S512x128 0 [⟨S128x128, q0⟩, ⟨S128x128, q1⟩, ⟨S128x128, q2⟩, ⟨S128x128, q3⟩] concatenates_S128x128_S128x128_S128x128_S128x128_S512x128_d0 : FVec Ideal S512x128 .bf16)
    (bandV kp kc kn kx o ho)
    (constant S512x640 .f32 0x00000000#32)

/-- The sink scores of four heads, one per row of the stacked queries. -/
def sinks (s0 s1 s2 s3 : EReal) : FVec Ideal S512x1 .f32 :=
  concatenate S512x1 0 [⟨S128x1, broadcast S128x1 (Scalar.mulf (F := Ideal) (φ := .f32) s0 (Named.named κ "log2e" (φ := .f32) 0x3FB8AA3B#32))⟩,
    ⟨S128x1, broadcast S128x1 (Scalar.mulf (F := Ideal) (φ := .f32) s1 (Named.named κ "log2e" (φ := .f32) 0x3FB8AA3B#32))⟩,
    ⟨S128x1, broadcast S128x1 (Scalar.mulf (F := Ideal) (φ := .f32) s2 (Named.named κ "log2e" (φ := .f32) 0x3FB8AA3B#32))⟩,
    ⟨S128x1, broadcast S128x1 (Scalar.mulf (F := Ideal) (φ := .f32) s3 (Named.named κ "log2e" (φ := .f32) 0x3FB8AA3B#32))⟩]
    concatenates_S128x1_S128x1_S128x1_S128x1_S512x1_d0

/-- The scores with the band's two outer blocks masked. -/
def masked (sc : FVec Ideal S512x640 .f32) (bp bn : FVec Ideal S512x128 .f32) : FVec Ideal S512x640 .f32 :=
  concatenate S512x640 1 [⟨S512x128, addf (extractStridedSlice S512x128 ![0, 0] sc slices_S512x640_o0_0_S512x128) bp⟩,
    ⟨S512x128, extractStridedSlice S512x128 ![0, 128] sc slices_S512x640_o0_128_S512x128⟩,
    ⟨S512x128, addf (extractStridedSlice S512x128 ![0, 256] sc slices_S512x640_o0_256_S512x128) bn⟩,
    ⟨S512x256, extractStridedSlice S512x256 ![0, 384] sc slices_S512x640_o0_384_S512x256⟩]
    concatenates_S512x128_S512x128_S512x128_S512x256_S512x640_d1

/-- The attention of one block of four heads' queries, from masked scores, values and sink scores. -/
def attend (sc : FVec Ideal S512x640 .f32) (vcat : FVec Ideal S640x128 .bf16) (sink : FVec Ideal S512x1 .f32) : FVec Ideal S512x128 .f32 :=
  have m : FVec Ideal S512x1 .f32 := maximumf (shapeCast S512x1 (multiReduction .maximumf [1] S512 sc 0xFF800000#32 reduces_S512x640_S512 (.inl rfl) rfl : FVec Ideal S512 .f32) shapeCasts_S512_S512x1) sink
  have e : FVec Ideal S512x640 .bf16 := truncf .bf16 (exp2 (subf sc (broadcastTo S512x640 m broadcasts_S512x1_S512x640))) bitsLt_bf16_f32
  have o2 : FVec Ideal S512x256 .f32 := matmul dot_S512x640_S640x256_S512x256_1_0_0_1_n_n none e
    (concatenate S640x256 1 [⟨S640x128, vcat⟩, ⟨S640x128, broadcast S640x128 (Scalar.ofBits .bf16 0x3F80#16)⟩] concatenates_S640x128_S640x128_S640x256_d1 : FVec Ideal S640x256 .bf16)
    (constant S512x256 .f32 0x00000000#32)
  divf (extractStridedSlice S512x128 ![0, 0] o2 slices_S512x256_o0_0_S512x128)
    (addf (extractStridedSlice S512x128 ![0, 128] o2 slices_S512x256_o0_128_S512x128)
      (broadcastTo S512x128 (exp2 (subf sink m)) broadcasts_S512x1_S512x128))

/-- One store of the attention: the even head's block in the low lanes, the odd head's in the high ones. -/
def pairOut (o : FVec Ideal S512x128 .f32) (a b : ℕ) (ha : S512x128.Slices ![a, 0] S128x128) (hb : S512x128.Slices ![b, 0] S128x128) :
    FVec Ideal S128x128 .bf16 :=
  shapeCast S128x128 (truncf .bf16 (select (cmpi .slt (iota .tc S128x128 32 [1] iota_S128x128_d1_w32) (broadcast S128x128 64#32))
    (extractStridedSlice S128x128 ![a, 0] o ha) (extractStridedSlice S128x128 ![b, 0] o hb)) bitsLt_bf16_f32 : FVec Ideal S128x128 .bf16)
    shapeCasts_S128x128_S128x128

/-- The attention's stored block, from the loads it is computed from. -/
def attnPair (q0 q1 q2 q3 kp : Vec Ideal S128x128 .bf16) (kc : Vec Ideal S1024x128 .bf16) (kn : Vec Ideal S128x128 .bf16)
    (kx : Vec Ideal S256x128 .bf16) (vp : Vec Ideal S128x128 .bf16) (vc : Vec Ideal S1024x128 .bf16) (vn : Vec Ideal S128x128 .bf16)
    (vx : Vec Ideal S256x128 .bf16) (bp bn : FVec Ideal S512x128 .f32) (s0 s1 s2 s3 : EReal)
    (o : ℕ) (ho : S1280x128.Slices ![o, 0] S384x128) (a b : ℕ) (ha : S512x128.Slices ![a, 0] S128x128)
    (hb : S512x128.Slices ![b, 0] S128x128) : FVec Ideal S128x128 .bf16 :=
  pairOut (attend (masked (scores q0 q1 q2 q3 kp kc kn kx o ho) bp bn) (bandV vp vc vn vx o ho) (sinks s0 s1 s2 s3)) a b ha hb

theorem ofBits_neg_inf : Ideal.ofBits .f32 0xFF800000#32 = ⊥ := by
  simp [Ideal.ofBits, Ideal.ieee]

theorem attend_apply (sc : FVec Ideal S512x640 .f32) (vcat : FVec Ideal S640x128 .bf16) (sink : FVec Ideal S512x1 .f32)
    (r : Fin 512) (l : Fin 128) :
    attend sc vcat sink (ix2 r l) = bandRow (fun k : Fin 640 => sc (ix2 r k)) (fun k => vcat (ix2 k l)) (sink (ix2 r 0)) := by
  unfold bandRow
  pointwise [attend]
  rw [ofBits_neg_inf]
  rfl

/-- A masking block's entry, zero off the two masked blocks. -/
def biasAt (BP BN : ℕ → ℕ → EReal) (R k : ℕ) : EReal :=
  if k < 128 then BP R k else if k < 256 then 0 else if k < 384 then BN R (k - 256) else 0

theorem masked_apply (sc : FVec Ideal S512x640 .f32) (bp bn : FVec Ideal S512x128 .f32) (BP BN : ℕ → ℕ → EReal)
    (hp : ∀ i j, bp (ix2 i j) = BP i.val j.val) (hn : ∀ i j, bn (ix2 i j) = BN i.val j.val) (r : Fin 512) (k : Fin 640) :
    masked sc bp bn (ix2 r k) = sc (ix2 r k) + biasAt BP BN r.val k.val := by
  have hk := k.isLt
  have e (n : ℕ) (h : n < 640) (hn : n = k.val) : sc (ix2 r ⟨n, h⟩) = sc (ix2 r k) := by
    subst hn; rfl
  pointwise [masked]
  simp only [hp, hn]
  split
  next h =>
    have hb : biasAt BP BN r.val k.val = BP r.val k.val := if_pos h
    rw [hb]
  next h =>
    split
    next h' =>
      have hb : biasAt BP BN r.val k.val = 0 := by
        unfold biasAt; rw [if_neg h, if_pos (show k.val < 256 by omega)]
      exact (e _ _ (by omega)).trans (by rw [hb, add_zero])
    next h' =>
      split
      next h'' =>
        have hb : biasAt BP BN r.val k.val = BN r.val (k.val - 128 - 128) := by
          unfold biasAt
          rw [if_neg h, if_neg (show ¬ k.val < 256 by omega), if_pos (show k.val < 384 by omega), Nat.sub_sub]
        exact congrArg₂ (· + ·) (e _ _ (by omega)) hb.symm
      next h'' =>
        have hb : biasAt BP BN r.val k.val = 0 := by
          unfold biasAt
          rw [if_neg h, if_neg (show ¬ k.val < 256 by omega), if_neg (show ¬ k.val < 384 by omega)]
        exact (e _ _ (by omega)).trans (by rw [hb, add_zero])

theorem sinks_apply (s0 s1 s2 s3 : EReal) (Sk : ℕ → EReal) (h0 : s0 = Sk 0) (h1 : s1 = Sk 1) (h2 : s2 = Sk 2) (h3 : s3 = Sk 3)
    (r : Fin 512) : sinks s0 s1 s2 s3 (ix2 r 0) = Sk (r.val / 128) * (((Real.log 2)⁻¹ : ℝ) : EReal) := by
  pointwise [sinks]
  have hr := r.isLt
  have hc : (Named.named κ "log2e" (0x3FB8AA3B#32 : BitVec (FTy.f32).bits) : Ideal .f32) = (((Real.log 2)⁻¹ : ℝ) : EReal) := rfl
  rw [hc, h0, h1, h2, h3]
  split
  · rw [show r.val / 128 = 0 by omega]
  · split
    · rw [show r.val / 128 = 1 by omega]
    · split
      · rw [show r.val / 128 = 2 by omega]
      · rw [show r.val / 128 = 3 by omega]

/-- A band's entry, from the sequence's rows and the context's. -/
def bandAt (K KX : ℕ → ℕ → EReal) (o k l : ℕ) : EReal := if k < 384 then K (o + k) l else KX (k - 384) l

theorem bandV_apply (kp : Vec Ideal S128x128 .bf16) (kc : Vec Ideal S1024x128 .bf16) (kn : Vec Ideal S128x128 .bf16)
    (kx : Vec Ideal S256x128 .bf16) (o : ℕ) (ho : S1280x128.Slices ![o, 0] S384x128) (K KX : ℕ → ℕ → EReal)
    (hp : ∀ i j, kp (ix2 i j) = K i.val j.val) (hc : ∀ i j, kc (ix2 i j) = K (128 + i.val) j.val)
    (hn : ∀ i j, kn (ix2 i j) = K (1152 + i.val) j.val) (hx : ∀ i j, kx (ix2 i j) = KX i.val j.val) (k : Fin 640) (l : Fin 128) :
    bandV kp kc kn kx o ho (ix2 k l) = bandAt K KX o k.val l.val := by
  pointwise [bandV]
  unfold bandAt
  simp only [hp, hc, hn, hx]
  split
  · split
    · rfl
    · split
      · rw [show 128 + (o + k.val - 128) = o + k.val by omega]
      · rw [show 1152 + (o + k.val - 128 - 1024) = o + k.val by omega]
  · rfl

/-- Stacked queries' row. -/
theorem stacked_apply (q0 q1 q2 q3 : Vec Ideal S128x128 .bf16) (Q : ℕ → ℕ → EReal)
    (h0 : ∀ i j, q0 (ix2 i j) = Q i.val j.val) (h1 : ∀ i j, q1 (ix2 i j) = Q i.val (128 + j.val))
    (h2 : ∀ i j, q2 (ix2 i j) = Q i.val (256 + j.val)) (h3 : ∀ i j, q3 (ix2 i j) = Q i.val (384 + j.val)) (r : Fin 512) (l : Fin 128) :
    (concatenate S512x128 0 [⟨S128x128, q0⟩, ⟨S128x128, q1⟩, ⟨S128x128, q2⟩, ⟨S128x128, q3⟩] concatenates_S128x128_S128x128_S128x128_S128x128_S512x128_d0 : FVec Ideal S512x128 .bf16) (ix2 r l)
      = Q (r.val % 128) (128 * (r.val / 128) + l.val) := by
  pointwise
  have hr := r.isLt
  simp only [h0, h1, h2, h3]
  split
  · rw [show r.val / 128 = 0 by omega, show r.val % 128 = r.val by omega]; congr 1; omega
  · split
    · rw [show r.val / 128 = 1 by omega, show r.val % 128 = r.val - 128 by omega]
    · split
      · rw [show r.val / 128 = 2 by omega, show r.val % 128 = r.val - 128 - 128 by omega]
      · rw [show r.val / 128 = 3 by omega, show r.val % 128 = r.val - 128 - 128 - 128 by omega]

theorem scores_apply (q0 q1 q2 q3 : Vec Ideal S128x128 .bf16) (kp : Vec Ideal S128x128 .bf16) (kc : Vec Ideal S1024x128 .bf16)
    (kn : Vec Ideal S128x128 .bf16) (kx : Vec Ideal S256x128 .bf16) (o : ℕ) (ho : S1280x128.Slices ![o, 0] S384x128) (r : Fin 512) (k : Fin 640) :
    scores q0 q1 q2 q3 kp kc kn kx o ho (ix2 r k)
      = ∑ l : Fin 128, (concatenate S512x128 0 [⟨S128x128, q0⟩, ⟨S128x128, q1⟩, ⟨S128x128, q2⟩, ⟨S128x128, q3⟩] concatenates_S128x128_S128x128_S128x128_S128x128_S512x128_d0 : FVec Ideal S512x128 .bf16) (ix2 r l)
        * bandV kp kc kn kx o ho (ix2 k l) := by
  unfold scores
  generalize (concatenate S512x128 0 _ _ : FVec Ideal S512x128 .bf16) = Q
  generalize bandV kp kc kn kx o ho = K
  pointwise

theorem pairOut_apply (o : FVec Ideal S512x128 .f32) (a b : ℕ) (ha hb) (r l : Fin 128) (R : Fin 512)
    (hR : R.val = (if l.val < 64 then a else b) + r.val) : pairOut o a b ha hb (ix2 r l) = o (ix2 R l) := by
  pointwise [pairOut]
  have hl := l.isLt
  have hc : IntOp.cmpi .slt (BitVec.ofNat 32 l.val) 64#32 = if l.val < 64 then 1#1 else 0#1 := by
    have := (by decide : ∀ l : Fin 128, IntOp.cmpi .slt (BitVec.ofNat 32 l.val) 64#32 = if l.val < 64 then 1#1 else 0#1)
    exact this l
  rw [hc]
  by_cases h : l.val < 64
  · rw [if_pos h] at hR ⊢
    exact congrArg (fun j => o (ix2 j l)) (Fin.ext hR.symm)
  · rw [if_neg h] at hR ⊢
    exact congrArg (fun j => o (ix2 j l)) (Fin.ext hR.symm)

/-- A stored block of the attention at an index: one query's attention over its band, in base two. -/
theorem attnPair_apply {q0 q1 q2 q3 kp : Vec Ideal S128x128 .bf16} {kc : Vec Ideal S1024x128 .bf16} {kn : Vec Ideal S128x128 .bf16}
    {kx : Vec Ideal S256x128 .bf16} {vp : Vec Ideal S128x128 .bf16} {vc : Vec Ideal S1024x128 .bf16} {vn : Vec Ideal S128x128 .bf16}
    {vx : Vec Ideal S256x128 .bf16} {bp bn : FVec Ideal S512x128 .f32} {s0 s1 s2 s3 : EReal}
    {o : ℕ} {ho : S1280x128.Slices ![o, 0] S384x128} {a b : ℕ} {ha : S512x128.Slices ![a, 0] S128x128}
    {hb : S512x128.Slices ![b, 0] S128x128} (Q K KX V VX BP BN : ℕ → ℕ → EReal) (Sk : ℕ → EReal)
    (hq0 : ∀ i j, q0 (ix2 i j) = Q i.val j.val) (hq1 : ∀ i j, q1 (ix2 i j) = Q i.val (128 + j.val))
    (hq2 : ∀ i j, q2 (ix2 i j) = Q i.val (256 + j.val)) (hq3 : ∀ i j, q3 (ix2 i j) = Q i.val (384 + j.val))
    (hkp : ∀ i j, kp (ix2 i j) = K i.val j.val) (hkc : ∀ i j, kc (ix2 i j) = K (128 + i.val) j.val)
    (hkn : ∀ i j, kn (ix2 i j) = K (1152 + i.val) j.val) (hkx : ∀ i j, kx (ix2 i j) = KX i.val j.val)
    (hvp : ∀ i j, vp (ix2 i j) = V i.val j.val) (hvc : ∀ i j, vc (ix2 i j) = V (128 + i.val) j.val)
    (hvn : ∀ i j, vn (ix2 i j) = V (1152 + i.val) j.val) (hvx : ∀ i j, vx (ix2 i j) = VX i.val j.val)
    (hbp : ∀ i j, bp (ix2 i j) = BP i.val j.val) (hbn : ∀ i j, bn (ix2 i j) = BN i.val j.val)
    (hs0 : s0 = Sk 0) (hs1 : s1 = Sk 1) (hs2 : s2 = Sk 2) (hs3 : s3 = Sk 3)
    (r l : Fin 128) (g : ℕ) (hg : g < 4) (hab : (if l.val < 64 then a else b) = 128 * g) :
    attnPair q0 q1 q2 q3 kp kc kn kx vp vc vn vx bp bn s0 s1 s2 s3 o ho a b ha hb (ix2 r l)
      = bandRow (fun k : Fin (384 + 256) => (∑ l' : Fin 128, Q r.val (128 * g + l'.val) * bandAt K KX o k.val l'.val)
          + biasAt BP BN (128 * g + r.val) k.val)
        (fun k => bandAt V VX o k.val l.val) (Sk g * (((Real.log 2)⁻¹ : ℝ) : EReal)) := by
  have hr := r.isLt
  unfold attnPair
  rw [pairOut_apply _ a b ha hb r l ⟨128 * g + r.val, by omega⟩ (by rw [hab]), attend_apply,
    sinks_apply s0 s1 s2 s3 Sk hs0 hs1 hs2 hs3]
  have e1 : (128 * g + r.val) / 128 = g := by omega
  have e2 : (128 * g + r.val) % 128 = r.val := by omega
  simp only [masked_apply _ bp bn BP BN hbp hbn, scores_apply, stacked_apply q0 q1 q2 q3 Q hq0 hq1 hq2 hq3,
    bandV_apply kp kc kn kx o ho K KX hkp hkc hkn hkx, bandV_apply vp vc vn vx o ho V VX hvp hvc hvn hvx, e1, e2]

end Cert.Mix

end
-- ==== Proof.Mix.Spec.lean ====
/- What the kernel and the reference both compute, over contents read at natural-number rows and columns. -/
module

public import proofs.«01_k».proof.Proof.Mix.Softmax
public import Idealize.ShloMosaic.Lib.Pointwise

@[expose] public section

noncomputable section

namespace Cert.Mix

open Idealize.ShloMosaic

/-- A matrix's entry at a row and a column, zero off its range. -/
def at2 {n m : ℕ} (v : Shape.Idx ⟨2, ![n, m]⟩ → EReal) (r c : ℕ) : EReal :=
  if h : r < n ∧ c < m then v (ix2 ⟨r, h.1⟩ ⟨c, h.2⟩) else 0

theorem at2_ix2 {n m : ℕ} (v : Shape.Idx ⟨2, ![n, m]⟩ → EReal) (i : Fin n) (j : Fin m) : v (ix2 i j) = at2 v i.val j.val := by
  rw [at2, dif_pos ⟨i.isLt, j.isLt⟩]

theorem at2_of {n m : ℕ} (v : Shape.Idx ⟨2, ![n, m]⟩ → EReal) {r c : ℕ} (hr : r < n) (hc : c < m) :
    at2 v r c = v (ix2 ⟨r, hr⟩ ⟨c, hc⟩) := by
  rw [at2, dif_pos ⟨hr, hc⟩]

/-- A stack of matrices' entry, zero off its range. -/
def at3 {l n m : ℕ} (v : Shape.Idx ⟨3, ![l, n, m]⟩ → EReal) (g r c : ℕ) : EReal :=
  if h : g < l ∧ r < n ∧ c < m then v (ix3 ⟨g, h.1⟩ ⟨r, h.2.1⟩ ⟨c, h.2.2⟩) else 0

theorem at3_ix3 {l n m : ℕ} (v : Shape.Idx ⟨3, ![l, n, m]⟩ → EReal) (g : Fin l) (i : Fin n) (j : Fin m) :
    v (ix3 g i j) = at3 v g.val i.val j.val := by
  rw [at3, dif_pos ⟨g.isLt, i.isLt, j.isLt⟩]

/-- A vector's entry, zero off its range. -/
def at1 {n : ℕ} (v : Shape.Idx ⟨1, ![n]⟩ → EReal) (r : ℕ) : EReal := if h : r < n then v (ix1 ⟨r, h⟩) else 0

theorem at1_ix1 {n : ℕ} (v : Shape.Idx ⟨1, ![n]⟩ → EReal) (i : Fin n) : v (ix1 i) = at1 v i.val := by
  rw [at1, dif_pos i.isLt]

/-- How many positions of a sequence lie in position `T`'s window of half width `w`, as the programs count them. -/
def winCnt (T w : ℕ) : EReal :=
  FloatOps.sitofp (F := Ideal) FTy.f32 (IntOp.subi (IntOp.minsi (IntOp.addi (BitVec.ofNat 32 T) (BitVec.ofNat 32 w)) 8192#32)
    (IntOp.maxsi (IntOp.subi (BitVec.ofNat 32 T) (BitVec.ofNat 32 w)) 0#32))

/-- The sum over position `T`'s window in sequence `b`. -/
def winAt (U : ℕ → ℕ → EReal) (b T w c : ℕ) : EReal :=
  ∑ t : Fin 8192, if T ≤ t.val + w ∧ t.val < T + w then U (8192 * b + t.val) c else 0

/-- Position `T` of sequence `b`, pooled, in group `g`, lane `d`. -/
def poolAt (U : ℕ → ℕ → EReal) (wp : ℕ → ℕ → ℕ → EReal) (ps : ℕ → EReal) (b T g d : ℕ) : EReal :=
  (∑ x : Fin 128, (Ideal.div (winAt U b T (2 ^ g) (1024 + (128 * g + x.val))) (winCnt T (2 ^ g))
    - U (8192 * b + T) (1024 + (128 * g + x.val))) * wp g x.val d) * ps (128 * g + d)

/-- The score of query head `hd` at position `T` for the key in the given row of `U'`. -/
def scoreAt (U U' : ℕ → ℕ → EReal) (R R' hd : ℕ) : EReal :=
  (∑ l : Fin 128, U R (128 * hd + l.val) * U' R' (1536 + (128 * (hd / 4) + l.val))) * ln2

/-- Head `hd`'s attention at position `T` of sequence `b`, lane `l`. -/
def headAt (U UC : ℕ → ℕ → EReal) (Sk : ℕ → EReal) (b T hd l : ℕ) : EReal :=
  fullRow (fun t : Fin 8192 => if T ≤ t.val + 128 ∧ t.val ≤ T + 128 then scoreAt U U (8192 * b + T) (8192 * b + t.val) hd else ⊥)
    (fun t => U (8192 * b + t.val) (1792 + (128 * (hd / 4) + l)))
    (fun k : Fin 256 => scoreAt U UC (8192 * b + T) (256 * b + k.val) hd)
    (fun k => UC (256 * b + k.val) (1792 + (128 * (hd / 4) + l))) (Sk hd)

/-- The head whose lane goes to an attention column. -/
def headOf (c : ℕ) : ℕ := 2 * (c / 128) + if c % 128 < 64 then 0 else 1

/-- Pooled columns, then attended ones. -/
def catAt (U UC : ℕ → ℕ → EReal) (Sk : ℕ → EReal) (wp : ℕ → ℕ → ℕ → EReal) (ps : ℕ → EReal) (b T c : ℕ) : EReal :=
  if c < 512 then poolAt U wp ps b T (c / 128) (c % 128) else headAt U UC Sk b T (headOf (c - 512)) ((c - 512) % 128)

/-- The residual before the normalisation. -/
def resid (xr md : ℕ → EReal) (cat : ℕ → EReal) (wo : ℕ → ℕ → EReal) (c : ℕ) : EReal :=
  Ideal.ofBits .f32 1068827891#32 * xr c + md c * ∑ k : Fin 1024, cat k.val * wo k.val c

/-- A row's mean. -/
def mean (z : ℕ → EReal) : EReal := Ideal.div (∑ c : Fin 1024, z c.val) (Ideal.ofBits .f32 1149239296#32)

/-- A row, normalised. -/
def normAt (z g b : ℕ → EReal) (c : ℕ) : EReal :=
  (z c - mean z) * Ideal.rsqrt (mean (fun k => (z k - mean z) * (z k - mean z)) + Ideal.ofBits .f32 925353388#32) * g c + b c

end Cert.Mix

end
-- ==== Proof.Mix.Pool.lean ====
/- The pooling of one block of rows, as the kernel's stores compute it, read at an index. -/
module

public import proofs.«01_k».proof.Proof.Gen.KernelIdeal.Skeleton
public import Idealize.ShloMosaic.Lib.Pointwise
public import proofs.«01_k».proof.Proof.Mix.Spec

@[expose] public section

set_option maxRecDepth 16384

noncomputable section

namespace Cert.Mix

open Cert.KernelIdeal Cert.KernelIdeal.Gen Idealize.ShloMosaic

variable [Facts]
open Facts

/-- The rows a block's windows reach: the halo before (zero on a sequence's first tile), the tile, the halo after. -/
def pext (first last : BitVec 1) (pp : Vec Ideal S16x512 .bf16) (pc : Vec Ideal S1024x512 .bf16) (pn : Vec Ideal S16x512 .bf16) :
    FVec Ideal S1056x512 .bf16 :=
  concatenate S1056x512 0 [⟨S16x512, Scalar.select first (broadcast S16x512 (Scalar.ofBits .bf16 0x0000#16 : Ideal .bf16) : FVec Ideal S16x512 .bf16) pp⟩, ⟨S1024x512, pc⟩,
    ⟨S16x512, Scalar.select last (broadcast S16x512 (Scalar.ofBits .bf16 0x0000#16 : Ideal .bf16) : FVec Ideal S16x512 .bf16) pn⟩] concatenates_S16x512_S1024x512_S16x512_S1056x512_d0

/-- The window sums of one block and group: the group's band of ones times the block's rows. -/
def winSum (px : FVec Ideal S1056x512 .bf16) (band : Vec Ideal S1x128x160 .bf16) (a b : ℕ) (h : S1056x512.Slices ![a, b] S160x128) :
    FVec Ideal S128x128 .f32 :=
  matmul dot_S128x160_S160x128_S128x128_1_0_0_1_n_n none (shapeCast S128x160 band shapeCasts_S1x128x160_S128x160 : FVec Ideal S128x160 .bf16)
    (extractStridedSlice S160x128 ![a, b] px h) (constant S128x128 .f32 0x00000000#32)

/-- The positions of one block's rows in their sequence. -/
def pos (tile o : BitVec 32) : IVec S128x128 32 :=
  addi (broadcast S128x128 (Scalar.addi (Scalar.muli tile 1024#32) o)) (iota .tc S128x128 32 [0] iota_S128x128_d0_w32)

/-- How many positions of the sequence each row's window holds. -/
def cnt (tile o w : BitVec 32) : IVec S128x128 32 :=
  subi (minsi (addi (pos tile o) (broadcast S128x128 w)) (broadcast S128x128 8192#32))
    (maxsi (subi (pos tile o) (broadcast S128x128 w)) (broadcast S128x128 0#32))

/-- The pooling's stored block, from the loads it is computed from. -/
def poolBlk (tile o w : BitVec 32) (px : FVec Ideal S1056x512 .bf16) (band : Vec Ideal S1x128x160 .bf16) (a b : ℕ)
    (h : S1056x512.Slices ![a, b] S160x128) (pc : Vec Ideal S128x128 .bf16) (wp : Vec Ideal S1x128x128 .bf16) (ps : Vec Ideal S1x128 .f32) :
    FVec Ideal S128x128 .bf16 :=
  shapeCast S128x128 (truncf .bf16 (mulf (matmul dot_S128x128_S128x128_S128x128_1_0_0_1_n_n none
      (truncf .bf16 (subf (divf (winSum px band a b h) (sitofp .f32 (cnt tile o w))) (extf .f32 pc bitsLt_bf16_f32)) bitsLt_bf16_f32)
      (shapeCast S128x128 wp shapeCasts_S1x128x128_S128x128 : FVec Ideal S128x128 .bf16) (constant S128x128 .f32 0x00000000#32))
    (broadcastTo S128x128 ps broadcasts_S1x128_S128x128)) bitsLt_bf16_f32) shapeCasts_S128x128_S128x128

theorem pext_apply (first last : BitVec 1) (pp : Vec Ideal S16x512 .bf16) (pc : Vec Ideal S1024x512 .bf16) (pn : Vec Ideal S16x512 .bf16)
    (U : ℕ → ℕ → EReal) (b n : ℕ) (hn : n < 8) (hf : first = if n = 0 then 1#1 else 0#1) (hl : last = if n = 7 then 1#1 else 0#1)
    (hpp : n ≠ 0 → ∀ r d, pp (ix2 r d) = U (8192 * b + (1024 * n + r.val - 16)) (1024 + d.val))
    (hpc : ∀ r d, pc (ix2 r d) = U (8192 * b + (1024 * n + r.val)) (1024 + d.val))
    (hpn : n ≠ 7 → ∀ r d, pn (ix2 r d) = U (8192 * b + (1024 * n + 1024 + r.val)) (1024 + d.val))
    (r : Fin 1056) (d : Fin 512) : pext first last pp pc pn (ix2 r d)
      = if 16 ≤ 1024 * n + r.val ∧ 1024 * n + r.val < 8208 then U (8192 * b + (1024 * n + r.val - 16)) (1024 + d.val) else 0 := by
  have hr := r.isLt
  have key : (if h : r.val < 16 then Scalar.select first (0 : EReal) (pp (ix2 ⟨r.val, h⟩ d))
      else if h : r.val - 16 < 1024 then pc (ix2 ⟨r.val - 16, h⟩ d)
        else Scalar.select last (0 : EReal) (pn (ix2 ⟨r.val - 16 - 1024, by omega⟩ d)))
      = if 16 ≤ 1024 * n + r.val ∧ 1024 * n + r.val < 8208 then U (8192 * b + (1024 * n + r.val - 16)) (1024 + d.val) else 0 := by
    by_cases h₁ : r.val < 16
    · rw [dif_pos h₁, hf]
      by_cases h0 : n = 0
      · rw [if_pos h0, if_neg (by omega)]; rfl
      · rw [if_neg h0, if_pos (by omega)]; exact hpp h0 _ _
    · rw [dif_neg h₁]
      by_cases h₂ : r.val - 16 < 1024
      · rw [dif_pos h₂, hpc, if_pos (by omega), show 1024 * n + (r.val - 16) = 1024 * n + r.val - 16 by omega]
      · rw [dif_neg h₂, hl]
        by_cases h7 : n = 7
        · rw [if_pos h7, if_neg (by omega)]; rfl
        · rw [if_neg h7, if_pos (by omega)]
          refine (hpn h7 _ _).trans ?_
          rw [show 1024 * n + 1024 + (r.val - 16 - 1024) = 1024 * n + r.val - 16 by omega]
  refine Eq.trans ?_ key
  pointwise [pext]

theorem word_pos (n s r : ℕ) : IntOp.addi (Scalar.addi (Scalar.muli (BitVec.ofNat 32 n) 1024#32) (BitVec.ofNat 32 (128 * s))) (BitVec.ofNat 32 r)
    = BitVec.ofNat 32 (1024 * n + 128 * s + r) := by
  show BitVec.ofNat 32 n * 1024#32 + BitVec.ofNat 32 (128 * s) + BitVec.ofNat 32 r = _
  have h : BitVec.ofNat 32 (1024 * n) = BitVec.ofNat 32 n * 1024#32 := by rw [BitVec.ofNat_mul, BitVec.mul_comm]
  rw [BitVec.ofNat_add, BitVec.ofNat_add, h]

/-- A block's pooled entry is its row's, pooled over the whole sequence. -/
theorem poolBlk_apply (U : ℕ → ℕ → EReal) (wpA : ℕ → ℕ → ℕ → EReal) (psA : ℕ → EReal) (b n s g : ℕ) (hn : n < 8) (hs : s < 8) (hg : g < 4)
    (px : FVec Ideal S1056x512 .bf16) (band : Vec Ideal S1x128x160 .bf16)
    (h : S1056x512.Slices ![128 * s, 128 * g] S160x128) (pc : Vec Ideal S128x128 .bf16) (wp : Vec Ideal S1x128x128 .bf16) (ps : Vec Ideal S1x128 .f32)
    (hpx : ∀ r d, px (ix2 r d)
      = if 16 ≤ 1024 * n + r.val ∧ 1024 * n + r.val < 8208 then U (8192 * b + (1024 * n + r.val - 16)) (1024 + d.val) else 0)
    (hband : ∀ r j, band (ix3 0 r j) = if r.val + 16 ≤ j.val + 2 ^ g ∧ j.val < r.val + 2 ^ g + 16 then 1 else 0)
    (hpc : ∀ r d, pc (ix2 r d) = U (8192 * b + (1024 * n + (128 * s + r.val))) (1024 + (128 * g + d.val)))
    (hwp : ∀ x d, wp (ix3 0 x d) = wpA g x.val d.val) (hps : ∀ d, ps (ix2 0 d) = psA (128 * g + d.val)) (r d : Fin 128) :
    poolBlk (BitVec.ofNat 32 n) (BitVec.ofNat 32 (128 * s)) (BitVec.ofNat 32 (2 ^ g)) px band (128 * s) (128 * g) h pc wp ps (ix2 r d)
      = poolAt U wpA psA b (1024 * n + (128 * s + r.val)) g d.val := by
  have hr := r.isLt
  have hw : 2 ^ g ≤ 8 := by
    have : 2 ^ g ≤ 2 ^ 3 := Nat.pow_le_pow_right (by decide) (by omega)
    omega
  have sums (x : Fin 128) : (∑ j : Fin 160, band (ix3 0 r j) * px (ix2 ⟨128 * s + j.val, by omega⟩ ⟨128 * g + x.val, by omega⟩))
      = winAt U b (1024 * n + (128 * s + r.val)) (2 ^ g) (1024 + (128 * g + x.val)) := by
    refine (sum_shift 16 (1024 * n + 128 * s) _ _ (fun t => ?_) (fun j => ?_)).symm
    · have ht := t.isLt
      by_cases c : 1024 * n + (128 * s + r.val) ≤ t.val + 2 ^ g ∧ t.val < 1024 * n + (128 * s + r.val) + 2 ^ g
      · refine .inr ⟨⟨t.val + 16 - (1024 * n + 128 * s), by omega⟩, ?_, ?_⟩
        · show _ = 1024 * n + 128 * s + (t.val + 16 - (1024 * n + 128 * s)); omega
        · rw [if_pos c, hband, if_pos (by dsimp only; omega), one_mul, hpx, if_pos (by dsimp only; omega)]
          congr 1; dsimp only; omega
      · exact .inl (if_neg c)
    · have hj := j.isLt
      by_cases c : r.val + 16 ≤ j.val + 2 ^ g ∧ j.val < r.val + 2 ^ g + 16
      · by_cases c' : 16 ≤ 1024 * n + (128 * s + j.val) ∧ 1024 * n + (128 * s + j.val) < 8208
        · refine .inr ⟨⟨1024 * n + (128 * s + j.val) - 16, by omega⟩, by dsimp only; omega, ?_⟩
          rw [if_pos (by dsimp only; omega), hband, if_pos c, one_mul, hpx, if_pos c']
        · refine .inl ?_
          rw [hpx, if_neg c', mul_zero]
      · refine .inl ?_
        rw [hband, if_neg c, zero_mul]
  have hT : IntOp.addi (Scalar.addi (Scalar.muli (BitVec.ofNat 32 n) 1024#32) (BitVec.ofNat 32 (128 * s))) (BitVec.ofNat 32 r.val)
      = BitVec.ofNat 32 (1024 * n + (128 * s + r.val)) := by rw [word_pos, Nat.add_assoc]
  pointwise [poolBlk, winSum, cnt, pos]
  simp only [sums, hpc, hwp, hps]
  rw [hT]
  rfl

end Cert.Mix

end
-- ==== Proof.Mix.Pieces.lean ====
/- The tile's pooled and attended rows, block by block, as the stores that fill them. -/
module

public import proofs.«01_k».proof.Proof.Gen.KernelIdeal.Value
public import Idealize.ShloMosaic.Lib.WholeRead
public import proofs.«01_k».proof.Proof.Mix.Attn
public import proofs.«01_k».proof.Proof.Mix.Pool

@[expose] public section

set_option maxRecDepth 16384

noncomputable section

namespace Cert.Mix

open Cert.KernelIdeal Cert.KernelIdeal.Gen Idealize.ShloMosaic Idealize.ShloMosaic.TcCoe
variable [Facts]
open Facts

theorem fits2 {a b c d p q : ℕ} (h₁ : a + p ≤ c) (h₂ : b + q ≤ d) :
    ∀ i : Fin 2, (![a, b] : Fin 2 → ℕ) i + (![p, q] : Fin 2 → ℕ) i ≤ (![c, d] : Fin 2 → ℕ) i :=
  Fin.forall_fin_two.mpr ⟨h₁, h₂⟩

theorem fits3 {a b c d p q e f g : ℕ} (h₁ : a + p ≤ e) (h₂ : b + q ≤ f) (h₃ : c + d ≤ g) :
    ∀ i : Fin 3, (![a, b, c] : Fin 3 → ℕ) i + (![p, q, d] : Fin 3 → ℕ) i ≤ (![e, f, g] : Fin 3 → ℕ) i :=
  Fin.forall_fin_succ.mpr ⟨h₁, Fin.forall_fin_two.mpr ⟨h₂, h₃⟩⟩

theorem slices2 {a b c d p q : ℕ} (h₁ : a + p ≤ c) (h₂ : b + q ≤ d) : Shape.Slices (s := ⟨2, ![c, d]⟩) ![a, b] ⟨2, ![p, q]⟩ :=
  ⟨rfl, Fin.forall_fin_two.mpr ⟨h₁, h₂⟩⟩

/-- What a load through a rectangle of a staged block reads. -/
abbrev rd {sp : Space} {S : Shape} {e : EltTy} {arg : Memref sig .tc sp S e} (h : arg.IsWhole) (x : Vec Ideal S e)
    (off size : Fin S.rank → ℕ) (inb : ∀ a, off a + size a ≤ S.size a) :=
  View.readAt (Elt Ideal) arg.view (Rect.unit off size inb).toLoadRect (h.unread x)

section blocks

variable (i : grid0.Coords) {arg1 : Memref sig .tc .smem S8 .f32} (harg1 : arg1.IsWhole) {arg3 : Memref sig .tc .vmem S1024x1024 .bf16}
  (harg3 : arg3.IsWhole) {arg4 : Memref sig .tc .vmem S16x512 .bf16} (harg4 : arg4.IsWhole) {arg5 : Memref sig .tc .vmem S1024x512 .bf16}
  (harg5 : arg5.IsWhole) {arg6 : Memref sig .tc .vmem S16x512 .bf16} (harg6 : arg6.IsWhole) {arg7 : Memref sig .tc .vmem S128x512 .bf16}
  (harg7 : arg7.IsWhole) {arg8 : Memref sig .tc .vmem S1024x512 .bf16} (harg8 : arg8.IsWhole) {arg9 : Memref sig .tc .vmem S128x512 .bf16}
  (harg9 : arg9.IsWhole) {arg10 : Memref sig .tc .vmem S256x512 .bf16} (harg10 : arg10.IsWhole) {arg12 : Memref sig .tc .vmem S4x128x160 .bf16}
  (harg12 : arg12.IsWhole) {arg13 : Memref sig .tc .vmem S2x512x128 .f32} (harg13 : arg13.IsWhole) {arg14 : Memref sig .tc .vmem S4x128x128 .bf16}
  (harg14 : arg14.IsWhole) {arg15 : Memref sig .tc .vmem S1x512 .f32} (harg15 : arg15.IsWhole)
  (x0 : Vec Ideal S8 .f32) (x2 : Vec Ideal S1024x1024 .bf16) (x3 : Vec Ideal S16x512 .bf16) (x4 : Vec Ideal S1024x512 .bf16)
  (x5 : Vec Ideal S16x512 .bf16) (x6 : Vec Ideal S128x512 .bf16) (x7 : Vec Ideal S1024x512 .bf16) (x8 : Vec Ideal S128x512 .bf16)
  (x9 : Vec Ideal S256x512 .bf16) (x11 : Vec Ideal S4x128x160 .bf16) (x12 : Vec Ideal S2x512x128 .f32)
  (x13 : Vec Ideal S4x128x128 .bf16) (x14 : Vec Ideal S1x512 .f32)

/-- A sequence's tile number. -/
abbrev tile : BitVec 32 := kernelRun0_A.sl.v9 i
/-- Is it the sequence's first tile, its last? -/
abbrev isFirst : BitVec 1 := Scalar.cmpi .eq (tile i) 0#32
abbrev isLast : BitVec 1 := Scalar.cmpi .eq (tile i) 7#32

/-- The masking block of the keys before: all of it on a sequence's first block of queries. -/
def biasP (s : ℕ) : FVec Ideal S512x128 .f32 :=
  bif Nat.beq s 0 then k0_pay138 (isFirst i) (rd harg13 x12 ![0, 0, 0] S1x512x128.size (fits3 (by decide) (by decide) (by decide)))
  else k0_pay136 (rd harg13 x12 ![0, 0, 0] S1x512x128.size (fits3 (by decide) (by decide) (by decide)))

/-- The masking block of the keys after: all of it on a sequence's last block of queries. -/
def biasN (s : ℕ) : FVec Ideal S512x128 .f32 :=
  bif Nat.beq s 7 then k0_pay139 (isLast i) (rd harg13 x12 ![1, 0, 0] S1x512x128.size (fits3 (by decide) (by decide) (by decide)))
  else k0_pay137 (rd harg13 x12 ![1, 0, 0] S1x512x128.size (fits3 (by decide) (by decide) (by decide)))

/-- The store of key head `h`'s pair `j` of query heads, for block `s` of the tile. -/
def attnPiece (h : Fin 2) (s : Fin 8) (j : Fin 2) : View.Piece (Elt Ideal) S1024x1024 .bf16 :=
  ⟨Rect.unit ![128 * s.val, 512 + 256 * h.val + 128 * j.val] S128x128.size (fits2 (by omega) (by omega)),
    attnPair (rd harg3 x2 ![128 * s.val, 512 * h.val] S128x128.size (fits2 (by omega) (by omega)))
      (rd harg3 x2 ![128 * s.val, 512 * h.val + 128] S128x128.size (fits2 (by omega) (by omega)))
      (rd harg3 x2 ![128 * s.val, 512 * h.val + 256] S128x128.size (fits2 (by omega) (by omega)))
      (rd harg3 x2 ![128 * s.val, 512 * h.val + 384] S128x128.size (fits2 (by omega) (by omega)))
      (rd harg7 x6 ![0, 128 * h.val] S128x128.size (fits2 (by omega) (by omega)))
      (rd harg8 x7 ![0, 128 * h.val] S1024x128.size (fits2 (by omega) (by omega)))
      (rd harg9 x8 ![0, 128 * h.val] S128x128.size (fits2 (by omega) (by omega)))
      (rd harg10 x9 ![0, 128 * h.val] S256x128.size (fits2 (by omega) (by omega)))
      (rd harg7 x6 ![0, 256 + 128 * h.val] S128x128.size (fits2 (by omega) (by omega)))
      (rd harg8 x7 ![0, 256 + 128 * h.val] S1024x128.size (fits2 (by omega) (by omega)))
      (rd harg9 x8 ![0, 256 + 128 * h.val] S128x128.size (fits2 (by omega) (by omega)))
      (rd harg10 x9 ![0, 256 + 128 * h.val] S256x128.size (fits2 (by omega) (by omega)))
      (biasP i harg13 x12 s.val) (biasN i harg13 x12 s.val)
      (rd harg1 x0 ![4 * h.val] S1.size (fun a => by rw [Subsingleton.elim a 0]; show 4 * h.val + 1 ≤ 8; omega) (Shape.Idx.first (show 0 < S1.numel by decide)))
      (rd harg1 x0 ![4 * h.val + 1] S1.size (fun a => by rw [Subsingleton.elim a 0]; show 4 * h.val + 1 + 1 ≤ 8; omega) (Shape.Idx.first (show 0 < S1.numel by decide)))
      (rd harg1 x0 ![4 * h.val + 2] S1.size (fun a => by rw [Subsingleton.elim a 0]; show 4 * h.val + 2 + 1 ≤ 8; omega) (Shape.Idx.first (show 0 < S1.numel by decide)))
      (rd harg1 x0 ![4 * h.val + 3] S1.size (fun a => by rw [Subsingleton.elim a 0]; show 4 * h.val + 3 + 1 ≤ 8; omega) (Shape.Idx.first (show 0 < S1.numel by decide)))
      (128 * s.val) (slices2 (by omega) (by omega)) (256 * j.val) (256 * j.val + 128) (slices2 (by omega) (by omega)) (slices2 (by omega) (by omega))⟩

/-- The store of pooling group `g` for block `s` of the tile. -/
def poolPiece (s : Fin 8) (g : Fin 4) : View.Piece (Elt Ideal) S1024x1024 .bf16 :=
  ⟨Rect.unit ![128 * s.val, 128 * g.val] S128x128.size (fits2 (by omega) (by omega)),
    poolBlk (tile i) (BitVec.ofNat 32 (128 * s.val)) (BitVec.ofNat 32 (2 ^ g.val))
      (pext (isFirst i) (isLast i) (rd harg4 x3 ![0, 0] S16x512.size (fits2 (by decide) (by decide)))
        (rd harg5 x4 ![0, 0] S1024x512.size (fits2 (by decide) (by decide))) (rd harg6 x5 ![0, 0] S16x512.size (fits2 (by decide) (by decide))))
      (rd harg12 x11 ![g.val, 0, 0] S1x128x160.size (fits3 (by omega) (by decide) (by decide)))
      (128 * s.val) (128 * g.val) (slices2 (by omega) (by omega))
      (rd harg5 x4 ![128 * s.val, 128 * g.val] S128x128.size (fits2 (by omega) (by omega)))
      (rd harg14 x13 ![g.val, 0, 0] S1x128x128.size (fits3 (by omega) (by decide) (by decide)))
      (rd harg15 x14 ![0, 128 * g.val] S1x128.size (fits2 (by decide) (by omega)))⟩

/-- The stores of a whole tile, last first. -/
def pieces : List (View.Piece (Elt Ideal) S1024x1024 .bf16) :=
  (([1, 0] : List (Fin 2)).flatMap fun h => ([7, 6, 5, 4, 3, 2, 1, 0] : List (Fin 8)).flatMap fun s => ([1, 0] : List (Fin 2)).map fun j =>
    attnPiece i harg1 harg3 harg7 harg8 harg9 harg10 harg13 x0 x2 x6 x7 x8 x9 x12 h s j)
  ++ ([7, 6, 5, 4, 3, 2, 1, 0] : List (Fin 8)).flatMap fun s => ([3, 2, 1, 0] : List (Fin 4)).map fun g =>
    poolPiece i harg4 harg5 harg6 harg12 harg14 harg15 x3 x4 x5 x11 x13 x14 s g

theorem cons_eq {α : Type} {a a' : α} {l l' : List α} (h : a = a') (hl : l = l') : a :: l = a' :: l' := by rw [h, hl]

open kernelRun0_A.sl in
set_option maxHeartbeats 10000000 in
theorem pieces_eq (c : Dev nD) : kernelRun0_A.sl.HS0_64 c i arg1 harg1 arg3 harg3 arg4 harg4 arg5 harg5 arg6 harg6 arg7 harg7 arg8 harg8
      arg9 harg9 arg10 harg10 arg12 harg12 arg13 harg13 arg14 harg14 arg15 harg15 x0 x2 x3 x4 x5 x6 x7 x8 x9 x11 x12 x13 x14
    = pieces i harg1 harg3 harg4 harg5 harg6 harg7 harg8 harg9 harg10 harg12 harg13 harg14 harg15 x0 x2 x3 x4 x5 x6 x7 x8 x9 x11 x12 x13 x14 := by
  unfold HS0_64
  repeat' refine cons_eq ?_ ?_
  all_goals
    dsimp only [v2207, v2204, v2203, v2201, v2193, r_77, r_2, r_5, v6, v4, v3, r_73, r_46, r_47, r_52, r_53, v2192, r_78, r_79, v2202, v2200, v2197, v2196, v2194,
      v2195, r_76, r_3, v2023, v2015, v2022, v2020, v1599, cst_653, r_74, r_75, r_72, v1953, v1945, v1952, v1950, v2028, v2027, v2010, v2007, v2006, v2004,
      r_70, r_65, v1875, v2005, v2003, v2000, v1999, r_71, v1998, v1940, v1937, v1936, v1934, v1926, v1920, v1919, r_69, r_61, v1805, r_66, cst_805, v1925,
      v1921, v1924, v1923, v1922, r_67, r_68, v1935, v1933, v1930, v1929, v1927, v1928, v1870, v1867, v1866, v1864, v1856, v1850, v1849, v1848, v1847,
      v1846, r_64, r_55, r_54, v1845, v1844, v1843, v1842, r_63, r_62, v1855, v1851, v1854, v1853, v1852, v1865, v1863, v1860, v1859, v1857, v1858, v1800,
      v1797, v1796, v1794, v1786, v1780, v1779, v1778, v1777, v1776, v1771, v1766, v1765, r_48, v1767, v1769, v1768, v1770, v1775, v1774, v1773, v1772,
      v1764, r_57, r_58, r_59, v1763, r_60, r_56, v1785, v1781, v1784, v1783, v1782, v1795, v1793, v1790, v1789, v1787, v1788, r_4, v1603, v1595, v1602,
      v1600, r_49, r_50, r_51, r_45, v1533, v1525, v1532, v1530, v1096, v1611, v1610, v1608, v1117, r_8, r_9, r_10, r_11, v1590, v1587, v1586, v1584, r_43,
      r_37, v1455, v1462, v1460, r_41, r_42, v1585, v1583, r_44, v1520, v1517, v1516, v1514, v1506, r_38, r_32, v1385, r_30, r_31, v1505, r_39, r_40, v1515,
      v1513, v1510, v1509, v1507, v1508, v1450, v1447, v1446, v1444, v1436, v1430, v1429, v1428, v1427, r_36, r_24, r_21, r_22, r_23, r_33, v1435, v1431,
      v1434, v1433, v1432, r_34, r_35, v1445, v1443, v1440, v1439, v1437, v1438, v1380, v1377, v1376, v1374, v1366, v1360, v1359, v1358, v1357, v1356,
      v1351, r_27, r_16, r_28, v1349, r_29, v1350, v1355, v1354, v1353, v1352, r_26, r_25, v1365, v1361, v1364, v1363, v1362, v1375, v1373, v1370, v1369,
      v1367, v1368, r_13, r_17, r_18, r_19, r_20, v1113, v1105, v1112, v1110, r_14, r_15, r_12, v1100, r_6, v1099, v1097, v1118, r_7, v755, v754, v753,
      v147, v33, v146, v18, v14, v12, cst, v17, cst_12, v752, v749, v744, v742, v683, v682, v681, v148, v19, v209, v154, v748, v746, v158, v751, v1062,
      v1061, v1058, v736, v735, v734, v143, v29, v142, v733, v730, v725, v723, v190, v729, v727, v732, v777, v780, v1055, v1052, v1051, v1048, v717, v716,
      v715, v139, v25, v138, v714, v711, v706, v704, v171, v710, v708, v713, v767, v770, v1045, v1042, v1041, v1038, v698, v697, v696, v135, v21, v134,
      v695, v692, v687, v685, v152, v691, v689, v694, v757, v760, v1035, v1032, v1031, v1028, v679, v678, v677, v131, v130, v676, v673, v668, v666, v607,
      v606, v605, v672, v670, v675, v787, v790, v1025, v1022, v1021, v1018, v660, v659, v658, v127, v126, v657, v654, v649, v647, v653, v651, v656, v1015,
      v1012, v1011, v1008, v641, v640, v639, v123, v121, r_1, v122, v638, v635, v630, v628, v634, v632, v637, v1005, v1002, v1001, v998, v622, v621, v620,
      v119, v118, v619, v616, v611, v609, v615, v613, v618, v995, v992, v991, v988, v603, v602, v601, v115, v114, v600, v597, v592, v590, v531, v530, v529,
      v596, v594, v599, v985, v982, v981, v978, v584, v583, v582, v111, v110, v581, v578, v573, v571, v577, v575, v580, v975, v972, v971, v968, v565, v564,
      v563, v107, v106, v562, v559, v554, v552, v558, v556, v561, v965, v962, v961, v958, v546, v545, v544, v103, v102, v543, v540, v535, v533, v539, v537,
      v542, v955, v952, v951, v948, v527, v526, v525, v99, v98, v524, v521, v516, v514, v455, v454, v453, v520, v518, v523, v945, v942, v941, v938, v508,
      v507, v506, v95, v94, v505, v502, v497, v495, v501, v499, v504, v935, v932, v931, v928, v489, v488, v487, v91, v90, v486, v483, v478, v476, v482,
      v480, v485, v925, v922, v921, v918, v470, v469, v468, v87, v86, v467, v464, v459, v457, v463, v461, v466, v915, v912, v911, v908, v451, v450, v449,
      v83, v82, v448, v445, v440, v438, v379, v378, v377, v444, v442, v447, v905, v902, v901, v898, v432, v431, v430, v79, v78, v429, v426, v421, v419,
      v425, v423, v428, v895, v892, v891, v888, v413, v412, v411, v75, v74, v410, v407, v402, v400, v406, v404, v409, v885, v882, v881, v878, v394, v393,
      v392, v71, v70, v391, v388, v383, v381, v387, v385, v390, v875, v872, v871, v868, v375, v374, v373, v67, v66, v372, v369, v364, v362, v303, v302,
      v301, v368, v366, v371, v865, v862, v861, v858, v356, v355, v354, v63, v61, r, v62, v353, v350, v345, v343, v349, v347, v352, v855, v852, v851, v848,
      v337, v336, v335, v59, v58, v334, v331, v326, v324, v330, v328, v333, v845, v842, v841, v838, v318, v317, v316, v55, v54, v315, v312, v307, v305,
      v311, v309, v314, v835, v832, v831, v828, v299, v298, v297, v51, v50, v296, v293, v288, v286, v227, v226, v225, v292, v290, v295, v825, v822, v821,
      v818, v280, v279, v278, v47, v46, v277, v274, v269, v267, v273, v271, v276, v815, v812, v811, v808, v261, v260, v259, v43, v42, v258, v255, v250,
      v248, v254, v252, v257, v805, v802, v801, v798, v242, v241, v240, v39, v38, v239, v236, v231, v229, v235, v233, v238, v795, v792, v791, v788, v223,
      v222, v221, v35, v34, v220, v217, v212, v210, v151, v150, v149, v216, v214, v219, v785, v782, v781, v778, v204, v203, v202, v31, v30, v201, v198,
      v193, v191, v197, v195, v200, v775, v772, v771, v768, v185, v184, v183, v27, v26, v182, v179, v174, v172, v178, v176, v181, v765, v762, v761, v758,
      v166, v165, v164, v23, v22, v163, v160, v155, v153, v159, v157, v162, k0_pay252, k0_pay262, k0_pay261, k0_pay260, k0_pay259, k0_pay258, k0_pay141,
      k0_pay263, k0_pay264, k0_pay140, k0_pay253, k0_pay254, k0_pay257, k0_pay255, k0_pay249, k0_pay233, k0_pay243, k0_pay244, k0_pay224, k0_pay238,
      k0_pay236, k0_pay237, k0_pay235, k0_pay234, k0_pay214, k0_pay227, k0_pay226, k0_pay225, k0_pay207, k0_pay216, k0_pay217, k0_pay218, k0_pay219,
      k0_pay215, k0_pay208, k0_pay209, k0_pay210, k0_pay205, k0_pay203, k0_pay185, k0_pay197, k0_pay198, k0_pay174, k0_pay190, k0_pay189, k0_pay187,
      k0_pay188, k0_pay186, k0_pay191, k0_pay192, k0_pay164, k0_pay179, k0_pay178, k0_pay176, k0_pay177, k0_pay175, k0_pay156, k0_pay167, k0_pay168,
      k0_pay169, k0_pay166, k0_pay165, k0_pay150, k0_pay157, k0_pay158, k0_pay159, k0_pay160, k0_pay151, k0_pay152, k0_pay142, k0_pay148, k0_pay146,
      k0_pay256, k0_pay251, k0_pay250, k0_pay213, k0_pay211, k0_pay212, k0_pay206, k0_pay204, k0_pay163, k0_pay161, k0_pay162, k0_pay155, k0_pay153,
      k0_pay154, k0_pay149, k0_pay147, k0_pay135, k0_pay134,
      attnPiece, attnPair, pairOut, attend, masked, scores, bandV, sinks, biasP, biasN, poolPiece, poolBlk, winSum, cnt, pos, pext]
    rfl

theorem mem_pieces {p} (hp : p ∈ pieces i harg1 harg3 harg4 harg5 harg6 harg7 harg8 harg9 harg10 harg12 harg13 harg14 harg15 x0 x2 x3 x4 x5 x6 x7 x8 x9 x11 x12 x13 x14) :
    (∃ h s j, p = attnPiece i harg1 harg3 harg7 harg8 harg9 harg10 harg13 x0 x2 x6 x7 x8 x9 x12 h s j)
      ∨ ∃ s g, p = poolPiece i harg4 harg5 harg6 harg12 harg14 harg15 x3 x4 x5 x11 x13 x14 s g := by
  rcases List.mem_append.mp hp with hp | hp
  · obtain ⟨h, _, hp⟩ := List.mem_flatMap.mp hp
    obtain ⟨s, _, hp⟩ := List.mem_flatMap.mp hp
    obtain ⟨j, _, rfl⟩ := List.mem_map.mp hp
    exact .inl ⟨h, s, j, rfl⟩
  · obtain ⟨s, _, hp⟩ := List.mem_flatMap.mp hp
    obtain ⟨g, _, rfl⟩ := List.mem_map.mp hp
    exact .inr ⟨s, g, rfl⟩

theorem attn_mem (h : Fin 2) (s : Fin 8) (j : Fin 2) : attnPiece i harg1 harg3 harg7 harg8 harg9 harg10 harg13 x0 x2 x6 x7 x8 x9 x12 h s j
    ∈ pieces i harg1 harg3 harg4 harg5 harg6 harg7 harg8 harg9 harg10 harg12 harg13 harg14 harg15 x0 x2 x3 x4 x5 x6 x7 x8 x9 x11 x12 x13 x14 :=
  List.mem_append_left _ (List.mem_flatMap.mpr ⟨h, by revert h; decide, List.mem_flatMap.mpr ⟨s, by revert s; decide,
    List.mem_map.mpr ⟨j, by revert j; decide, rfl⟩⟩⟩)

theorem pool_mem (s : Fin 8) (g : Fin 4) : poolPiece i harg4 harg5 harg6 harg12 harg14 harg15 x3 x4 x5 x11 x13 x14 s g
    ∈ pieces i harg1 harg3 harg4 harg5 harg6 harg7 harg8 harg9 harg10 harg12 harg13 harg14 harg15 x0 x2 x3 x4 x5 x6 x7 x8 x9 x11 x12 x13 x14 :=
  List.mem_append_right _ (List.mem_flatMap.mpr ⟨s, by revert s; decide, List.mem_map.mpr ⟨g, by revert g; decide, rfl⟩⟩)

end blocks

theorem rd2_apply {sp : Space} {n m p q a b : ℕ} {e : EltTy} {arg : Memref sig .tc sp ⟨2, ![n, m]⟩ e} (h : arg.IsWhole)
    (x : Vec Ideal ⟨2, ![n, m]⟩ e) (inb : ∀ k, (![a, b] : Fin 2 → ℕ) k + (![p, q] : Fin 2 → ℕ) k ≤ (![n, m] : Fin 2 → ℕ) k)
    (i : Fin p) (j : Fin q) (hi : a + i.val < n) (hj : b + j.val < m) :
    rd h x ![a, b] ![p, q] inb (ix2 i j) = x (ix2 ⟨a + i.val, hi⟩ ⟨b + j.val, hj⟩) := by
  refine (Memref.IsWhole.readAt_unread h x _ _).trans (congrArg x (funext fun k => Fin.ext ?_))
  match k with
  | 0 => exact congrArg (a + ·) (Nat.one_mul _)
  | 1 => exact congrArg (b + ·) (Nat.one_mul _)

theorem rd3_apply {sp : Space} {l n m r p q a b c : ℕ} {e : EltTy} {arg : Memref sig .tc sp ⟨3, ![l, n, m]⟩ e} (h : arg.IsWhole)
    (x : Vec Ideal ⟨3, ![l, n, m]⟩ e)
    (inb : ∀ k, (![a, b, c] : Fin 3 → ℕ) k + (![r, p, q] : Fin 3 → ℕ) k ≤ (![l, n, m] : Fin 3 → ℕ) k)
    (u : Fin r) (i : Fin p) (j : Fin q) (hu : a + u.val < l) (hi : b + i.val < n) (hj : c + j.val < m) :
    rd h x ![a, b, c] ![r, p, q] inb (ix3 u i j) = x (ix3 ⟨a + u.val, hu⟩ ⟨b + i.val, hi⟩ ⟨c + j.val, hj⟩) := by
  refine (Memref.IsWhole.readAt_unread h x _ _).trans (congrArg x (funext fun k => Fin.ext ?_))
  match k with
  | 0 => exact congrArg (a + ·) (Nat.one_mul _)
  | 1 => exact congrArg (b + ·) (Nat.one_mul _)
  | 2 => exact congrArg (c + ·) (Nat.one_mul _)

theorem rd1_first {sp : Space} {n a : ℕ} {e : EltTy} {arg : Memref sig .tc sp ⟨1, ![n]⟩ e} (h : arg.IsWhole) (x : Vec Ideal ⟨1, ![n]⟩ e)
    (inb : ∀ k, (![a] : Fin 1 → ℕ) k + (![1] : Fin 1 → ℕ) k ≤ (![n] : Fin 1 → ℕ) k) (h0 : 0 < Shape.numel ⟨1, ![1]⟩) (ha : a < n) :
    rd h x ![a] ![1] inb (Shape.Idx.first h0) = x (ix1 ⟨a, ha⟩) := by
  refine (Memref.IsWhole.readAt_unread h x _ _).trans (congrArg x (funext fun k => Fin.ext ?_))
  match k with
  | 0 => exact congrArg (a + ·) (Nat.one_mul 0)

end Cert.Mix

end
-- ==== Proof.Mix.Band.lean ====
/- A block's attention over its band of keys is its rows' attention over their whole sequence. -/
module

public import proofs.«01_k».proof.Proof.Mix.Attn
public import proofs.«01_k».proof.Proof.Mix.Spec

@[expose] public section

set_option maxRecDepth 16384

noncomputable section

namespace Cert.Mix

open Cert.KernelIdeal Cert.KernelIdeal.Gen Idealize.ShloMosaic
variable [Facts]
open Facts

/-- A block of keys or values before the tile, the tile's own, and one after it, as one run of rows. -/
def ext3 (kp : Vec Ideal S128x128 .bf16) (kc : Vec Ideal S1024x128 .bf16) (kn : Vec Ideal S128x128 .bf16) (e l : ℕ) : EReal :=
  if e < 128 then at2 kp e l else if e < 1152 then at2 kc (e - 128) l else at2 kn (e - 1152) l

theorem ext3_eq (kp : Vec Ideal S128x128 .bf16) (kc : Vec Ideal S1024x128 .bf16) (kn : Vec Ideal S128x128 .bf16) (U : ℕ → ℕ → EReal)
    (b n c0 : ℕ) (hn : n < 8)
    (hp : n ≠ 0 → ∀ i j, kp (ix2 i j) = U (8192 * b + (1024 * n + i.val - 128)) (c0 + j.val))
    (hc : ∀ i j, kc (ix2 i j) = U (8192 * b + (1024 * n + i.val)) (c0 + j.val))
    (hx : n ≠ 7 → ∀ i j, kn (ix2 i j) = U (8192 * b + (1024 * n + 1024 + i.val)) (c0 + j.val))
    (e l : ℕ) (he : e < 1280) (hl : l < 128) (h₁ : 128 ≤ 1024 * n + e) (h₂ : 1024 * n + e < 8320) :
    ext3 kp kc kn e l = U (8192 * b + (1024 * n + e - 128)) (c0 + l) := by
  unfold ext3
  by_cases a : e < 128
  · rw [if_pos a, at2_of _ a hl]; exact hp (by omega) _ _
  · by_cases a' : e < 1152
    · rw [if_neg a, if_pos a', at2_of _ (show e - 128 < 1024 by omega) hl, hc]
      dsimp only
      rw [show 1024 * n + (e - 128) = 1024 * n + e - 128 by omega]
    · rw [if_neg a, if_neg a', at2_of _ (show e - 1152 < 128 by omega) hl, hx (by omega)]
      dsimp only
      rw [show 1024 * n + 1024 + (e - 1152) = 1024 * n + e - 128 by omega]

/-- The block before's masking entry, the block after's. -/
def maskP (n s R k : ℕ) : EReal := if s = 0 ∧ n = 0 then ⊥ else if R % 128 ≤ k then 0 else ⊥
def maskN (n s R k : ℕ) : EReal := if s = 7 ∧ n = 7 then ⊥ else if k ≤ R % 128 then 0 else ⊥

theorem biasAt_band (n s g r k : ℕ) (hn : n < 8) (hs : s < 8) (hr : r < 128) (hk : k < 384) :
    biasAt (maskP n s) (maskN n s) (128 * g + r) k
      = if (128 ≤ 1024 * n + (128 * s + k) ∧ 1024 * n + (128 * s + k) < 8320) ∧ r ≤ k ∧ k ≤ r + 256 then 0 else ⊥ := by
  have e : (128 * g + r) % 128 = r := by omega
  unfold biasAt maskP maskN
  rw [e]
  split_ifs <;> first | rfl | omega

theorem attnPair_head {q0 q1 q2 q3 kp : Vec Ideal S128x128 .bf16} {kc : Vec Ideal S1024x128 .bf16} {kn : Vec Ideal S128x128 .bf16}
    {kx : Vec Ideal S256x128 .bf16} {vp : Vec Ideal S128x128 .bf16} {vc : Vec Ideal S1024x128 .bf16} {vn : Vec Ideal S128x128 .bf16}
    {vx : Vec Ideal S256x128 .bf16} {bp bn : FVec Ideal S512x128 .f32} {s0 s1 s2 s3 : EReal} {o a a' : ℕ}
    {ho : S1280x128.Slices ![o, 0] S384x128} {ha : S512x128.Slices ![a, 0] S128x128} {ha' : S512x128.Slices ![a', 0] S128x128}
    (U UC : ℕ → ℕ → EReal) (Sk : ℕ → EReal) (b n s h j : ℕ) (hn : n < 8) (hs : s < 8) (hh : h < 2) (hj : j < 2)
    (eo : o = 128 * s) (ea : a = 256 * j) (ea' : a' = 256 * j + 128)
    (hq0 : ∀ i l, q0 (ix2 i l) = U (8192 * b + (1024 * n + (128 * s + i.val))) (512 * h + l.val))
    (hq1 : ∀ i l, q1 (ix2 i l) = U (8192 * b + (1024 * n + (128 * s + i.val))) (512 * h + (128 + l.val)))
    (hq2 : ∀ i l, q2 (ix2 i l) = U (8192 * b + (1024 * n + (128 * s + i.val))) (512 * h + (256 + l.val)))
    (hq3 : ∀ i l, q3 (ix2 i l) = U (8192 * b + (1024 * n + (128 * s + i.val))) (512 * h + (384 + l.val)))
    (hkp : n ≠ 0 → ∀ i j, kp (ix2 i j) = U (8192 * b + (1024 * n + i.val - 128)) (1536 + 128 * h + j.val))
    (hkc : ∀ i j, kc (ix2 i j) = U (8192 * b + (1024 * n + i.val)) (1536 + 128 * h + j.val))
    (hkn : n ≠ 7 → ∀ i j, kn (ix2 i j) = U (8192 * b + (1024 * n + 1024 + i.val)) (1536 + 128 * h + j.val))
    (hkx : ∀ i j, kx (ix2 i j) = UC (256 * b + i.val) (1536 + 128 * h + j.val))
    (hvp : n ≠ 0 → ∀ i j, vp (ix2 i j) = U (8192 * b + (1024 * n + i.val - 128)) (1792 + 128 * h + j.val))
    (hvc : ∀ i j, vc (ix2 i j) = U (8192 * b + (1024 * n + i.val)) (1792 + 128 * h + j.val))
    (hvn : n ≠ 7 → ∀ i j, vn (ix2 i j) = U (8192 * b + (1024 * n + 1024 + i.val)) (1792 + 128 * h + j.val))
    (hvx : ∀ i j, vx (ix2 i j) = UC (256 * b + i.val) (1792 + 128 * h + j.val))
    (hbp : ∀ R k, bp (ix2 R k) = maskP n s R.val k.val) (hbn : ∀ R k, bn (ix2 R k) = maskN n s R.val k.val)
    (hs0 : s0 = Sk (4 * h)) (hs1 : s1 = Sk (4 * h + 1)) (hs2 : s2 = Sk (4 * h + 2)) (hs3 : s3 = Sk (4 * h + 3)) (r l : Fin 128) :
    attnPair q0 q1 q2 q3 kp kc kn kx vp vc vn vx bp bn s0 s1 s2 s3 o ho a a' ha ha' (ix2 r l)
      = headAt U UC Sk b (1024 * n + (128 * s + r.val)) (4 * h + (2 * j + if l.val < 64 then 0 else 1)) l.val := by
  subst eo
  have hr := r.isLt
  have hl := l.isLt
  obtain ⟨g, hg⟩ : ∃ g, g = 2 * j + if l.val < 64 then 0 else 1 := ⟨_, rfl⟩
  have hg4 : g < 4 := by rw [hg]; split_ifs <;> omega
  rw [← hg, attnPair_apply (fun i k => U (8192 * b + (1024 * n + (128 * s + i))) (512 * h + k)) (ext3 kp kc kn)
    (fun k l => UC (256 * b + k) (1536 + 128 * h + l)) (ext3 vp vc vn) (fun k l => UC (256 * b + k) (1792 + 128 * h + l))
    (maskP n s) (maskN n s) (fun g => Sk (4 * h + g)) hq0 hq1 hq2 hq3
    (fun i j => by rw [ext3, if_pos i.isLt]; exact at2_ix2 _ _ _)
    (fun i j => by rw [ext3, if_neg (by omega), if_pos (by omega), Nat.add_sub_cancel_left]; exact at2_ix2 _ _ _)
    (fun i j => by rw [ext3, if_neg (by omega), if_neg (by omega), Nat.add_sub_cancel_left]; exact at2_ix2 _ _ _) hkx
    (fun i j => by rw [ext3, if_pos i.isLt]; exact at2_ix2 _ _ _)
    (fun i j => by rw [ext3, if_neg (by omega), if_pos (by omega), Nat.add_sub_cancel_left]; exact at2_ix2 _ _ _)
    (fun i j => by rw [ext3, if_neg (by omega), if_neg (by omega), Nat.add_sub_cancel_left]; exact at2_ix2 _ _ _) hvx
    hbp hbn hs0 hs1 hs2 hs3 r l g hg4 (by rw [ea, ea', hg]; split_ifs <;> omega)]
  have eh : (4 * h + g) / 4 = h := by omega
  have kfact (e : ℕ) (h₀ : e < 1280) (l' : ℕ) (hl' : l' < 128) (h₁ : 128 ≤ 1024 * n + e) (h₂ : 1024 * n + e < 8320) :
      ext3 kp kc kn e l' = U (8192 * b + (1024 * n + e - 128)) (1536 + (128 * h + l')) := by
    rw [ext3_eq kp kc kn U b n _ hn hkp hkc hkn e l' h₀ hl' h₁ h₂, Nat.add_assoc]
  have vfact (e : ℕ) (h₀ : e < 1280) (l' : ℕ) (hl' : l' < 128) (h₁ : 128 ≤ 1024 * n + e) (h₂ : 1024 * n + e < 8320) :
      ext3 vp vc vn e l' = U (8192 * b + (1024 * n + e - 128)) (1792 + (128 * h + l')) := by
    rw [ext3_eq vp vc vn U b n _ hn hvp hvc hvn e l' h₀ hl' h₁ h₂, Nat.add_assoc]
  have qcol (l' : ℕ) : 512 * h + (128 * g + l') = 128 * (4 * h + g) + l' := by omega
  -- the entry for a key of the band that lies in the sequence and in the window
  have hit (k : Fin 384) (t : Fin 8192) (ht : t.val + 128 = 1024 * n + 128 * s + k.val) (h₁ : r.val ≤ k.val) (h₂ : k.val ≤ r.val + 256) :
      scoreAt U U (8192 * b + (1024 * n + (128 * s + r.val))) (8192 * b + t.val) (4 * h + g)
        = ((∑ l' : Fin 128, U (8192 * b + (1024 * n + (128 * s + r.val))) (512 * h + (128 * g + l'.val))
              * bandAt (ext3 kp kc kn) (fun k l => UC (256 * b + k) (1536 + 128 * h + l)) (128 * s) k.val l'.val)
            + biasAt (maskP n s) (maskN n s) (128 * g + r.val) k.val) * ln2
      ∧ U (8192 * b + t.val) (1792 + (128 * h + l.val))
        = bandAt (ext3 vp vc vn) (fun k l => UC (256 * b + k) (1792 + 128 * h + l)) (128 * s) k.val l.val := by
    have htl := t.isLt
    have hk := k.isLt
    have et : 1024 * n + (128 * s + k.val) - 128 = t.val := by omega
    constructor
    · rw [biasAt_band n s g r.val k.val hn hs hr hk, if_pos ⟨by omega, h₁, h₂⟩, add_zero, scoreAt, eh]
      congr 1
      refine Finset.sum_congr rfl fun l' _ => ?_
      rw [bandAt, if_pos hk, kfact _ (by omega) _ l'.isLt (by omega) (by omega), et, qcol]
    · rw [bandAt, if_pos hk, vfact _ (by omega) _ hl (by omega) (by omega), et]
  unfold headAt
  rw [eh]
  refine bandRow_eq_fullRow 128 (1024 * n + 128 * s) _ _ _ _ _ _ _ (fun t => ?_) (fun k => ?_) (fun k => ?_) (fun k => ?_)
  · have htl := t.isLt
    by_cases c : 1024 * n + (128 * s + r.val) ≤ t.val + 128 ∧ t.val ≤ 1024 * n + (128 * s + r.val) + 128
    · refine .inr ⟨⟨t.val + 128 - (1024 * n + 128 * s), by omega⟩, by dsimp only; omega, ?_⟩
      rw [if_pos c]
      exact hit ⟨t.val + 128 - (1024 * n + 128 * s), by omega⟩ t (by dsimp only; omega) (by dsimp only; omega) (by dsimp only; omega)
    · exact .inl (if_neg c)
  · have hk := k.isLt
    by_cases c : (128 ≤ 1024 * n + (128 * s + k.val) ∧ 1024 * n + (128 * s + k.val) < 8320) ∧ r.val ≤ k.val ∧ k.val ≤ r.val + 256
    · refine .inr ⟨⟨1024 * n + (128 * s + k.val) - 128, by omega⟩, by dsimp only; omega, ?_⟩
      rw [if_pos (by dsimp only; omega)]
      exact hit k ⟨1024 * n + (128 * s + k.val) - 128, by omega⟩ (by dsimp only; omega) c.2.1 c.2.2
    · refine .inl ?_
      show _ + biasAt (maskP n s) (maskN n s) (128 * g + r.val) k.val = ⊥
      rw [biasAt_band n s g r.val k.val hn hs hr hk, if_neg c, EReal.add_bot]
  · have hb : biasAt (maskP n s) (maskN n s) (128 * g + r.val) (384 + k.val) = 0 := by
      rw [biasAt, if_neg (by omega), if_neg (by omega), if_neg (by omega)]
    show _ = (_ + biasAt (maskP n s) (maskN n s) (128 * g + r.val) (384 + k.val)) * ln2
    rw [hb, add_zero, scoreAt, eh]
    congr 1
    refine Finset.sum_congr rfl fun l' _ => ?_
    show _ = _ * bandAt _ _ _ (384 + k.val) _
    rw [bandAt, if_neg (by omega), Nat.add_sub_cancel_left, qcol, Nat.add_assoc 1536]
  · show _ = bandAt _ _ _ (384 + k.val) _
    rw [bandAt, if_neg (by omega), Nat.add_sub_cancel_left, Nat.add_assoc 1792]

end Cert.Mix

end
-- ==== Proof.Mix.Cat.lean ====
/- The tile's stores together hold its pooled and attended rows. -/
module

public import proofs.«01_k».proof.Proof.Mix.Pieces
public import proofs.«01_k».proof.Proof.Mix.Band

@[expose] public section

set_option maxRecDepth 16384

noncomputable section

namespace Cert.Mix

open Cert.KernelIdeal Cert.KernelIdeal.Gen Idealize.ShloMosaic Idealize.ShloMosaic.TcCoe
variable [Facts]
open Facts

theorem catAt_attn (U UC : ℕ → ℕ → EReal) (Sk : ℕ → EReal) (wpA : ℕ → ℕ → ℕ → EReal) (psA : ℕ → EReal) (b T h j l : ℕ)
    (hl : l < 128) (hj : j < 2) : catAt U UC Sk wpA psA b T (512 + 256 * h + 128 * j + l)
      = headAt U UC Sk b T (4 * h + (2 * j + if l < 64 then 0 else 1)) l := by
  have e₁ : (512 + 256 * h + 128 * j + l - 512) % 128 = l := by omega
  have e₂ : (512 + 256 * h + 128 * j + l - 512) / 128 = 2 * h + j := by omega
  have e₃ : 2 * (2 * h + j) + (if l < 64 then 0 else 1) = 4 * h + (2 * j + if l < 64 then 0 else 1) := by omega
  unfold catAt headOf
  rw [if_neg (by omega), e₁, e₂, e₃]

theorem mem_block {p q : ℕ} (inb : ∀ k, (![p, q] : Fin 2 → ℕ) k + S128x128.size k ≤ S1024x1024.size k) (y : S1024x1024.Idx)
    (h₀ : p ≤ (y 0).val ∧ (y 0).val < p + 128) (h₁ : q ≤ (y 1).val ∧ (y 1).val < q + 128) :
    y ∈ (Rect.unit (s := S1024x1024) ![p, q] S128x128.size inb).set :=
  Rect.mem_set_unit.mpr fun k => match k with
    | 0 => h₀
    | 1 => h₁

/-- The staged blocks are those of tile `n` of sequence `b`. -/
structure TileOf (U UC : ℕ → ℕ → EReal) (Sk : ℕ → EReal) (wpA : ℕ → ℕ → ℕ → EReal) (psA : ℕ → EReal) (b n : ℕ)
    (x0 : Vec Ideal S8 .f32) (x2 : Vec Ideal S1024x1024 .bf16) (x3 : Vec Ideal S16x512 .bf16) (x4 : Vec Ideal S1024x512 .bf16)
    (x5 : Vec Ideal S16x512 .bf16) (x6 : Vec Ideal S128x512 .bf16) (x7 : Vec Ideal S1024x512 .bf16) (x8 : Vec Ideal S128x512 .bf16)
    (x9 : Vec Ideal S256x512 .bf16) (x11 : Vec Ideal S4x128x160 .bf16) (x12 : Vec Ideal S2x512x128 .f32)
    (x13 : Vec Ideal S4x128x128 .bf16) (x14 : Vec Ideal S1x512 .f32) : Prop where
  hn : n < 8
  sinks : ∀ k, x0 (ix1 k) = Sk k.val
  q : ∀ r d, x2 (ix2 r d) = U (8192 * b + (1024 * n + r.val)) d.val
  pprev : n ≠ 0 → ∀ r d, x3 (ix2 r d) = U (8192 * b + (1024 * n + r.val - 16)) (1024 + d.val)
  pcur : ∀ r d, x4 (ix2 r d) = U (8192 * b + (1024 * n + r.val)) (1024 + d.val)
  pnext : n ≠ 7 → ∀ r d, x5 (ix2 r d) = U (8192 * b + (1024 * n + 1024 + r.val)) (1024 + d.val)
  kvprev : n ≠ 0 → ∀ r d, x6 (ix2 r d) = U (8192 * b + (1024 * n + r.val - 128)) (1536 + d.val)
  kvcur : ∀ r d, x7 (ix2 r d) = U (8192 * b + (1024 * n + r.val)) (1536 + d.val)
  kvnext : n ≠ 7 → ∀ r d, x8 (ix2 r d) = U (8192 * b + (1024 * n + 1024 + r.val)) (1536 + d.val)
  kvctx : ∀ r d, x9 (ix2 r d) = UC (256 * b + r.val) (1536 + d.val)
  band : ∀ g r j, x11 (ix3 g r j) = if r.val + 16 ≤ j.val + 2 ^ g.val ∧ j.val < r.val + 2 ^ g.val + 16 then 1 else 0
  before : ∀ R k, x12 (ix3 0 R k) = if R.val % 128 ≤ k.val then 0 else ⊥
  after : ∀ R k, x12 (ix3 1 R k) = if k.val ≤ R.val % 128 then 0 else ⊥
  wpool : ∀ g x d, x13 (ix3 g x d) = wpA g.val x.val d.val
  pscale : ∀ d, x14 (ix2 0 d) = psA d.val

section

variable (i : grid0.Coords) {arg1 : Memref sig .tc .smem S8 .f32} (harg1 : arg1.IsWhole) {arg3 : Memref sig .tc .vmem S1024x1024 .bf16}
  (harg3 : arg3.IsWhole) {arg4 : Memref sig .tc .vmem S16x512 .bf16} (harg4 : arg4.IsWhole) {arg5 : Memref sig .tc .vmem S1024x512 .bf16}
  (harg5 : arg5.IsWhole) {arg6 : Memref sig .tc .vmem S16x512 .bf16} (harg6 : arg6.IsWhole) {arg7 : Memref sig .tc .vmem S128x512 .bf16}
  (harg7 : arg7.IsWhole) {arg8 : Memref sig .tc .vmem S1024x512 .bf16} (harg8 : arg8.IsWhole) {arg9 : Memref sig .tc .vmem S128x512 .bf16}
  (harg9 : arg9.IsWhole) {arg10 : Memref sig .tc .vmem S256x512 .bf16} (harg10 : arg10.IsWhole) {arg12 : Memref sig .tc .vmem S4x128x160 .bf16}
  (harg12 : arg12.IsWhole) {arg13 : Memref sig .tc .vmem S2x512x128 .f32} (harg13 : arg13.IsWhole) {arg14 : Memref sig .tc .vmem S4x128x128 .bf16}
  (harg14 : arg14.IsWhole) {arg15 : Memref sig .tc .vmem S1x512 .f32} (harg15 : arg15.IsWhole)
  {x0 : Vec Ideal S8 .f32} {x2 : Vec Ideal S1024x1024 .bf16} {x3 : Vec Ideal S16x512 .bf16} {x4 : Vec Ideal S1024x512 .bf16}
  {x5 : Vec Ideal S16x512 .bf16} {x6 : Vec Ideal S128x512 .bf16} {x7 : Vec Ideal S1024x512 .bf16} {x8 : Vec Ideal S128x512 .bf16}
  {x9 : Vec Ideal S256x512 .bf16} {x11 : Vec Ideal S4x128x160 .bf16} {x12 : Vec Ideal S2x512x128 .f32}
  {x13 : Vec Ideal S4x128x128 .bf16} {x14 : Vec Ideal S1x512 .f32}
  {U UC : ℕ → ℕ → EReal} {Sk : ℕ → EReal} {wpA : ℕ → ℕ → ℕ → EReal} {psA : ℕ → EReal} {b n : ℕ}
  (H : TileOf U UC Sk wpA psA b n x0 x2 x3 x4 x5 x6 x7 x8 x9 x11 x12 x13 x14) (htile : tile i = BitVec.ofNat 32 n)

include H htile

theorem isFirst_eq : isFirst i = if n = 0 then 1#1 else 0#1 := by
  unfold isFirst; rw [htile]
  exact (by decide : ∀ n : Fin 8, Scalar.cmpi .eq (BitVec.ofNat 32 n.val) 0#32 = if n.val = 0 then 1#1 else 0#1) ⟨n, H.hn⟩

theorem isLast_eq : isLast i = if n = 7 then 1#1 else 0#1 := by
  unfold isLast; rw [htile]
  exact (by decide : ∀ n : Fin 8, Scalar.cmpi .eq (BitVec.ofNat 32 n.val) 7#32 = if n.val = 7 then 1#1 else 0#1) ⟨n, H.hn⟩

theorem biasP_apply (s : ℕ) (R : Fin 512) (k : Fin 128) : biasP i harg13 x12 s (ix2 R k) = maskP n s R.val k.val := by
  have e : k0_pay136 (rd harg13 x12 ![0, 0, 0] S1x512x128.size (fits3 (by decide) (by decide) (by decide))) (ix2 R k)
      = if R.val % 128 ≤ k.val then 0 else ⊥ := by
    pointwise [k0_pay136]
    rw [← H.before R k]
    refine (rd3_apply harg13 x12 _ 0 R k (by decide) (by omega) (by omega)).trans (congrArg x12 ?_)
    congr 1 <;> exact Fin.ext (Nat.zero_add _)
  unfold biasP maskP
  by_cases hs : s = 0
  · subst hs
    show k0_pay138 _ _ (ix2 R k) = _
    unfold k0_pay138
    rw [isFirst_eq i H htile]
    by_cases h0 : n = 0
    · rw [if_pos h0, if_pos ⟨rfl, h0⟩]; rfl
    · rw [if_neg h0, if_neg (fun h => h0 h.2)]; exact e
  · rw [if_neg (fun h => hs h.1), show Nat.beq s 0 = false from Bool.eq_false_iff.mpr fun h => hs (Nat.eq_of_beq_eq_true h)]
    exact e

theorem biasN_apply (s : ℕ) (R : Fin 512) (k : Fin 128) : biasN i harg13 x12 s (ix2 R k) = maskN n s R.val k.val := by
  have e : k0_pay137 (rd harg13 x12 ![1, 0, 0] S1x512x128.size (fits3 (by decide) (by decide) (by decide))) (ix2 R k)
      = if k.val ≤ R.val % 128 then 0 else ⊥ := by
    pointwise [k0_pay137]
    rw [← H.after R k]
    refine (rd3_apply harg13 x12 _ 0 R k (by decide) (by omega) (by omega)).trans (congrArg x12 ?_)
    congr 1 <;> exact Fin.ext (Nat.zero_add _)
  unfold biasN maskN
  by_cases hs : s = 7
  · subst hs
    show k0_pay139 _ _ (ix2 R k) = _
    unfold k0_pay139
    rw [isLast_eq i H htile]
    by_cases h0 : n = 7
    · rw [if_pos h0, if_pos ⟨rfl, h0⟩]; rfl
    · rw [if_neg h0, if_neg (fun h => h0 h.2)]; exact e
  · rw [if_neg (fun h => hs h.1), show Nat.beq s 7 = false from Bool.eq_false_iff.mpr fun h => hs (Nat.eq_of_beq_eq_true h)]
    exact e

theorem attnPiece_apply (h : Fin 2) (s : Fin 8) (j : Fin 2) (r l : Fin 128) :
    (attnPiece i harg1 harg3 harg7 harg8 harg9 harg10 harg13 x0 x2 x6 x7 x8 x9 x12 h s j).2 (ix2 r l)
      = headAt U UC Sk b (1024 * n + (128 * s.val + r.val)) (4 * h.val + (2 * j.val + if l.val < 64 then 0 else 1)) l.val := by
  have hh := h.isLt
  have hs := s.isLt
  have hj := j.isLt
  refine attnPair_head U UC Sk b n s.val h.val j.val H.hn hs hh hj rfl rfl rfl ?_ ?_ ?_ ?_ ?_ ?_ ?_ ?_ ?_ ?_ ?_ ?_
    (biasP_apply i harg13 H htile s.val) (biasN_apply i harg13 H htile s.val) ?_ ?_ ?_ ?_ r l
  · intro i l; rw [rd2_apply _ _ _ _ _ (by omega) (by omega), H.q]
  · intro i l; rw [rd2_apply _ _ _ _ _ (by omega) (by omega), H.q]; dsimp only; rw [Nat.add_assoc (512 * h.val)]
  · intro i l; rw [rd2_apply _ _ _ _ _ (by omega) (by omega), H.q]; dsimp only; rw [Nat.add_assoc (512 * h.val)]
  · intro i l; rw [rd2_apply _ _ _ _ _ (by omega) (by omega), H.q]; dsimp only; rw [Nat.add_assoc (512 * h.val)]
  · intro h0 i l; rw [rd2_apply _ _ _ _ _ (by omega) (by omega), H.kvprev h0]; dsimp only; rw [Nat.zero_add, Nat.add_assoc 1536]
  · intro i l; rw [rd2_apply _ _ _ _ _ (by omega) (by omega), H.kvcur]; dsimp only; rw [Nat.zero_add, Nat.add_assoc 1536]
  · intro h0 i l; rw [rd2_apply _ _ _ _ _ (by omega) (by omega), H.kvnext h0]; dsimp only; rw [Nat.zero_add, Nat.add_assoc 1536]
  · intro i l; rw [rd2_apply _ _ _ _ _ (by omega) (by omega), H.kvctx]; dsimp only; rw [Nat.zero_add, Nat.add_assoc 1536]
  · intro h0 i l; rw [rd2_apply _ _ _ _ _ (by omega) (by omega), H.kvprev h0]; congr 1 <;> dsimp only <;> omega
  · intro i l; rw [rd2_apply _ _ _ _ _ (by omega) (by omega), H.kvcur]; congr 1 <;> dsimp only <;> omega
  · intro h0 i l; rw [rd2_apply _ _ _ _ _ (by omega) (by omega), H.kvnext h0]; congr 1 <;> dsimp only <;> omega
  · intro i l; rw [rd2_apply _ _ _ _ _ (by omega) (by omega), H.kvctx]; congr 1 <;> dsimp only <;> omega
  · exact (rd1_first _ _ _ _ (by omega)).trans (H.sinks _)
  · exact (rd1_first _ _ _ _ (by omega)).trans (H.sinks _)
  · exact (rd1_first _ _ _ _ (by omega)).trans (H.sinks _)
  · exact (rd1_first _ _ _ _ (by omega)).trans (H.sinks _)

theorem poolPiece_apply (s : Fin 8) (g : Fin 4) (r d : Fin 128) :
    (poolPiece i harg4 harg5 harg6 harg12 harg14 harg15 x3 x4 x5 x11 x13 x14 s g).2 (ix2 r d)
      = poolAt U wpA psA b (1024 * n + (128 * s.val + r.val)) g.val d.val := by
  have hs := s.isLt
  have hg := g.isLt
  show poolBlk (tile i) _ _ _ _ _ _ _ _ _ _ (ix2 r d) = _
  rw [htile]
  refine poolBlk_apply U wpA psA b n s.val g.val H.hn hs hg _ _ _ _ _ _
    (pext_apply _ _ _ _ _ U b n H.hn (isFirst_eq i H htile) (isLast_eq i H htile) ?_ ?_ ?_) ?_ ?_ ?_ ?_ r d
  · intro h0 r d; rw [rd2_apply _ _ _ _ _ (by omega) (by omega), H.pprev h0]; dsimp only; rw [Nat.zero_add, Nat.zero_add]
  · intro r d; rw [rd2_apply _ _ _ _ _ (by omega) (by omega), H.pcur]; dsimp only; rw [Nat.zero_add, Nat.zero_add]
  · intro h0 r d; rw [rd2_apply _ _ _ _ _ (by omega) (by omega), H.pnext h0]; dsimp only; rw [Nat.zero_add, Nat.zero_add]
  · intro r j; rw [rd3_apply _ _ _ _ _ _ (by show g.val + 0 < 4; omega) (by omega) (by omega), H.band]; simp only [Nat.zero_add]; rfl
  · intro r d; rw [rd2_apply _ _ _ _ _ (by omega) (by omega), H.pcur]
  · intro x d; rw [rd3_apply _ _ _ _ _ _ (by show g.val + 0 < 4; omega) (by omega) (by omega), H.wpool]; simp only [Nat.zero_add]; rfl
  · intro d; refine (rd2_apply _ _ _ _ _ (by decide) (by omega)).trans ?_
    exact H.pscale ⟨128 * g.val + d.val, by omega⟩

/-- The scratch after the stores: every row of the tile, pooled and attended. -/
theorem cat_apply (y : S1024x1024.Idx) :
    View.canon (pieces i harg1 harg3 harg4 harg5 harg6 harg7 harg8 harg9 harg10 harg12 harg13 harg14 harg15 x0 x2 x3 x4 x5 x6 x7 x8 x9 x11 x12 x13 x14) y
      = catAt U UC Sk wpA psA b (1024 * n + (y 0).val) (y 1).val := by
  refine View.canon_apply_of_pieces (Val := Elt Ideal) (S := S1024x1024) (e := .bf16) (fun y : S1024x1024.Idx => (catAt U UC Sk wpA psA b (1024 * n + (y 0).val) (y 1).val : Elt Ideal .bf16)) _ ?_ y ?_
  · intro p hp x
    rcases mem_pieces i harg1 harg3 harg4 harg5 harg6 harg7 harg8 harg9 harg10 harg12 harg13 harg14 harg15 x0 x2 x3 x4 x5 x6 x7 x8 x9 x11 x12 x13 x14 hp
      with ⟨h, s, j, rfl⟩ | ⟨s, g, rfl⟩
    · obtain ⟨r, l, rfl⟩ : ∃ r l : Fin 128, x = ix2 r l := ⟨x 0, x 1, eq_ix2 x⟩
      refine (attnPiece_apply i harg1 harg3 harg7 harg8 harg9 harg10 harg13 H htile h s j r l).trans ?_
      show _ = catAt U UC Sk wpA psA b (1024 * n + (128 * s.val + 1 * r.val)) (512 + 256 * h.val + 128 * j.val + 1 * l.val)
      rw [Nat.one_mul, Nat.one_mul, catAt_attn _ _ _ _ _ _ _ _ _ _ l.isLt j.isLt]
    · obtain ⟨r, d, rfl⟩ : ∃ r d : Fin 128, x = ix2 r d := ⟨x 0, x 1, eq_ix2 x⟩
      refine (poolPiece_apply i harg4 harg5 harg6 harg12 harg14 harg15 H htile s g r d).trans ?_
      show _ = catAt U UC Sk wpA psA b (1024 * n + (128 * s.val + 1 * r.val)) (128 * g.val + 1 * d.val)
      rw [Nat.one_mul, Nat.one_mul, catAt, if_pos (by omega), show (128 * g.val + d.val) % 128 = d.val by omega,
        show (128 * g.val + d.val) / 128 = g.val by omega]
  · have h0 : (y 0).val < 1024 := (y 0).isLt
    have h1 : (y 1).val < 1024 := (y 1).isLt
    by_cases c : (y 1).val < 512
    · refine ⟨_, pool_mem i harg1 harg3 harg4 harg5 harg6 harg7 harg8 harg9 harg10 harg12 harg13 harg14 harg15 x0 x2 x3 x4 x5 x6 x7 x8 x9 x11 x12 x13 x14
        ⟨(y 0).val / 128, by omega⟩ ⟨(y 1).val / 128, by omega⟩, ?_⟩
      exact mem_block (fits2 (by dsimp only; omega) (by dsimp only; omega)) y (by dsimp only; omega) (by dsimp only; omega)
    · refine ⟨_, attn_mem i harg1 harg3 harg4 harg5 harg6 harg7 harg8 harg9 harg10 harg12 harg13 harg14 harg15 x0 x2 x3 x4 x5 x6 x7 x8 x9 x11 x12 x13 x14
        ⟨((y 1).val - 512) / 256, by omega⟩ ⟨(y 0).val / 128, by omega⟩ ⟨((y 1).val - 512) % 256 / 128, by omega⟩, ?_⟩
      exact mem_block (fits2 (by dsimp only; omega) (by dsimp only; omega)) y (by dsimp only; omega) (by dsimp only; omega)

end

end Cert.Mix

end
-- ==== Proof.Mix.Layer.lean ====
/- The layer's result over its ten arguments, as one function of a row and a column. -/
module

public import proofs.«01_k».proof.Proof.Mix.Spec

@[expose] public section

noncomputable section

namespace Cert.Mix

open Idealize.ShloMosaic

/-- The layer: pooled and attended columns, projected, added to the input and normalised. -/
def layer (x : Shape.Idx ⟨2, ![65536, 1024]⟩ → EReal) (u : Shape.Idx ⟨2, ![65536, 2048]⟩ → EReal) (uc : Shape.Idx ⟨2, ![2048, 2048]⟩ → EReal)
    (md : Shape.Idx ⟨3, ![8, 3, 1024]⟩ → EReal) (sk : Shape.Idx ⟨1, ![8]⟩ → EReal) (wp : Shape.Idx ⟨3, ![4, 128, 128]⟩ → EReal)
    (ps : Shape.Idx ⟨2, ![1, 512]⟩ → EReal) (wo : Shape.Idx ⟨2, ![1024, 1024]⟩ → EReal) (g b : Shape.Idx ⟨2, ![1, 1024]⟩ → EReal) (r c : ℕ) : EReal :=
  normAt (resid (at2 x r) (at3 md (r / 8192) 2) (catAt (at2 u) (at2 uc) (at1 sk) (at3 wp) (at2 ps 0) (r / 8192) (r % 8192)) (at2 wo)) (at2 g 0) (at2 b 0) c

theorem resid_congr {xr xr' md md' cat cat' : ℕ → EReal} {wo wo' : ℕ → ℕ → EReal} (c : ℕ) (h1 : xr c = xr' c) (h2 : md c = md' c)
    (h3 : ∀ k, k < 1024 → cat k = cat' k) (h4 : ∀ k, k < 1024 → wo k c = wo' k c) : resid xr md cat wo c = resid xr' md' cat' wo' c := by
  unfold resid
  rw [h1, h2, Finset.sum_congr rfl fun k _ => by rw [h3 k.val k.isLt, h4 k.val k.isLt]]

theorem mean_congr {z z' : ℕ → EReal} (h : ∀ c, c < 1024 → z c = z' c) : mean z = mean z' := by
  unfold mean
  rw [Finset.sum_congr rfl fun c _ => h c.val c.isLt]

theorem normAt_congr {z z' g g' b b' : ℕ → EReal} (c : ℕ) (hc : c < 1024) (h : ∀ c, c < 1024 → z c = z' c) (hg : g c = g' c) (hb : b c = b' c) :
    normAt z g b c = normAt z' g' b' c := by
  unfold normAt
  have hm := mean_congr h
  have hv : (mean fun k => (z k - mean z) * (z k - mean z)) = mean fun k => (z' k - mean z') * (z' k - mean z') :=
    mean_congr fun k hk => by rw [h k hk, hm]
  rw [hv, hm, h c hc, hg, hb]

end Cert.Mix

end
-- ==== Proof.Mix.Out.lean ====
/- The output projection, the residual and the normalisation of a tile, as the kernel's last stores compute them, read at an index. -/
module

public import proofs.«01_k».proof.Proof.Gen.KernelIdeal.Skeleton
public import proofs.«01_k».proof.Proof.Mix.Spec

@[expose] public section

set_option maxRecDepth 16384

noncomputable section

namespace Cert.Mix

open Cert.KernelIdeal Cert.KernelIdeal.Gen Idealize.ShloMosaic
variable [Facts]
open Facts

/-- The tile's residual: the scaled input plus the gated output projection. -/
def zBlk (x : Vec Ideal S1024x1024 .f32) (md : Vec Ideal S1x1x1024 .f32) (cat wo : FVec Ideal S1024x1024 .bf16) : FVec Ideal S1024x1024 .f32 :=
  addf (mulf (broadcast S1024x1024 (Scalar.ofBits .f32 1068827891#32 : Ideal .f32)) x)
    (mulf (broadcastTo S1024x1024 (shapeCast S1x1024 md shapeCasts_S1x1x1024_S1x1024 : FVec Ideal S1x1024 .f32) broadcasts_S1x1024_S1024x1024)
      (matmul dot_S1024x1024_S1024x1024_S1024x1024_1_0_0_1_n_n none cat wo (constant S1024x1024 .f32 0x00000000#32)))

/-- The rows' means. -/
def meanBlk (z : FVec Ideal S1024x1024 .f32) : FVec Ideal S1024x1 .f32 :=
  divf (shapeCast S1024x1 (multiReduction .add [1] S1024 z 0x00000000#32 reduces_S1024x1024_S1024 (.inl rfl) rfl : FVec Ideal S1024 .f32) shapeCasts_S1024_S1024x1)
    (broadcast S1024x1 (Scalar.ofBits .f32 1149239296#32 : Ideal .f32))

/-- The tile's residual, its rows centred. -/
def centred (z : FVec Ideal S1024x1024 .f32) : FVec Ideal S1024x1024 .f32 :=
  subf z (broadcastTo S1024x1024 (meanBlk z) broadcasts_S1024x1_S1024x1024)

/-- The tile's stored block. -/
def outBlk (z : FVec Ideal S1024x1024 .f32) (g b : Vec Ideal S1x1024 .f32) : FVec Ideal S1024x1024 .f32 :=
  k0_pay1 (centred z) (meanBlk (mulf (centred z) (centred z))) (Scalar.ofBits .f32 925353388#32 : Ideal .f32) g b

theorem zBlk_apply (x : Vec Ideal S1024x1024 .f32) (md : Vec Ideal S1x1x1024 .f32) (cat wo : FVec Ideal S1024x1024 .bf16) (r c : Fin 1024) :
    zBlk x md cat wo (ix2 r c) = resid (fun c => at2 x r.val c) (fun c => at3 md 0 0 c) (fun k => at2 cat r.val k) (at2 wo) c.val := by
  unfold resid
  have hx := at2_ix2 x r c
  have hm := at3_ix3 md 0 0 c
  have hs (k : Fin 1024) : cat (ix2 r k) * wo (ix2 k c) = at2 cat r.val k.val * at2 wo k.val c.val := by
    rw [at2_ix2 cat r k, at2_ix2 wo k c]
  pointwise [zBlk]
  simp only [hx, hm, hs]
  rfl

theorem meanBlk_apply (z : FVec Ideal S1024x1024 .f32) (r : Fin 1024) : meanBlk z (ix2 r 0) = mean fun c => at2 z r.val c := by
  unfold mean
  pointwise [meanBlk]
  simp only [at2_ix2 z]
  try rfl

theorem centred_apply (z : FVec Ideal S1024x1024 .f32) (r c : Fin 1024) :
    centred z (ix2 r c) = at2 z r.val c.val - mean fun c => at2 z r.val c := by
  rw [← meanBlk_apply]
  pointwise [centred]
  rw [at2_ix2 z]

theorem outBlk_apply (z : FVec Ideal S1024x1024 .f32) (g b : Vec Ideal S1x1024 .f32) (r c : Fin 1024) :
    outBlk z g b (ix2 r c) = normAt (fun c => at2 z r.val c) (fun c => at2 g 0 c) (fun c => at2 b 0 c) c.val := by
  have e : meanBlk (mulf (centred z) (centred z)) (ix2 r 0)
      = mean fun k => (at2 z r.val k - mean fun c => at2 z r.val c) * (at2 z r.val k - mean fun c => at2 z r.val c) := by
    rw [meanBlk_apply]
    unfold mean
    congr 1
    refine Finset.sum_congr rfl fun k _ => ?_
    refine (at2_ix2 (mulf (centred z) (centred z) : FVec Ideal S1024x1024 .f32) r k).symm.trans ?_
    show centred z (ix2 r k) * centred z (ix2 r k) = _
    rw [centred_apply]; rfl
  unfold normAt
  rw [← e]
  pointwise [outBlk, k0_pay1]
  rw [centred_apply, at2_ix2 g, at2_ix2 b]
  rfl

end Cert.Mix

end
-- ==== Proof.Mix.Body.lean ====
/- What one grid point of the kernel writes: its tile of rows, mixed, projected, added and normalised. -/
module

public import proofs.«01_k».proof.Proof.Mix.Cat
public import proofs.«01_k».proof.Proof.Mix.Layer
public import proofs.«01_k».proof.Proof.Mix.Out

@[expose] public section

set_option maxRecDepth 16384

noncomputable section

namespace Cert.Mix

open Cert.KernelIdeal Cert.KernelIdeal.Gen Idealize.ShloMosaic Idealize.ShloMosaic.TcCoe
variable [Facts]
open Facts

theorem zeros2 : (![0, 0] : Fin 2 → ℕ) = fun _ => 0 := funext fun a => match a with
  | 0 => rfl
  | 1 => rfl

theorem rd2_whole {sp : Space} {n m : ℕ} {e : EltTy} {arg : Memref sig .tc sp ⟨2, ![n, m]⟩ e} (h : arg.IsWhole) (x : Vec Ideal ⟨2, ![n, m]⟩ e)
    (inb : ∀ k, (![0, 0] : Fin 2 → ℕ) k + (![n, m] : Fin 2 → ℕ) k ≤ (![n, m] : Fin 2 → ℕ) k) (i : Fin n) (j : Fin m) :
    rd h x ![0, 0] ![n, m] inb (ix2 i j) = x (ix2 i j) := by
  rw [rd2_apply h x inb i j (by omega) (by omega)]
  congr 1
  congr 1 <;> exact Fin.ext (Nat.zero_add _)

/-- A tile's result, from its staged blocks. -/
theorem out_apply (c : Dev nD) (i : grid0.Coords) (arg1 : Memref sig .tc .smem S8 .f32) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S16x512 .bf16) (harg4 : arg4.IsWhole) (arg5 : Memref sig .tc .vmem S1024x512 .bf16) (harg5 : arg5.IsWhole) (arg6 : Memref sig .tc .vmem S16x512 .bf16) (harg6 : arg6.IsWhole) (arg7 : Memref sig .tc .vmem S128x512 .bf16) (harg7 : arg7.IsWhole) (arg8 : Memref sig .tc .vmem S1024x512 .bf16) (harg8 : arg8.IsWhole) (arg9 : Memref sig .tc .vmem S128x512 .bf16) (harg9 : arg9.IsWhole) (arg10 : Memref sig .tc .vmem S256x512 .bf16) (harg10 : arg10.IsWhole) (arg11 : Memref sig .tc .vmem S1x3x1024 .f32) (harg11 : arg11.IsWhole) (arg12 : Memref sig .tc .vmem S4x128x160 .bf16) (harg12 : arg12.IsWhole) (arg13 : Memref sig .tc .vmem S2x512x128 .f32) (harg13 : arg13.IsWhole) (arg14 : Memref sig .tc .vmem S4x128x128 .bf16) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x1024 .f32) (harg19 : arg19.IsWhole) (arg20 : Memref sig .tc .vmem S1024x1024 .bf16) (harg20 : arg20.IsWhole) (x0 : Vec Ideal S8 .f32) (x1 : Vec Ideal S1024x1024 .f32) (x2 : Vec Ideal S1024x1024 .bf16) (x3 : Vec Ideal S16x512 .bf16) (x4 : Vec Ideal S1024x512 .bf16) (x5 : Vec Ideal S16x512 .bf16) (x6 : Vec Ideal S128x512 .bf16) (x7 : Vec Ideal S1024x512 .bf16) (x8 : Vec Ideal S128x512 .bf16) (x9 : Vec Ideal S256x512 .bf16) (x10 : Vec Ideal S1x3x1024 .f32) (x11 : Vec Ideal S4x128x160 .bf16) (x12 : Vec Ideal S2x512x128 .f32) (x13 : Vec Ideal S4x128x128 .bf16) (x14 : Vec Ideal S1x512 .f32) (x15 : Vec Ideal S1024x1024 .bf16) (x16 : Vec Ideal S1x1024 .f32) (x17 : Vec Ideal S1x1024 .f32)
    {U UC : ℕ → ℕ → EReal} {Sk : ℕ → EReal} {wpA : ℕ → ℕ → ℕ → EReal} {psA : ℕ → EReal} {b n : ℕ}
    (H : TileOf U UC Sk wpA psA b n x0 x2 x3 x4 x5 x6 x7 x8 x9 x11 x12 x13 x14) (htile : tile i = BitVec.ofNat 32 n) (r k : Fin 1024) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 (ix2 r k)
      = normAt (resid (fun c => at2 x1 r.val c) (fun c => at3 x10 0 2 c) (catAt U UC Sk wpA psA b (1024 * n + r.val)) (at2 x15))
          (fun c => at2 x16 0 c) (fun c => at2 x17 0 c) k.val := by
  have hcat (p q : Fin 1024) : (arg20.view.readCov (pieces i harg1 harg3 harg4 harg5 harg6 harg7 harg8 harg9 harg10 harg12 harg13 harg14 harg15 x0 x2 x3 x4 x5 x6 x7 x8 x9 x11 x12 x13 x14)
      (Rect.unit ![0, 0] S1024x1024.size (fits2 (by decide) (by decide))).toLoadRect) (ix2 p q) = catAt U UC Sk wpA psA b (1024 * n + p.val) q.val := by
    rw [View.readCov_eq_canon']
    refine (cat_apply i harg1 harg3 harg4 harg5 harg6 harg7 harg8 harg9 harg10 harg12 harg13 harg14 harg15 H htile _).trans ?_
    show catAt U UC Sk wpA psA b (1024 * n + (0 + 1 * p.val)) (0 + 1 * q.val) = _
    rw [Nat.zero_add, Nat.zero_add, Nat.one_mul, Nat.one_mul]
  unfold out0_A_18 kernelRun0_A
  dsimp only
  rw [View.read_writes_junk_apply_eq_canon, View.canon_unit_zero zeros2]
  dsimp only [kernelRun0_A.sl.v2229, kernelRun0_A.sl.v2227, kernelRun0_A.sl.v2226, kernelRun0_A.sl.v2225, kernelRun0_A.sl.v2224, kernelRun0_A.sl.v2223, kernelRun0_A.sl.v2222, kernelRun0_A.sl.v2221, kernelRun0_A.sl.v2220, kernelRun0_A.sl.v2219, kernelRun0_A.sl.cst_1269, kernelRun0_A.sl.cst_1272]
  refine (outBlk_apply _ _ _ r k).trans ?_
  refine normAt_congr _ k.isLt (fun c hc => ?_) ?_ ?_
  · rw [at2_of _ r.isLt hc]
    dsimp only [kernelRun0_A.sl.v2218, kernelRun0_A.sl.v2217, kernelRun0_A.sl.v2216, kernelRun0_A.sl.v2215, kernelRun0_A.sl.v2213, kernelRun0_A.sl.v2212, kernelRun0_A.sl.v2210, kernelRun0_A.sl.v2208, kernelRun0_A.sl.cst_1261, kernelRun0_A.sl.cst_1264]
    rw [pieces_eq]
    refine (zBlk_apply _ _ _ _ r ⟨c, hc⟩).trans ?_
    refine resid_congr c ?_ ?_ (fun q hq => ?_) (fun q hq => ?_)
    · rw [at2_of _ r.isLt hc, at2_of _ r.isLt hc]
      exact rd2_whole harg2 x1 _ _ _
    · have e := at3_ix3 (rd harg11 x10 ![0, 2, 0] S1x1x1024.size (fits3 (by decide) (by decide) (by decide)) : Vec Ideal S1x1x1024 .f32) 0 0 ⟨c, hc⟩
      refine e.symm.trans ((rd3_apply harg11 x10 _ _ _ _ (by decide) (by decide) (by omega)).trans ?_)
      refine (congrArg x10 ?_).trans (at3_ix3 x10 0 2 ⟨c, hc⟩)
      congr 1
      exact Fin.ext (Nat.zero_add _)
    · rw [at2_of _ r.isLt hq]; exact hcat r ⟨q, hq⟩
    · rw [at2_of _ hq hc, at2_of _ hq hc]
      exact rd2_whole harg16 x15 _ _ _
  · rw [at2_of _ (by decide) k.isLt, at2_of _ (by decide) k.isLt]
    exact rd2_whole harg17 x16 _ _ _
  · rw [at2_of _ (by decide) k.isLt, at2_of _ (by decide) k.isLt]
    exact rd2_whole harg18 x17 _ _ _

end Cert.Mix

end
-- ==== Proof.Mix.Blocks.lean ====
module

public import proofs.«01_k».proof.Proof.Mix.Cat
public import proofs.«01_k».proof.Proof.Gen.KernelIdeal.Value
public import Idealize.ShloMosaic.Lib.Claim
public import Idealize.ShloMosaic.Lib.Pipeline.ValueKit
public import Idealize.ShloMosaic.Lib.Pointwise

/-! The staged blocks of a grid point, read off the arguments. -/

@[expose] public section

set_option maxRecDepth 16384

noncomputable section

namespace Cert.Mix

open Cert.KernelIdeal Cert.KernelIdeal.Gen Idealize.ShloMosaic Idealize.ShloMosaic.TcCoe

variable (m : (ℓ : Loc nD τ sig) → Buf (Elt Ideal) ℓ) (c : Dev nD)

/-- Where each staged block sits, at every grid point. -/
theorem index_at : ∀ t : Fin grid0.N,
    win0_0.index t = ![0] ∧ win0_1.index t = ![t.val, 0] ∧ win0_2.index t = ![t.val, 0] ∧
    win0_3.index t = ![64 * t.val - 1, 2] ∧ win0_4.index t = ![t.val, 2] ∧
    win0_5.index t = ![min (64 * t.val + 64) 4095, 2] ∧ win0_6.index t = ![8 * t.val - 1, 3] ∧
    win0_7.index t = ![t.val, 3] ∧ win0_8.index t = ![min (8 * t.val + 8) 511, 3] ∧
    win0_9.index t = ![t.val / 8, 3] ∧ win0_10.index t = ![t.val / 8, 0, 0] ∧ win0_11.index t = ![0, 0, 0] ∧
    win0_12.index t = ![0, 0, 0] ∧ win0_13.index t = ![0, 0, 0] ∧ win0_14.index t = ![0, 0] ∧
    win0_15.index t = ![0, 0] ∧ win0_16.index t = ![0, 0] ∧ win0_17.index t = ![0, 0] ∧ win0_18.index t = ![t.val, 0] := by
  decide +kernel

set_option maxHeartbeats 8000000 in
/-- What each grid point's staged blocks hold: `t / 8` is its sequence and `t % 8` its tile. -/
theorem tileOf (t : Fin cfg0.N) (hband : ∀ (g : Fin 4) (r : Fin 128) (j : Fin 160), (V m c main_v56 : Vec Ideal S4x128x160 .bf16) (ix3 g r j)
      = (if r.val + 16 ≤ j.val + 2 ^ g.val ∧ j.val < r.val + 2 ^ g.val + 16 then 1 else 0 : EReal))
    (hbefore : ∀ (R : Fin 512) (k : Fin 128), (V m c main_v83 : Vec Ideal S2x512x128 .f32) (ix3 0 R k) = (if R.val % 128 ≤ k.val then 0 else ⊥ : EReal))
    (hafter : ∀ (R : Fin 512) (k : Fin 128), (V m c main_v83 : Vec Ideal S2x512x128 .f32) (ix3 1 R k) = (if k.val ≤ R.val % 128 then 0 else ⊥ : EReal)) :
    TileOf (at2 (m (c.tc.loc main_arg1) : Vec Ideal S65536x2048 .bf16)) (at2 (m (c.tc.loc main_arg2) : Vec Ideal S2048x2048 .bf16))
      (at1 (m (c.tc.loc main_arg4) : Vec Ideal S8 .f32)) (at3 (m (c.tc.loc main_arg5) : Vec Ideal S4x128x128 .bf16))
      (at2 (m (c.tc.loc main_arg6) : Vec Ideal S1x512 .f32) 0) (t.val / 8) (t.val % 8)
      (iblk m c 0 t) (iblk m c 2 t) (iblk m c 3 t) (iblk m c 4 t) (iblk m c 5 t) (iblk m c 6 t) (iblk m c 7 t) (iblk m c 8 t)
      (iblk m c 9 t) (iblk m c 11 t) (iblk m c 12 t) (iblk m c 13 t) (iblk m c 14 t) := by
  have ht : t.val < 64 := t.isLt
  obtain ⟨e0, e1, e2, e3, e4, e5, e6, e7, e8, e9, e10, e11, e12, e13, e14, e15, e16, e17, e18⟩ := index_at t
  refine ⟨by omega, fun k => ?_, fun r d => ?_, fun hn r d => ?_, fun r d => ?_, fun hn r d => ?_, fun hn r d => ?_, fun r d => ?_,
    fun hn r d => ?_, fun r d => ?_, fun g r j => ?_, fun R k => ?_, fun R k => ?_, fun g x d => ?_, fun d => ?_⟩
  · rw [← at1_ix1]
    blk_ext [iblk, V, e0]
  · rw [at2_of _ (by omega) (by omega)]
    blk_ext [iblk, V, e2]
  · rw [at2_of _ (by omega) (by omega)]
    blk_ext [iblk, V, e3]
  · rw [at2_of _ (by omega) (by omega)]
    blk_ext [iblk, V, e4]
  · rw [at2_of _ (by omega) (by omega)]
    blk_ext [iblk, V, e5]
  · rw [at2_of _ (by omega) (by omega)]
    blk_ext [iblk, V, e6]
  · rw [at2_of _ (by omega) (by omega)]
    blk_ext [iblk, V, e7]
  · rw [at2_of _ (by omega) (by omega)]
    blk_ext [iblk, V, e8]
  · rw [at2_of _ (by omega) (by omega)]
    blk_ext [iblk, V, e9]
  · refine Eq.trans ?_ (hband g r j)
    blk_ext [iblk, e11]
  · refine Eq.trans ?_ (hbefore R k)
    blk_ext [iblk, e12]
  · refine Eq.trans ?_ (hafter R k)
    blk_ext [iblk, e12]
  · rw [← at3_ix3]
    blk_ext [iblk, V, e13]
  · rw [at2_of _ (by omega) d.isLt]
    blk_ext [iblk, V, e14]

/-- The rows of the layer's input. -/
theorem xr_at (t : Fin cfg0.N) (r : Fin 1024) {k : ℕ} (hk : k < 1024) :
    at2 (iblk m c 1 t : Vec Ideal S1024x1024 .f32) r.val k = at2 (m (c.tc.loc main_arg0) : Vec Ideal S65536x1024 .f32) (1024 * t.val + r.val) k := by
  have ht : t.val < 64 := t.isLt
  obtain ⟨e0, e1, e2, e3, e4, e5, e6, e7, e8, e9, e10, e11, e12, e13, e14, e15, e16, e17, e18⟩ := index_at t
  rw [at2_of _ r.isLt hk, at2_of _ (by omega) hk]
  blk_ext [iblk, V, e1]

/-- The modulation of the sequence. -/
theorem md_at (t : Fin cfg0.N) {k : ℕ} (hk : k < 1024) :
    at3 (iblk m c 10 t : Vec Ideal S1x3x1024 .f32) 0 2 k = at3 (m (c.tc.loc main_arg3) : Vec Ideal S8x3x1024 .f32) (t.val / 8) 2 k := by
  have ht : t.val < 64 := t.isLt
  obtain ⟨e0, e1, e2, e3, e4, e5, e6, e7, e8, e9, e10, e11, e12, e13, e14, e15, e16, e17, e18⟩ := index_at t
  have h1 := at3_ix3 (iblk m c 10 t : Vec Ideal S1x3x1024 .f32) 0 2 ⟨k, hk⟩
  have h2 := at3_ix3 (m (c.tc.loc main_arg3) : Vec Ideal S8x3x1024 .f32) ⟨t.val / 8, by omega⟩ 2 ⟨k, hk⟩
  refine h1.symm.trans (Eq.trans ?_ h2)
  blk_ext [iblk, V, e10]

/-- The output projection. -/
theorem wo_at (t : Fin cfg0.N) {q k : ℕ} (hq : q < 1024) (hk : k < 1024) :
    at2 (iblk m c 15 t : Vec Ideal S1024x1024 .bf16) q k = at2 (m (c.tc.loc main_arg7) : Vec Ideal S1024x1024 .bf16) q k := by
  obtain ⟨e0, e1, e2, e3, e4, e5, e6, e7, e8, e9, e10, e11, e12, e13, e14, e15, e16, e17, e18⟩ := index_at t
  rw [at2_of _ hq hk, at2_of _ hq hk]
  blk_ext [iblk, V, e15]

/-- The normalisation's gain. -/
theorem gain_at (t : Fin cfg0.N) {k : ℕ} (hk : k < 1024) :
    at2 (iblk m c 16 t : Vec Ideal S1x1024 .f32) 0 k = at2 (m (c.tc.loc main_arg8) : Vec Ideal S1x1024 .f32) 0 k := by
  obtain ⟨e0, e1, e2, e3, e4, e5, e6, e7, e8, e9, e10, e11, e12, e13, e14, e15, e16, e17, e18⟩ := index_at t
  rw [at2_of _ (by omega) hk, at2_of _ (by omega) hk]
  blk_ext [iblk, V, e16]

/-- The normalisation's offset. -/
theorem offset_at (t : Fin cfg0.N) {k : ℕ} (hk : k < 1024) :
    at2 (iblk m c 17 t : Vec Ideal S1x1024 .f32) 0 k = at2 (m (c.tc.loc main_arg9) : Vec Ideal S1x1024 .f32) 0 k := by
  obtain ⟨e0, e1, e2, e3, e4, e5, e6, e7, e8, e9, e10, e11, e12, e13, e14, e15, e16, e17, e18⟩ := index_at t
  rw [at2_of _ (by omega) hk, at2_of _ (by omega) hk]
  blk_ext [iblk, V, e17]

end Cert.Mix

end
-- ==== Proof.Mix.Tables.lean ====
module

public import proofs.«01_k».proof.Proof.Mix.Attn
public import proofs.«01_k».proof.Proof.Gen.KernelIdeal.Value
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.Tactic.WordOmega

/-! The two tables that the host computes before the launch. -/

@[expose] public section

set_option maxRecDepth 16384

noncomputable section

namespace Cert.Mix

open Cert.KernelIdeal Cert.KernelIdeal.Gen Idealize.ShloMosaic Idealize.ShloMosaic.TcCoe

variable (m : (ℓ : Loc nD τ sig) → Buf (Elt Ideal) ℓ) (c : Dev nD)

/-- A difference of words as a sum, for the arithmetic that reads sums. -/
theorem subi_eq (a b : BitVec 32) : IntOp.subi a b = IntOp.addi a (-b) := BitVec.sub_eq_add_neg a b

/-- A one-bit word is known by what it selects. -/
theorem bit_of_select {B : BitVec 1} {P : Prop} [Decidable P] (h : Scalar.select B 1#32 0#32 = if P then 1#32 else 0#32) : B = if P then 1#1 else 0#1 := by
  have hB : B = 0#1 ∨ B = 1#1 := (by decide : ∀ B : BitVec 1, B = 0#1 ∨ B = 1#1) B
  have h1 : Scalar.select 1#1 1#32 0#32 = 1#32 := rfl
  have h0 : Scalar.select 0#1 1#32 0#32 = 0#32 := rfl
  rcases hB with rfl | rfl
  · rw [h0] at h
    by_cases hp : P
    · rw [if_pos hp] at h; exact absurd h (by decide)
    · rw [if_neg hp]
  · rw [h1] at h
    by_cases hp : P
    · rw [if_pos hp]
    · rw [if_neg hp] at h; exact absurd h (by decide)

theorem uitofp_ite (P : Prop) [Decidable P] : FloatOps.uitofp (F := Ideal) FTy.f32 (if P then 1#1 else 0#1) = (if P then 1 else 0 : EReal) := by
  split_ifs
  · show (((1#1).toNat : ℝ) : EReal) = 1
    norm_num
  · show (((0#1).toNat : ℝ) : EReal) = 0
    norm_num

theorem select_ite {α : Type} (P : Prop) [Decidable P] (x y : α) : Scalar.select (if P then 1#1 else 0#1) x y = if P then x else y := by
  split_ifs <;> rfl

set_option maxHeartbeats 4000000 in
/-- The band that a pooling window covers, at each of the four half widths. -/
theorem band_table (g : Fin 4) (r : Fin 128) (j : Fin 160) :
    (V (F := Ideal) m c main_v56 : Vec Ideal S4x128x160 .bf16) (ix3 g r j) = (if r.val + 16 ≤ j.val + 2 ^ g.val ∧ j.val < r.val + 2 ^ g.val + 16 then 1 else 0 : EReal) := by
  unfold V
  after_reads_at
  fin_cases g
  all_goals
    dsimp only
    after_reads_at
    have hr := r.isLt
    have hj := j.isLt
    rw [← uitofp_ite]
    refine congrArg _ (bit_of_select ?_)
    simp only [subi_eq, BitVec.reduceNeg]
    word_omega

set_option maxHeartbeats 4000000 in
/-- The bias before the band: nothing at a key within reach, the bottom elsewhere. -/
theorem bias_before (R : Fin 512) (k : Fin 128) :
    (V (F := Ideal) m c main_v83 : Vec Ideal S2x512x128 .f32) (ix3 0 R k) = (if R.val % 128 ≤ k.val then 0 else ⊥ : EReal) := by
  unfold V
  after_reads_at
  dsimp only [id]
  after_reads_at
  have hk := k.isLt
  have hR : R.val % 128 < 128 := Nat.mod_lt _ (by decide)
  refine (congrArg (Scalar.select · (0 : EReal) _) (bit_of_select (P := R.val % 128 ≤ k.val) ?_)).trans ?_
  · generalize R.val % 128 = q at *
    simp only [subi_eq, BitVec.reduceNeg]
    word_omega
  · rw [select_ite, ofBits_neg_inf]

set_option maxHeartbeats 4000000 in
/-- The bias after the band. -/
theorem bias_after (R : Fin 512) (k : Fin 128) :
    (V (F := Ideal) m c main_v83 : Vec Ideal S2x512x128 .f32) (ix3 1 R k) = (if k.val ≤ R.val % 128 then 0 else ⊥ : EReal) := by
  unfold V
  after_reads_at
  dsimp only [id]
  after_reads_at
  have hk := k.isLt
  have hR : R.val % 128 < 128 := Nat.mod_lt _ (by decide)
  refine (congrArg (Scalar.select · (0 : EReal) _) (bit_of_select (P := k.val ≤ R.val % 128) ?_)).trans ?_
  · generalize R.val % 128 = q at *
    word_omega
  · rw [select_ite, ofBits_neg_inf]

end Cert.Mix

end
-- ==== Proof.Mix.Kern.lean ====
/- The kernel's result array: the layer of its arguments. -/
module

public import proofs.«01_k».proof.Proof.Mix.Body
public import proofs.«01_k».proof.Proof.Mix.Blocks
public import proofs.«01_k».proof.Proof.Mix.Tables
public import proofs.«01_k».proof.Proof.Mix.Layer

@[expose] public section

set_option maxRecDepth 16384

noncomputable section

namespace Cert.Mix

open Cert.KernelIdeal Cert.KernelIdeal.Gen Idealize.ShloMosaic Idealize.ShloMosaic.TcCoe

variable (m : (ℓ : Loc nD τ sig) → Buf (Elt Ideal) ℓ) (c : Dev nD)

/-- The tile number that the body computes from its grid point. -/
theorem tile_at : ∀ t : Fin grid0.N, tile (grid0.coords t) = BitVec.ofNat 32 (t.val % 8) := by
  decide +kernel

/-- The layer of the kernel's arguments. -/
abbrev kernLayer : Vec Ideal S65536x1024 .f32 := fun i =>
  layer (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9)) (i 0).val (i 1).val

set_option maxHeartbeats 8000000 in
theorem result_eq : (dats m 0 c).arrAt 18 cfg0.N = kernLayer m c := by
  refine (dats m 0 c).arrAt_eq_of_covers 18 _ (by decide +kernel) fun t hf y => ?_
  have ht : t.val < 64 := t.isLt
  rw [after0_18]
  unfold outsAt0
  have H := tileOf m c t (band_table m c) (bias_before m c) (bias_after m c)
  obtain ⟨-, -, -, -, -, -, -, -, -, -, -, -, -, -, -, -, -, -, e18⟩ := index_at t
  have hr : (y 0).val < 1024 := (y 0).isLt
  have hk : (y 1).val < 1024 := (y 1).isLt
  have hx : (cfg0.win 18).xinj (cfg0.grid.coords t) y = (ix2 ⟨(y 0).val, hr⟩ ⟨(y 1).val, hk⟩ : S1024x1024.Idx) :=
    funext fun a => match a with
      | 0 => rfl
      | 1 => rfl
  rw [hx]
  refine (out_apply c (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ (ms0_13 t) _ (ms0_14 t) _ (ms0_15 t) _ (ms0_16 t) _ (ms0_17 t) _ (ms0_18 t) _ scM0_0 _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) H (tile_at t) ⟨(y 0).val, hr⟩ ⟨(y 1).val, hk⟩).trans ?_
  have h0 : ((((cfg0.win 18).blk t).view.emb y) 0).val = 1024 * t.val + (y 0).val := by
    blk_simp [e18]
    omega
  have h1 : ((((cfg0.win 18).blk t).view.emb y) 1).val = (y 1).val := by
    blk_simp [e18]
  unfold kernLayer
  rw [h0, h1]
  unfold layer
  rw [show (1024 * t.val + (y 0).val) / 8192 = t.val / 8 by omega, show (1024 * t.val + (y 0).val) % 8192 = 1024 * (t.val % 8) + (y 0).val by omega]
  refine normAt_congr _ hk (fun k hk => ?_) (gain_at m c t hk) (offset_at m c t hk)
  exact resid_congr k (xr_at m c t ⟨(y 0).val, hr⟩ hk) (md_at m c t hk) (fun _ _ => rfl) fun q hq => wo_at m c t hq hk

end Cert.Mix

end
-- ==== Proof.Mix.RefParts.lean ====
/- The reference's operands: its slices of the two projected inputs, read at an index. -/
module

public import proofs.«01_k».proof.Proof.Gen.ReferenceIdeal.Read
public import proofs.«01_k».proof.Proof.Mix.Layer
public import proofs.«01_k».proof.Proof.Mix.Tables

@[expose] public section

set_option maxRecDepth 16384

noncomputable section

namespace Cert.Mix

open Cert.ReferenceIdeal Cert.ReferenceIdeal.Gen Cert.ReferenceIdeal.Read Idealize.ShloMosaic
variable [Facts]
open Facts

theorem query_at (x1 : S65536x2048.Idx → EReal) (b : Fin 8) (t : Fin 8192) (h : Fin 2) (g : Fin 4) (l : Fin 128) :
    val_main_v5 (F := Ideal) x1 (ix5 b t h g l) = at2 x1 (8192 * b.val + t.val) (128 * (4 * h.val + g.val) + l.val) := by
  pointwise [val_main_v5, val_main_v4, val_main_v1, val_main_v0]
  rw [at2_ix2 x1]
  congr 1 <;> dsimp only <;> omega

theorem key_at (x1 : S65536x2048.Idx → EReal) (b : Fin 8) (t : Fin 8192) (h : Fin 2) (l : Fin 128) :
    val_main_v8 (F := Ideal) x1 (ix4 b t h l) = at2 x1 (8192 * b.val + t.val) (1536 + (128 * h.val + l.val)) := by
  pointwise [val_main_v8, val_main_v7, val_main_v1, val_main_v0]
  rw [at2_ix2 x1]
  congr 1 <;> dsimp only <;> omega

theorem value_at (x1 : S65536x2048.Idx → EReal) (b : Fin 8) (t : Fin 8192) (h : Fin 2) (l : Fin 128) :
    val_main_v10 (F := Ideal) x1 (ix4 b t h l) = at2 x1 (8192 * b.val + t.val) (1792 + (128 * h.val + l.val)) := by
  pointwise [val_main_v10, val_main_v9, val_main_v1, val_main_v0]
  rw [at2_ix2 x1]
  congr 1 <;> dsimp only <;> omega

theorem ctx_key_at (x2 : S2048x2048.Idx → EReal) (b : Fin 8) (k : Fin 256) (h : Fin 2) (l : Fin 128) :
    val_main_v12 (F := Ideal) x2 (ix4 b k h l) = at2 x2 (256 * b.val + k.val) (1536 + (128 * h.val + l.val)) := by
  pointwise [val_main_v12, val_main_v11, val_main_v3, val_main_v2]
  rw [at2_ix2 x2]
  congr 1 <;> dsimp only <;> omega

theorem ctx_value_at (x2 : S2048x2048.Idx → EReal) (b : Fin 8) (k : Fin 256) (h : Fin 2) (l : Fin 128) :
    val_main_v14 (F := Ideal) x2 (ix4 b k h l) = at2 x2 (256 * b.val + k.val) (1792 + (128 * h.val + l.val)) := by
  pointwise [val_main_v14, val_main_v13, val_main_v3, val_main_v2]
  rw [at2_ix2 x2]
  congr 1 <;> dsimp only <;> omega

theorem score_dot (x1 : S65536x2048.Idx → EReal) (b : Fin 8) (h : Fin 2) (g : Fin 4) (q k : Fin 8192) :
    val_main_v71 (F := Ideal) x1 (ix5 b h k q g) = ∑ l : Fin 128, at2 x1 (8192 * b.val + q.val) (128 * (4 * h.val + g.val) + l.val) * at2 x1 (8192 * b.val + k.val) (1536 + (128 * h.val + l.val)) := by
  rw [val_main_v71_apply]
  refine Finset.sum_congr rfl fun l _ => ?_
  refine (congrArg₂ (· * ·) ((congrArg (val_main_v8 (F := Ideal) x1) (?_ : _ = ix4 b k h l)).trans (key_at x1 b k h l))
    ((congrArg (val_main_v5 (F := Ideal) x1) (?_ : _ = ix5 b q h g l)).trans (query_at x1 b q h g l))).trans (mul_comm _ _)
  · ext a; fin_cases a <;> rfl
  · ext a; fin_cases a <;> rfl

theorem ctx_score_dot (x1 : S65536x2048.Idx → EReal) (x2 : S2048x2048.Idx → EReal) (b : Fin 8) (h : Fin 2) (g : Fin 4) (q : Fin 8192) (k : Fin 256) :
    val_main_v75 (F := Ideal) x1 x2 (ix5 b h k q g) = ∑ l : Fin 128, at2 x1 (8192 * b.val + q.val) (128 * (4 * h.val + g.val) + l.val) * at2 x2 (256 * b.val + k.val) (1536 + (128 * h.val + l.val)) := by
  rw [val_main_v75_apply]
  refine Finset.sum_congr rfl fun l _ => ?_
  refine (congrArg₂ (· * ·) ((congrArg (val_main_v12 (F := Ideal) x2) (?_ : _ = ix4 b k h l)).trans (ctx_key_at x2 b k h l))
    ((congrArg (val_main_v5 (F := Ideal) x1) (?_ : _ = ix5 b q h g l)).trans (query_at x1 b q h g l))).trans (mul_comm _ _)
  · ext a; fin_cases a <;> rfl
  · ext a; fin_cases a <;> rfl

theorem log_two : Ideal.log (Ideal.ofBits .f32 1073741824#32) = ln2 := by
  have h : Ideal.ofBits .f32 1073741824#32 = ((2 : ℝ) : EReal) := by
    simp [Ideal.ofBits, Ideal.ieee]
    rw [← EReal.coe_mul]
    norm_num
  rw [h]
  show (if (2 : ℝ) ≤ 0 then ⊥ else ((Real.log 2 : ℝ) : EReal)) = _
  rw [if_neg (by norm_num)]

theorem score_at (x1 : S65536x2048.Idx → EReal) (b : Fin 8) (h : Fin 2) (g : Fin 4) (q k : Fin 8192) :
    val_main_v74 (F := Ideal) x1 (ix5 b h g q k) = scoreAt (at2 x1) (at2 x1) (8192 * b.val + q.val) (8192 * b.val + k.val) (4 * h.val + g.val) := by
  pointwise [val_main_v74, val_main_v72, val_main_v73, val_main_v70, val_main_cst]
  rw [score_dot, log_two]
  unfold scoreAt
  rw [show (4 * h.val + g.val) / 4 = h.val by omega]

theorem ctx_score_at (x1 : S65536x2048.Idx → EReal) (x2 : S2048x2048.Idx → EReal) (b : Fin 8) (h : Fin 2) (g : Fin 4) (q : Fin 8192) (k : Fin 256) :
    val_main_v78 (F := Ideal) x1 x2 (ix5 b h g q k) = scoreAt (at2 x1) (at2 x2) (8192 * b.val + q.val) (256 * b.val + k.val) (4 * h.val + g.val) := by
  pointwise [val_main_v78, val_main_v76, val_main_v77, val_main_v70, val_main_cst]
  rw [ctx_score_dot, log_two]
  unfold scoreAt
  rw [show (4 * h.val + g.val) / 4 = h.val by omega]

theorem near_bit (q k : Fin 8192) :
    IntOp.cmpi .sle (IntOp.absi (IntOp.subi (BitVec.ofNat 32 q.val) (BitVec.ofNat 32 k.val))) 128#32 = if q.val ≤ k.val + 128 ∧ k.val ≤ q.val + 128 then 1#1 else 0#1 := by
  have hq := q.isLt
  have hk := k.isLt
  have e : IntOp.absi (IntOp.subi (BitVec.ofNat 32 q.val) (BitVec.ofNat 32 k.val)) = BitVec.ofNat 32 (q.val - k.val + (k.val - q.val)) := by
    unfold IntOp.absi IntOp.subi
    rcases le_total k.val q.val with h | h
    · have e : BitVec.ofNat 32 q.val - BitVec.ofNat 32 k.val = BitVec.ofNat 32 (q.val - k.val) := by
        apply BitVec.eq_of_toNat_eq
        simp only [BitVec.toNat_sub, BitVec.toNat_ofNat]
        omega
      have hm : (BitVec.ofNat 32 (q.val - k.val)).msb = false := by
        rw [BitVec.msb_eq_false_iff_two_mul_lt, BitVec.toNat_ofNat]
        omega
      rw [e, hm, show k.val - q.val = 0 by omega]
      rfl
    · have e : BitVec.ofNat 32 q.val - BitVec.ofNat 32 k.val = -BitVec.ofNat 32 (k.val - q.val) := by
        apply BitVec.eq_of_toNat_eq
        simp only [BitVec.toNat_sub, BitVec.toNat_neg, BitVec.toNat_ofNat]
        omega
      rcases Nat.eq_or_lt_of_le h with h0 | h0
      · rw [e, show k.val - q.val = 0 by omega, show q.val - k.val = 0 by omega]
        rfl
      · have hm : (-BitVec.ofNat 32 (k.val - q.val)).msb = true := by
          rw [BitVec.msb_eq_true_iff_two_mul_ge, BitVec.toNat_neg, BitVec.toNat_ofNat]
          omega
        rw [e, hm, if_pos rfl, BitVec.neg_neg, show q.val - k.val = 0 by omega, Nat.zero_add]
  rw [e]
  refine bit_of_select ?_
  word_omega

theorem masked_at (x1 : S65536x2048.Idx → EReal) (b : Fin 8) (h : Fin 2) (g : Fin 4) (q k : Fin 8192) :
    val_main_v80 (F := Ideal) x1 (ix5 b h g q k) = if q.val ≤ k.val + 128 ∧ k.val ≤ q.val + 128
      then scoreAt (at2 x1) (at2 x1) (8192 * b.val + q.val) (8192 * b.val + k.val) (4 * h.val + g.val) else ⊥ := by
  rw [val_main_v80_apply, score_at]
  pointwise [val_main_call0_v1, val_main_call0_v2, val_main_call0_v0, val_main_v79, val_main_v69, val_main_v68, val_main_v67, val_main_v66, val_main_v65, val_main_v64, val_main_v63, val_main_v62, val_main_v61, val_main_c_2, val_main_cst_3]
  refine (congrArg (Scalar.select · _ _) (near_bit q k)).trans ?_
  rw [select_ite]
  exact if_congr Iff.rfl rfl ofBits_neg_inf

theorem row_max (x1 : S65536x2048.Idx → EReal) (b : Fin 8) (h : Fin 2) (g : Fin 4) (q : Fin 8192) :
    val_main_v82 (F := Ideal) x1 (ix4 b h g q) = Finset.univ.sup fun k : Fin 8192 => val_main_v80 (F := Ideal) x1 (ix5 b h g q k) := by
  pointwise [val_main_v82, val_main_cst_4]
  rw [ofBits_neg_inf]
  rfl

theorem ctx_row_max (x1 : S65536x2048.Idx → EReal) (x2 : S2048x2048.Idx → EReal) (b : Fin 8) (h : Fin 2) (g : Fin 4) (q : Fin 8192) :
    val_main_v84 (F := Ideal) x1 x2 (ix4 b h g q) = Finset.univ.sup fun k : Fin 256 => val_main_v78 (F := Ideal) x1 x2 (ix5 b h g q k) := by
  pointwise [val_main_v84, val_main_cst_5]
  rw [ofBits_neg_inf]
  rfl

theorem sink_read (x4 : S8.Idx → EReal) (h : Fin 2) (g : Fin 4) :
    val_main_v81 (F := Ideal) x4 (ix5 0 h g 0 0) = at1 x4 (4 * h.val + g.val) := by
  have hn : 4 * h.val + g.val < 8 := by omega
  have e : idx_main_v81 (ix5 0 h g 0 0) = ix1 ⟨4 * h.val + g.val, hn⟩ := by
    ext a
    fin_cases a
    show _ = 4 * h.val + g.val
    show (((0 * 2 + h.val) * 4 + g.val) * 1 + 0) * 1 + 0 = _
    omega
  rw [val_main_v81_apply, e, at1_ix1 x4]

theorem sink_at (x4 : S8.Idx → EReal) (b : Fin 8) (h : Fin 2) (g : Fin 4) (q : Fin 8192) (z : Fin 1) :
    val_main_v87 (F := Ideal) x4 (ix5 b h g q z) = at1 x4 (4 * h.val + g.val) := by
  pointwise [val_main_v87]
  exact sink_read x4 h g

/-- The greatest score of a row, the sink's with it. -/
theorem top_at (x1 : S65536x2048.Idx → EReal) (x2 : S2048x2048.Idx → EReal) (x4 : S8.Idx → EReal) (b : Fin 8) (h : Fin 2) (g : Fin 4) (q : Fin 8192) (z : Fin 1) :
    val_main_v88 (F := Ideal) x1 x2 x4 (ix5 b h g q z)
      = max (max (Finset.univ.sup fun k : Fin 8192 => val_main_v80 (F := Ideal) x1 (ix5 b h g q k)) (Finset.univ.sup fun k : Fin 256 => val_main_v78 (F := Ideal) x1 x2 (ix5 b h g q k)))
        (at1 x4 (4 * h.val + g.val)) := by
  have e3 : val_main_v83 (F := Ideal) x1 (ix5 b h g q z) = val_main_v82 (F := Ideal) x1 (ix4 b h g q) := by
    pointwise [val_main_v83]
  have e5 : val_main_v85 (F := Ideal) x1 x2 (ix5 b h g q z) = val_main_v84 (F := Ideal) x1 x2 (ix4 b h g q) := by
    pointwise [val_main_v85]
  rw [val_main_v88_apply, val_main_v86_apply, e3, e5, sink_at, row_max, ctx_row_max, Ideal.maximumf_eq_max]

theorem exp_at (x1 : S65536x2048.Idx → EReal) (x2 : S2048x2048.Idx → EReal) (x4 : S8.Idx → EReal) (b : Fin 8) (h : Fin 2) (g : Fin 4) (q k : Fin 8192) :
    val_main_v91 (F := Ideal) x1 x2 x4 (ix5 b h g q k) = Ideal.exp (val_main_v80 (F := Ideal) x1 (ix5 b h g q k) - val_main_v88 (F := Ideal) x1 x2 x4 (ix5 b h g q 0)) := by
  pointwise [val_main_v91, val_main_v90, val_main_v89]

theorem ctx_exp_at (x1 : S65536x2048.Idx → EReal) (x2 : S2048x2048.Idx → EReal) (x4 : S8.Idx → EReal) (b : Fin 8) (h : Fin 2) (g : Fin 4) (q : Fin 8192) (k : Fin 256) :
    val_main_v94 (F := Ideal) x1 x2 x4 (ix5 b h g q k) = Ideal.exp (val_main_v78 (F := Ideal) x1 x2 (ix5 b h g q k) - val_main_v88 (F := Ideal) x1 x2 x4 (ix5 b h g q 0)) := by
  pointwise [val_main_v94, val_main_v93, val_main_v92]

theorem weight_sum (x1 : S65536x2048.Idx → EReal) (x2 : S2048x2048.Idx → EReal) (x4 : S8.Idx → EReal) (b : Fin 8) (h : Fin 2) (g : Fin 4) (q : Fin 8192) (z : Fin 1) :
    val_main_v103 (F := Ideal) x1 x2 x4 (ix5 b h g q z)
      = (∑ k : Fin 8192, val_main_v91 (F := Ideal) x1 x2 x4 (ix5 b h g q k)) + (∑ k : Fin 256, val_main_v94 (F := Ideal) x1 x2 x4 (ix5 b h g q k))
        + Ideal.exp (at1 x4 (4 * h.val + g.val) - val_main_v88 (F := Ideal) x1 x2 x4 (ix5 b h g q z)) := by
  pointwise [val_main_v103, val_main_v102, val_main_v101, val_main_v100, val_main_v99, val_main_v98, val_main_v97, val_main_v96, val_main_v95, val_main_cst_6, val_main_cst_7]
  rw [sink_read]

theorem weighted_at (x1 : S65536x2048.Idx → EReal) (x2 : S2048x2048.Idx → EReal) (x4 : S8.Idx → EReal) (b : Fin 8) (h : Fin 2) (g : Fin 4) (q : Fin 8192) (d : Fin 128) :
    val_main_v104 (F := Ideal) x1 x2 x4 (ix5 b h g q d) = ∑ k : Fin 8192, val_main_v91 (F := Ideal) x1 x2 x4 (ix5 b h g q k) * at2 x1 (8192 * b.val + k.val) (1792 + (128 * h.val + d.val)) := by
  rw [val_main_v104_apply]
  refine Finset.sum_congr rfl fun k _ => congrArg₂ (· * ·) (congrArg (val_main_v91 (F := Ideal) x1 x2 x4) ?_)
    ((congrArg (val_main_v10 (F := Ideal) x1) (?_ : _ = ix4 b k h d)).trans (value_at x1 b k h d))
  · ext a; fin_cases a <;> rfl
  · ext a; fin_cases a <;> rfl

theorem ctx_weighted_at (x1 : S65536x2048.Idx → EReal) (x2 : S2048x2048.Idx → EReal) (x4 : S8.Idx → EReal) (b : Fin 8) (h : Fin 2) (g : Fin 4) (q : Fin 8192) (d : Fin 128) :
    val_main_v105 (F := Ideal) x1 x2 x4 (ix5 b h g q d) = ∑ k : Fin 256, val_main_v94 (F := Ideal) x1 x2 x4 (ix5 b h g q k) * at2 x2 (256 * b.val + k.val) (1792 + (128 * h.val + d.val)) := by
  rw [val_main_v105_apply]
  refine Finset.sum_congr rfl fun k _ => congrArg₂ (· * ·) (congrArg (val_main_v94 (F := Ideal) x1 x2 x4) ?_)
    ((congrArg (val_main_v14 (F := Ideal) x2) (?_ : _ = ix4 b k h d)).trans (ctx_value_at x2 b k h d))
  · ext a; fin_cases a <;> rfl
  · ext a; fin_cases a <;> rfl

/-- One head's attention, as the reference computes it. -/
theorem head_at (x1 : S65536x2048.Idx → EReal) (x2 : S2048x2048.Idx → EReal) (x4 : S8.Idx → EReal) (b : Fin 8) (h : Fin 2) (g : Fin 4) (q : Fin 8192) (d : Fin 128) :
    val_main_v108 (F := Ideal) x1 x2 x4 (ix5 b h g q d) = headAt (at2 x1) (at2 x2) (at1 x4) b.val q.val (4 * h.val + g.val) d.val := by
  have e7 : val_main_v107 (F := Ideal) x1 x2 x4 (ix5 b h g q d) = val_main_v103 (F := Ideal) x1 x2 x4 (ix5 b h g q 0) := by
    pointwise [val_main_v107]
  rw [val_main_v108_apply, val_main_v106_apply, e7, weight_sum, weighted_at, ctx_weighted_at]
  simp only [exp_at, ctx_exp_at, top_at, masked_at, ctx_score_at]
  unfold headAt fullRow
  rw [show (4 * h.val + g.val) / 4 = h.val by omega]
  rfl

end Cert.Mix

end
-- ==== Proof.Mix.RefPool.lean ====
/- The reference's pooled columns, read at an index. -/
module

public import proofs.«01_k».proof.Proof.Gen.ReferenceIdeal.Read
public import proofs.«01_k».proof.Proof.Mix.Layer
public import proofs.«01_k».proof.Proof.Mix.Tables

@[expose] public section

set_option maxRecDepth 16384

noncomputable section

namespace Cert.Mix

open Cert.ReferenceIdeal Cert.ReferenceIdeal.Gen Cert.ReferenceIdeal.Read Idealize.ShloMosaic
variable [Facts]
open Facts

theorem pooled_at (x1 : S65536x2048.Idx → EReal) (g : Fin 4) (t : Fin 8192) (b : Fin 8) (d : Fin 128) :
    val_main_v17 (F := Ideal) x1 (ix4 g t b d) = at2 x1 (8192 * b.val + t.val) (1024 + (128 * g.val + d.val)) := by
  pointwise [val_main_v17, val_main_v16, val_main_v6, val_main_v1, val_main_v0]
  rw [at2_ix2 x1]
  congr 1 <;> dsimp only <;> omega

/-- A group's half width, a power of two. -/
theorem half_at (g : Fin 4) : val_main_v21 (F := Ideal) (ix1 g) = BitVec.ofNat 32 (2 ^ g.val) := by
  pointwise [val_main_v21, val_main_v20, val_main_c, val_main_v19]
  fin_cases g <;> rfl

theorem low_at (g : Fin 4) (t : Fin 8192) :
    val_main_v28 (F := Ideal) (ix2 g t) = IntOp.maxsi (IntOp.subi (BitVec.ofNat 32 t.val) (BitVec.ofNat 32 (2 ^ g.val))) 0#32 := by
  rw [← half_at]
  pointwise [val_main_v28, val_main_v27, val_main_c_0, val_main_v26, val_main_v25, val_main_v24, val_main_v23, val_main_v22, val_main_v18]

theorem high_at (g : Fin 4) (t : Fin 8192) :
    val_main_v35 (F := Ideal) (ix2 g t) = IntOp.minsi (IntOp.addi (BitVec.ofNat 32 t.val) (BitVec.ofNat 32 (2 ^ g.val))) 8192#32 := by
  rw [← half_at]
  pointwise [val_main_v35, val_main_v34, val_main_c_1, val_main_v33, val_main_v32, val_main_v31, val_main_v30, val_main_v29, val_main_v18]

theorem slt_words {a b : ℕ} (ha : a < 2 ^ 31) (hb : b < 2 ^ 31) : (BitVec.ofNat 32 a).slt (BitVec.ofNat 32 b) = decide (a < b) := by
  rw [BitVec.slt_eq_decide, BitVec.toInt_eq_toNat_of_lt, BitVec.toInt_eq_toNat_of_lt, BitVec.toNat_ofNat, BitVec.toNat_ofNat, Nat.mod_eq_of_lt (by omega),
    Nat.mod_eq_of_lt (by omega)]
  · exact decide_eq_decide.mpr Nat.cast_lt
  all_goals
    rw [BitVec.toNat_ofNat]
    omega

theorem high_word {a : ℕ} (ha : a < 2 ^ 14) : IntOp.minsi (BitVec.ofNat 32 a) 8192#32 = BitVec.ofNat 32 (min a 8192) := by
  unfold IntOp.minsi
  rw [slt_words (by omega) (by omega)]
  rcases Nat.lt_or_ge a 8192 with h | h
  · rw [decide_eq_true h, if_pos rfl, min_eq_left h.le]
  · rw [decide_eq_false (by omega), if_neg (by decide), min_eq_right h]

theorem low_small : ∀ T w : Fin 16, T.val < w.val → IntOp.maxsi (IntOp.subi (BitVec.ofNat 32 T.val) (BitVec.ofNat 32 w.val)) 0#32 = 0#32 := by
  decide

theorem low_word {T w : ℕ} (hT : T < 8192) (hw : w < 16) : IntOp.maxsi (IntOp.subi (BitVec.ofNat 32 T) (BitVec.ofNat 32 w)) 0#32 = BitVec.ofNat 32 (T - w) := by
  rcases Nat.lt_or_ge T w with h | h
  · have hT' : T < 16 := by omega
    rw [show T - w = 0 by omega]
    exact low_small ⟨T, hT'⟩ ⟨w, hw⟩ h
  · have e : IntOp.subi (BitVec.ofNat 32 T) (BitVec.ofNat 32 w) = BitVec.ofNat 32 (T - w) := by
      apply BitVec.eq_of_toNat_eq
      simp only [IntOp.subi, BitVec.toNat_sub, BitVec.toNat_ofNat]
      omega
    rw [e]
    unfold IntOp.maxsi
    rw [slt_words (by omega) (by omega)]
    rcases Nat.eq_zero_or_pos (T - w) with h0 | h0
    · rw [h0]
      rfl
    · rw [decide_eq_true h0, if_pos rfl]

theorem high_sum {T w : ℕ} (hT : T < 8192) (hw : w < 16) : IntOp.minsi (IntOp.addi (BitVec.ofNat 32 T) (BitVec.ofNat 32 w)) 8192#32 = BitVec.ofNat 32 (min (T + w) 8192) := by
  rw [← high_word (by omega)]
  refine congrArg (IntOp.minsi · 8192#32) ?_
  apply BitVec.eq_of_toNat_eq
  simp only [IntOp.addi, BitVec.toNat_add, BitVec.toNat_ofNat]
  omega

theorem half_lt (g : Fin 4) : 2 ^ g.val < 16 := by
  fin_cases g <;> decide

theorem window_bit (g : Fin 4) (T t : Fin 8192) :
    IntOp.andi (IntOp.cmpi .sge (BitVec.ofNat 32 t.val) (IntOp.maxsi (IntOp.subi (BitVec.ofNat 32 T.val) (BitVec.ofNat 32 (2 ^ g.val))) 0#32))
      (IntOp.cmpi .slt (BitVec.ofNat 32 t.val) (IntOp.minsi (IntOp.addi (BitVec.ofNat 32 T.val) (BitVec.ofNat 32 (2 ^ g.val))) 8192#32))
      = if T.val ≤ t.val + 2 ^ g.val ∧ t.val < T.val + 2 ^ g.val then 1#1 else 0#1 := by
  rw [low_word T.isLt (half_lt g), high_sum T.isLt (half_lt g)]
  have hw := half_lt g
  generalize 2 ^ g.val = w at hw ⊢
  refine bit_of_select ?_
  have hT := T.isLt
  have ht := t.isLt
  have ha : T.val - w < 8192 := by omega
  have hb : min (T.val + w) 8192 < 8193 := by omega
  have ea : T.val ≤ t.val + w ↔ T.val - w ≤ t.val := by omega
  have eb : t.val < T.val + w ↔ t.val < min (T.val + w) 8192 := by omega
  simp only [ea, eb]
  generalize T.val - w = p at ha ⊢
  generalize min (T.val + w) 8192 = q at hb ⊢
  word_omega

theorem window_at (g : Fin 4) (T t : Fin 8192) :
    val_main_v47 (F := Ideal) (ix3 g T t) = (if T.val ≤ t.val + 2 ^ g.val ∧ t.val < T.val + 2 ^ g.val then 1 else 0 : EReal) := by
  rw [← uitofp_ite, ← window_bit, ← low_at, ← high_at]
  pointwise [val_main_v47, val_main_v46, val_main_v45, val_main_v44, val_main_v43, val_main_v42, val_main_v41, val_main_v40, val_main_v39, val_main_v38, val_main_v37, val_main_v36, val_main_v18]

theorem window_sum (x1 : S65536x2048.Idx → EReal) (g : Fin 4) (T : Fin 8192) (b : Fin 8) (d : Fin 128) :
    val_main_v48 (F := Ideal) x1 (ix4 g T b d) = winAt (at2 x1) b.val T.val (2 ^ g.val) (1024 + (128 * g.val + d.val)) := by
  rw [val_main_v48_apply]
  unfold winAt
  refine Finset.sum_congr rfl fun t _ => ?_
  refine (congrArg₂ (· * ·) ((congrArg (val_main_v47 (F := Ideal)) (?_ : _ = ix3 g T t)).trans (window_at g T t))
    ((congrArg (val_main_v17 (F := Ideal) x1) (?_ : _ = ix4 g t b d)).trans (pooled_at x1 g t b d))).trans ?_
  · ext a; fin_cases a <;> rfl
  · ext a; fin_cases a <;> rfl
  · split_ifs
    · exact one_mul _
    · exact zero_mul _

theorem count_at (g : Fin 4) (T : Fin 8192) (b : Fin 8) (d : Fin 128) :
    val_main_v52 (F := Ideal) (ix4 g T b d) = winCnt T.val (2 ^ g.val) := by
  unfold winCnt
  rw [← low_at, ← high_at]
  pointwise [val_main_v52, val_main_v51, val_main_v50, val_main_v49]

theorem centred_at (x1 : S65536x2048.Idx → EReal) (g : Fin 4) (T : Fin 8192) (b : Fin 8) (d : Fin 128) :
    val_main_v54 (F := Ideal) x1 (ix4 g T b d) = Ideal.div (winAt (at2 x1) b.val T.val (2 ^ g.val) (1024 + (128 * g.val + d.val))) (winCnt T.val (2 ^ g.val))
      - at2 x1 (8192 * b.val + T.val) (1024 + (128 * g.val + d.val)) := by
  rw [← window_sum, ← count_at g T b d, ← pooled_at]
  pointwise [val_main_v54, val_main_v53]

theorem mixed_at (x1 : S65536x2048.Idx → EReal) (x5 : S4x128x128.Idx → EReal) (g : Fin 4) (T : Fin 8192) (b : Fin 8) (d : Fin 128) :
    val_main_v55 (F := Ideal) x1 x5 (ix4 g T b d) = ∑ x : Fin 128, (Ideal.div (winAt (at2 x1) b.val T.val (2 ^ g.val) (1024 + (128 * g.val + x.val))) (winCnt T.val (2 ^ g.val))
      - at2 x1 (8192 * b.val + T.val) (1024 + (128 * g.val + x.val))) * at3 x5 g.val x.val d.val := by
  rw [val_main_v55_apply]
  refine Finset.sum_congr rfl fun x _ => ?_
  refine congrArg₂ (· * ·) ((congrArg (val_main_v54 (F := Ideal) x1) (?_ : _ = ix4 g T b x)).trans (centred_at x1 g T b x))
    ((congrArg (val_main_v15 (F := Ideal) x5) (?_ : _ = ix3 g x d)).trans ?_)
  · ext a; fin_cases a <;> rfl
  · ext a; fin_cases a <;> rfl
  · rw [← at3_ix3 x5]
    pointwise [val_main_v15]

/-- The pooled columns, as the reference computes them. -/
theorem pool_at (x1 : S65536x2048.Idx → EReal) (x5 : S4x128x128.Idx → EReal) (x6 : S1x512.Idx → EReal) (b : Fin 8) (T : Fin 8192) (c : Fin 512) :
    val_main_v60 (F := Ideal) x1 x5 x6 (ix3 b T c) = poolAt (at2 x1) (at3 x5) (at2 x6 0) b.val T.val (c.val / 128) (c.val % 128) := by
  have hg : c.val / 128 < 4 := by omega
  have hd : c.val % 128 < 128 := by omega
  pointwise [val_main_v60, val_main_v59, val_main_v58, val_main_v57, val_main_v56]
  unfold poolAt
  refine congrArg₂ (· * ·) (mixed_at x1 x5 ⟨c.val / 128, hg⟩ T b ⟨c.val % 128, hd⟩) ?_
  rw [at2_ix2 x6, show 128 * (c.val / 128) + c.val % 128 = c.val by omega]
  rfl

end Cert.Mix

end
-- ==== Proof.Mix.RefOut.lean ====
/- The reference's result, read at an index: the layer. -/
module

public import proofs.«01_k».proof.Proof.Mix.RefParts
public import proofs.«01_k».proof.Proof.Mix.RefPool

@[expose] public section

set_option maxRecDepth 16384

noncomputable section

namespace Cert.Mix

open Cert.ReferenceIdeal Cert.ReferenceIdeal.Gen Cert.ReferenceIdeal.Read Idealize.ShloMosaic
variable [Facts]
open Facts

variable (x0 : S65536x1024.Idx → EReal) (x1 : S65536x2048.Idx → EReal) (x2 : S2048x2048.Idx → EReal) (x3 : S8x3x1024.Idx → EReal)
  (x4 : S8.Idx → EReal) (x5 : S4x128x128.Idx → EReal) (x6 : S1x512.Idx → EReal) (x7 : S1024x1024.Idx → EReal) (x8 x9 : S1x1024.Idx → EReal)

/-- Even and odd heads' lanes side by side. -/
theorem lanes_at (b : Fin 8) (t : Fin 8192) (p : Fin 4) (l : Fin 128) :
    val_main_v115 (F := Ideal) x1 x2 x4 (ix4 b t p l) = headAt (at2 x1) (at2 x2) (at1 x4) b.val t.val (2 * p.val + if l.val < 64 then 0 else 1) l.val := by
  pointwise [val_main_v115, val_main_v114, val_main_v113, val_main_v112, val_main_v111, val_main_v110, val_main_v109]
  simp only [head_at]
  split_ifs with h
  · rw [show 4 * (p.val / 2) + p.val % 2 * 2 = 2 * p.val + 0 by omega]
  · rw [show 4 * (p.val / 2) + (p.val % 2 * 2 + 1) = 2 * p.val + 1 by omega, show 64 + (l.val - 64) = l.val by omega]

theorem attended_at (b : Fin 8) (t : Fin 8192) (c : Fin 512) :
    val_main_v116 (F := Ideal) x1 x2 x4 (ix3 b t c) = headAt (at2 x1) (at2 x2) (at1 x4) b.val t.val (headOf c.val) (c.val % 128) := by
  have hp : c.val / 128 < 4 := by omega
  have hl : c.val % 128 < 128 := by omega
  pointwise [val_main_v116]
  exact lanes_at x1 x2 x4 b t ⟨c.val / 128, hp⟩ ⟨c.val % 128, hl⟩

theorem cat_at (b : Fin 8) (t : Fin 8192) (c : Fin 1024) :
    val_main_v117 (F := Ideal) x1 x2 x4 x5 x6 (ix3 b t c) = catAt (at2 x1) (at2 x2) (at1 x4) (at3 x5) (at2 x6 0) b.val t.val c.val := by
  pointwise [val_main_v117]
  unfold catAt
  by_cases h : c.val < 512
  · rw [dif_pos h, if_pos h]
    exact pool_at x1 x5 x6 b t ⟨c.val, h⟩
  · rw [dif_neg h, if_neg h]
    exact attended_at x1 x2 x4 b t ⟨c.val - 512, by omega⟩

theorem resid_at (b : Fin 8) (t : Fin 8192) (c : Fin 1024) :
    val_main_v126 (F := Ideal) x0 x1 x2 x3 x4 x5 x6 x7 (ix3 b t c)
      = resid (at2 x0 (8192 * b.val + t.val)) (at3 x3 b.val 2) (catAt (at2 x1) (at2 x2) (at1 x4) (at3 x5) (at2 x6 0) b.val t.val) (at2 x7) c.val := by
  have e : val_main_v119 (F := Ideal) x1 x2 x4 x5 x6 x7 (ix3 b t c) = ∑ k : Fin 1024, catAt (at2 x1) (at2 x2) (at1 x4) (at3 x5) (at2 x6 0) b.val t.val k.val * at2 x7 k.val c.val := by
    rw [val_main_v119_apply]
    refine Finset.sum_congr rfl fun k _ => congrArg₂ (· * ·) ((congrArg (val_main_v117 (F := Ideal) x1 x2 x4 x5 x6) (?_ : _ = ix3 b t k)).trans (cat_at x1 x2 x4 x5 x6 b t k)) ?_
    · ext a; fin_cases a <;> rfl
    · rw [← at2_ix2 x7, val_main_v118_apply]
      refine congrArg x7 ?_
      ext a; fin_cases a <;> rfl
  have ex : val_main_v120 (F := Ideal) x0 (ix3 b t c) = at2 x0 (8192 * b.val + t.val) c.val := by
    pointwise [val_main_v120]
    rw [at2_ix2 x0]
    congr 1 <;> dsimp only <;> omega
  have em : val_main_v124 (F := Ideal) x3 (ix3 b t c) = at3 x3 b.val 2 c.val := by
    pointwise [val_main_v124, val_main_v123]
    rw [at3_ix3 x3]
    rfl
  rw [val_main_v126_apply, val_main_v125_apply, val_main_v122_apply, e, ex, em]
  pointwise [val_main_v121, val_main_cst_8]
  rfl

/-- A row of the reference's residual. -/
def zRow (b : Fin 8) (t : Fin 8192) : ℕ → EReal :=
  resid (at2 x0 (8192 * b.val + t.val)) (at3 x3 b.val 2) (catAt (at2 x1) (at2 x2) (at1 x4) (at3 x5) (at2 x6 0) b.val t.val) (at2 x7)

theorem ofBits_zero : Ideal.ofBits .f32 0#32 = 0 := by
  simp [Ideal.ofBits, Ideal.ieee]

theorem mean_at (b : Fin 8) (t : Fin 8192) (z : Fin 1) :
    val_main_v130 (F := Ideal) x0 x1 x2 x3 x4 x5 x6 x7 (ix3 b t z) = mean (zRow x0 x1 x2 x3 x4 x5 x6 x7 b t) := by
  pointwise [val_main_v130, val_main_v129, val_main_cst_10, val_main_v128, val_main_v127, val_main_cst_9]
  simp only [resid_at]
  rfl

theorem centre_at (b : Fin 8) (t : Fin 8192) (c : Fin 1024) :
    val_main_v132 (F := Ideal) x0 x1 x2 x3 x4 x5 x6 x7 (ix3 b t c) = zRow x0 x1 x2 x3 x4 x5 x6 x7 b t c.val - mean (zRow x0 x1 x2 x3 x4 x5 x6 x7 b t) := by
  have e : val_main_v131 (F := Ideal) x0 x1 x2 x3 x4 x5 x6 x7 (ix3 b t c) = val_main_v130 (F := Ideal) x0 x1 x2 x3 x4 x5 x6 x7 (ix3 b t 0) := by
    pointwise [val_main_v131]
  rw [val_main_v132_apply, e, mean_at, resid_at]
  rfl

theorem var_at (b : Fin 8) (t : Fin 8192) (z : Fin 1) :
    val_main_v137 (F := Ideal) x0 x1 x2 x3 x4 x5 x6 x7 (ix3 b t z)
      = mean fun k => (zRow x0 x1 x2 x3 x4 x5 x6 x7 b t k - mean (zRow x0 x1 x2 x3 x4 x5 x6 x7 b t)) * (zRow x0 x1 x2 x3 x4 x5 x6 x7 b t k - mean (zRow x0 x1 x2 x3 x4 x5 x6 x7 b t)) := by
  pointwise [val_main_v137, val_main_v136, val_main_cst_12, val_main_v135, val_main_v134, val_main_cst_11, val_main_v133]
  simp only [centre_at]
  rfl

theorem norm_at (b : Fin 8) (t : Fin 8192) (c : Fin 1024) :
    val_main_v150 (F := Ideal) x0 x1 x2 x3 x4 x5 x6 x7 x8 x9 (ix3 b t c) = normAt (zRow x0 x1 x2 x3 x4 x5 x6 x7 b t) (at2 x8 0) (at2 x9 0) c.val := by
  have e8 : val_main_v138 (F := Ideal) x0 x1 x2 x3 x4 x5 x6 x7 (ix3 b t c) = val_main_v130 (F := Ideal) x0 x1 x2 x3 x4 x5 x6 x7 (ix3 b t 0) := by
    pointwise [val_main_v138]
  have e3 : val_main_v143 (F := Ideal) x0 x1 x2 x3 x4 x5 x6 x7 (ix3 b t c) = Ideal.rsqrt (val_main_v137 (F := Ideal) x0 x1 x2 x3 x4 x5 x6 x7 (ix3 b t 0) + Ideal.ofBits .f32 925353388#32) := by
    pointwise [val_main_v143, val_main_v142, val_main_v141, val_main_v140, val_main_cst_13]
  have eg : val_main_v146 (F := Ideal) x8 (ix3 b t c) = at2 x8 0 c.val := by
    pointwise [val_main_v146, val_main_v145]
    rw [at2_ix2 x8]
    rfl
  have eb : val_main_v149 (F := Ideal) x9 (ix3 b t c) = at2 x9 0 c.val := by
    pointwise [val_main_v149, val_main_v148]
    rw [at2_ix2 x9]
    rfl
  rw [val_main_v150_apply, val_main_v147_apply, val_main_v144_apply, val_main_v139_apply, e8, e3, eg, eb, mean_at, var_at, resid_at]
  rfl

/-- What the reference returns. -/
theorem reference_eq : val_main_v151 (F := Ideal) x0 x1 x2 x3 x4 x5 x6 x7 x8 x9 = fun i : S65536x1024.Idx => layer x0 x1 x2 x3 x4 x5 x6 x7 x8 x9 (i 0).val (i 1).val := by
  funext i
  have h0 : (i 0).val < 65536 := (i 0).isLt
  have h1 : (i 1).val < 1024 := (i 1).isLt
  have hb : (i 0).val / 8192 < 8 := by omega
  have ht : (i 0).val % 8192 < 8192 := by omega
  have e : idx_main_v151 i = ix3 ⟨(i 0).val / 8192, hb⟩ ⟨(i 0).val % 8192, ht⟩ ⟨(i 1).val, h1⟩ := by
    ext a
    fin_cases a
    · show ((i 0).val * 1024 + (i 1).val) / 8388608 = (i 0).val / 8192
      omega
    · show ((i 0).val * 1024 + (i 1).val) / 1024 % 8192 = (i 0).val % 8192
      omega
    · show ((i 0).val * 1024 + (i 1).val) % 1024 = (i 1).val
      omega
  rw [val_main_v151_apply, e, norm_at]
  unfold layer zRow
  dsimp only
  rw [show 8192 * ((i 0).val / 8192) + (i 0).val % 8192 = (i 0).val by omega]

end Cert.Mix

end
-- ==== Proof.Ffn.Spec.lean ====
/- The feed-forward step, row by row, as both programs compute it. -/
module

public import proofs.«01_k».proof.Proof.Mix.Layer

@[expose] public section

noncomputable section

namespace Cert.Ffn

open Idealize.ShloMosaic Cert.Mix

/-- A row, normalised, scaled and shifted. -/
def modAt (x sc sh : ℕ → EReal) (c : ℕ) : EReal :=
  (x c - mean x) * Ideal.rsqrt (mean (fun k => (x k - mean x) * (x k - mean x)) + Ideal.ofBits .f32 925353388#32)
    * (Ideal.ofBits .f32 1065353216#32 + sc c) + sh c

/-- A row times a matrix, at a column of the hidden layer. -/
def projAt (h : ℕ → EReal) (w : ℕ → ℕ → EReal) (j : ℕ) : EReal := ∑ k : Fin 1024, h k.val * w k.val j

/-- The gated hidden layer. -/
def actAt (h : ℕ → EReal) (w1 w3 : ℕ → ℕ → EReal) (j : ℕ) : EReal :=
  projAt h w1 j * Ideal.logistic (projAt h w1 j) * projAt h w3 j

/-- The residual before the normalisation. -/
def stepAt (x gt act : ℕ → EReal) (w2 : ℕ → ℕ → EReal) (c : ℕ) : EReal :=
  Ideal.ofBits .f32 1068827891#32 * x c + Ideal.ofBits .f32 1056964608#32 * gt c * ∑ j : Fin 2816, act j.val * w2 j.val c

/-- A row of the step. -/
def rowAt (x sh sc gt g b : ℕ → EReal) (w1 w3 w2 : ℕ → ℕ → EReal) (c : ℕ) : EReal :=
  normAt (stepAt x gt (actAt (modAt x sc sh) w1 w3) w2) g b c

/-- The step of a whole batch of sequences of 8192 rows. -/
def step (x : Shape.Idx ⟨2, ![65536, 1024]⟩ → EReal) (md : Shape.Idx ⟨3, ![8, 3, 1024]⟩ → EReal) (g b : Shape.Idx ⟨2, ![1, 1024]⟩ → EReal)
    (w1 w3 : Shape.Idx ⟨2, ![1024, 2816]⟩ → EReal) (w2 : Shape.Idx ⟨2, ![2816, 1024]⟩ → EReal) (r c : ℕ) : EReal :=
  rowAt (at2 x r) (at3 md (r / 8192) 0) (at3 md (r / 8192) 1) (at3 md (r / 8192) 2) (at2 g 0) (at2 b 0) (at2 w1) (at2 w3) (at2 w2) c

theorem modAt_congr {x x' sc sc' sh sh' : ℕ → EReal} {c : ℕ} (hc : c < 1024) (hx : ∀ c, c < 1024 → x c = x' c) (hs : sc c = sc' c) (hh : sh c = sh' c) :
    modAt x sc sh c = modAt x' sc' sh' c :=
  normAt_congr (g := fun c => Ideal.ofBits .f32 1065353216#32 + sc c) (g' := fun c => Ideal.ofBits .f32 1065353216#32 + sc' c) c hc hx
    (congrArg (Ideal.ofBits .f32 1065353216#32 + ·) hs) hh

theorem projAt_congr {h h' : ℕ → EReal} {w w' : ℕ → ℕ → EReal} {j : ℕ} (hh : ∀ c, c < 1024 → h c = h' c) (hw : ∀ k, k < 1024 → w k j = w' k j) :
    projAt h w j = projAt h' w' j :=
  Finset.sum_congr rfl fun k _ => by rw [hh k.val k.isLt, hw k.val k.isLt]

theorem actAt_congr {h h' : ℕ → EReal} {w1 w1' w3 w3' : ℕ → ℕ → EReal} {j : ℕ} (hh : ∀ c, c < 1024 → h c = h' c)
    (h1 : ∀ k, k < 1024 → w1 k j = w1' k j) (h3 : ∀ k, k < 1024 → w3 k j = w3' k j) : actAt h w1 w3 j = actAt h' w1' w3' j := by
  unfold actAt
  rw [projAt_congr hh h1, projAt_congr hh h3]

theorem stepAt_congr {x x' gt gt' act act' : ℕ → EReal} {w2 w2' : ℕ → ℕ → EReal} {c : ℕ} (hx : x c = x' c) (hg : gt c = gt' c)
    (ha : ∀ j, j < 2816 → act j = act' j) (hw : ∀ j, j < 2816 → w2 j c = w2' j c) : stepAt x gt act w2 c = stepAt x' gt' act' w2' c := by
  unfold stepAt
  rw [hx, hg, Finset.sum_congr rfl fun j _ => by rw [ha j.val j.isLt, hw j.val j.isLt]]

theorem rowAt_congr {x x' sh sh' sc sc' gt gt' g g' b b' : ℕ → EReal} {w1 w1' w3 w3' w2 w2' : ℕ → ℕ → EReal} {c : ℕ} (hc : c < 1024)
    (hx : ∀ c, c < 1024 → x c = x' c) (hsh : ∀ c, c < 1024 → sh c = sh' c) (hsc : ∀ c, c < 1024 → sc c = sc' c)
    (hgt : ∀ c, c < 1024 → gt c = gt' c) (hg : ∀ c, c < 1024 → g c = g' c) (hb : ∀ c, c < 1024 → b c = b' c)
    (h1 : ∀ k j, k < 1024 → j < 2816 → w1 k j = w1' k j) (h3 : ∀ k j, k < 1024 → j < 2816 → w3 k j = w3' k j)
    (h2 : ∀ j k, j < 2816 → k < 1024 → w2 j k = w2' j k) : rowAt x sh sc gt g b w1 w3 w2 c = rowAt x' sh' sc' gt' g' b' w1' w3' w2' c :=
  normAt_congr c hc (fun k hk => stepAt_congr (hx k hk) (hgt k hk)
    (fun j hj => actAt_congr (fun q hq => modAt_congr hq hx (hsc q hq) (hsh q hq)) (fun q hq => h1 q j hq hj) fun q hq => h3 q j hq hj)
    fun j hj => h2 j k hj hk) (hg c hc) (hb c hc)

end Cert.Ffn

end
-- ==== Proof.Ffn.Block.lean ====
/- The feed-forward step of a block of rows, as the kernel's stores compute it, read at an index. -/
module

public import proofs.«01_k».proof.Proof.Gen.Kernel2Ideal.Value
public import proofs.«01_k».proof.Proof.Ffn.Spec
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen Idealize.ShloMosaic Cert.Mix
variable [Facts]
open Facts

/-- The rows' means. -/
def meanBlk (z : FVec Ideal S256x1024 .f32) : FVec Ideal S256x1 .f32 :=
  divf (shapeCast S256x1 (multiReduction .add [1] S256 z 0x00000000#32 reduces_S256x1024_S256 (.inl rfl) rfl : FVec Ideal S256 .f32) shapeCasts_S256_S256x1)
    (broadcast S256x1 (Scalar.ofBits .f32 0x44800000#32 : Ideal .f32))

/-- The rows, centred. -/
def centred (z : FVec Ideal S256x1024 .f32) : FVec Ideal S256x1024 .f32 :=
  subf z (broadcastTo S256x1024 (meanBlk z) broadcasts_S256x1_S256x1024)

/-- The rows, normalised. -/
def unitBlk (z : FVec Ideal S256x1024 .f32) : FVec Ideal S256x1024 .f32 :=
  mulf (centred z) (broadcastTo S256x1024 (rsqrt (addf (meanBlk (mulf (centred z) (centred z)))
    (broadcast S256x1 (Scalar.ofBits .f32 0x3727C5AC#32 : Ideal .f32))) : FVec Ideal S256x1 .f32) broadcasts_S256x1_S256x1024)

/-- The rows, modulated. -/
def modBlk (x : FVec Ideal S256x1024 .f32) (sc sh : Vec Ideal S1x1x1024 .f32) : FVec Ideal S256x1024 .bf16 :=
  truncf .bf16 (addf (mulf (unitBlk x) (broadcastTo S256x1024 (addf (broadcast S1x1024 (Scalar.ofBits .f32 0x3F800000#32 : Ideal .f32))
    (shapeCast S1x1024 sc shapeCasts_S1x1x1024_S1x1024 : FVec Ideal S1x1024 .f32) : FVec Ideal S1x1024 .f32) broadcasts_S1x1024_S256x1024))
    (broadcastTo S256x1024 (shapeCast S1x1024 sh shapeCasts_S1x1x1024_S1x1024 : FVec Ideal S1x1024 .f32) broadcasts_S1x1024_S256x1024)) bitsLt_bf16_f32

/-- The rows' projection into the hidden layer. -/
def projBlk (h : FVec Ideal S256x1024 .bf16) (w : Vec Ideal S1024x2816 .bf16) : FVec Ideal S256x2816 .f32 :=
  matmul (φ₂ := .bf16) dot_S256x1024_S1024x2816_S256x2816_1_0_0_1_n_n none h w (constant S256x2816 .f32 0x00000000#32)

/-- The gated hidden layer. -/
def actBlk (h : FVec Ideal S256x1024 .bf16) (w1 w3 : Vec Ideal S1024x2816 .bf16) : FVec Ideal S256x2816 .bf16 :=
  truncf .bf16 (mulf (mulf (projBlk h w1) (logistic (projBlk h w1))) (projBlk h w3)) bitsLt_bf16_f32

/-- The residual. -/
def stepBlk (x : FVec Ideal S256x1024 .f32) (gt : Vec Ideal S1x1x1024 .f32) (act : FVec Ideal S256x2816 .bf16) (w2 : Vec Ideal S2816x1024 .bf16) :
    FVec Ideal S256x1024 .f32 :=
  addf (mulf (broadcast S256x1024 (Scalar.ofBits .f32 0x3FB504F3#32 : Ideal .f32)) x)
    (mulf (broadcastTo S256x1024 (mulf (broadcast S1x1024 (Scalar.ofBits .f32 0x3F000000#32 : Ideal .f32))
      (shapeCast S1x1024 gt shapeCasts_S1x1x1024_S1x1024 : FVec Ideal S1x1024 .f32) : FVec Ideal S1x1024 .f32) broadcasts_S1x1024_S256x1024)
      (matmul (φ₂ := .bf16) dot_S256x2816_S2816x1024_S256x1024_1_0_0_1_n_n none act w2 (constant S256x1024 .f32 0x00000000#32)))

/-- The block that is stored. -/
def outBlk (z : FVec Ideal S256x1024 .f32) (g b : Vec Ideal S1x1024 .f32) : FVec Ideal S256x1024 .f32 :=
  addf (mulf (unitBlk z) (broadcastTo S256x1024 g broadcasts_S1x1024_S256x1024)) (broadcastTo S256x1024 b broadcasts_S1x1024_S256x1024)

/-- The whole step of a block of rows. -/
def rowsBlk (x : FVec Ideal S256x1024 .f32) (sh sc gt : Vec Ideal S1x1x1024 .f32) (g b : Vec Ideal S1x1024 .f32) (w1 w3 : Vec Ideal S1024x2816 .bf16)
    (w2 : Vec Ideal S2816x1024 .bf16) : FVec Ideal S256x1024 .f32 :=
  outBlk (stepBlk x gt (actBlk (modBlk x sc sh) w1 w3) w2) g b

section
variable (x z : Vec Ideal S256x1024 .f32) (act : FVec Ideal S256x2816 .bf16) (sc sh gt : Vec Ideal S1x1x1024 .f32) (g b : Vec Ideal S1x1024 .f32)
  (w1 w3 : Vec Ideal S1024x2816 .bf16) (w2 : Vec Ideal S2816x1024 .bf16)

theorem pay2_eq : k0_pay2 (F := Ideal) x sc sh w1 w3 = actBlk (modBlk x sc sh) w1 w3 := rfl

theorem pay3_eq : k0_pay3 (F := Ideal) x act w2 gt g b = outBlk (stepBlk x gt act w2) g b := rfl

theorem pay5_eq : k0_pay5 (F := Ideal) x (k0_pay4 x) sc sh w1 w3 w2
    = matmul (φ₂ := .bf16) dot_S256x2816_S2816x1024_S256x1024_1_0_0_1_n_n none (actBlk (modBlk x sc sh) w1 w3) w2 (constant S256x1024 .f32 0x00000000#32) := rfl

theorem pay8_eq : k0_pay8 (F := Ideal) (matmul (φ₂ := .bf16) dot_S256x2816_S2816x1024_S256x1024_1_0_0_1_n_n none act w2 (constant S256x1024 .f32 0x00000000#32))
    (k0_pay6 x) (k0_pay7 gt) g b = outBlk (stepBlk x gt act w2) g b := rfl

theorem pay11_eq : k0_pay11 (F := Ideal) x (k0_pay9 x) (k0_pay10 x) (Scalar.ofBits .f32 0x3727C5AC#32) sc sh w1 w3 w2 gt = stepBlk x gt (actBlk (modBlk x sc sh) w1 w3) w2 := rfl

theorem pay12_eq : k0_pay12 (F := Ideal) x (k0_pay9 x) (k0_pay10 x) (Scalar.ofBits .f32 0x3727C5AC#32) sc sh w1 w3 w2 gt
    = shapeCast S256x1 (multiReduction .add [1] S256 (stepBlk x gt (actBlk (modBlk x sc sh) w1 w3) w2) 0x00000000#32 reduces_S256x1024_S256 (.inl rfl) rfl : FVec Ideal S256 .f32) shapeCasts_S256_S256x1 := by
  unfold k0_pay12
  rw [pay11_eq]

theorem pay13_eq : k0_pay13 (F := Ideal) z (shapeCast S256x1 (multiReduction .add [1] S256 z 0x00000000#32 reduces_S256x1024_S256 (.inl rfl) rfl : FVec Ideal S256 .f32) shapeCasts_S256_S256x1)
    (Scalar.ofBits .f32 0x44800000#32) g b = outBlk z g b := rfl

theorem pay14_eq : k0_pay14 (F := Ideal) x = unitBlk x := rfl

theorem pay16_eq : k0_pay16 (F := Ideal) x (unitBlk x) (k0_pay15 sc) sh w1 w3 w2 gt = centred (stepBlk x gt (actBlk (modBlk x sc sh) w1 w3) w2) := rfl

theorem pay17_eq : k0_pay17 (F := Ideal) x (unitBlk x) (k0_pay15 sc) sh w1 w3 w2 gt
    = shapeCast S256x1 (multiReduction .add [1] S256 (mulf (centred (stepBlk x gt (actBlk (modBlk x sc sh) w1 w3) w2)) (centred (stepBlk x gt (actBlk (modBlk x sc sh) w1 w3) w2))) 0x00000000#32 reduces_S256x1024_S256 (.inl rfl) rfl : FVec Ideal S256 .f32) shapeCasts_S256_S256x1 := by
  unfold k0_pay17
  rw [pay16_eq]

theorem pay1_eq : k0_pay1 (F := Ideal) (centred z) (shapeCast S256x1 (multiReduction .add [1] S256 (mulf (centred z) (centred z)) 0x00000000#32 reduces_S256x1024_S256 (.inl rfl) rfl : FVec Ideal S256 .f32) shapeCasts_S256_S256x1)
    k0_pay18 g b = outBlk z g b := rfl

end

/-- The kernel's four stores are the step of four blocks of rows. -/
theorem out_eq (x0 : Vec Ideal S1024x1024 .f32) (x1 : Vec Ideal S1x3x1024 .f32) (x2 x3 : Vec Ideal S1x1024 .f32) (x4 x5 : Vec Ideal S1024x2816 .bf16)
    (x6 : Vec Ideal S2816x1024 .bf16) : out0_7 x0 x1 x2 x3 x4 x5 x6 = View.canon [
      ⟨r0_9, rowsBlk (View.ld x0 r0_9) (View.ld x1 r0_2) (View.ld x1 r0_1) (View.ld x1 r0_5) (View.ld x2 r0_6) (View.ld x3 r0_6) (View.ld x4 r0_3) (View.ld x5 r0_3) (View.ld x6 r0_4)⟩,
      ⟨r0_8, rowsBlk (View.ld x0 r0_8) (View.ld x1 r0_2) (View.ld x1 r0_1) (View.ld x1 r0_5) (View.ld x2 r0_6) (View.ld x3 r0_6) (View.ld x4 r0_3) (View.ld x5 r0_3) (View.ld x6 r0_4)⟩,
      ⟨r0_7, rowsBlk (View.ld x0 r0_7) (View.ld x1 r0_2) (View.ld x1 r0_1) (View.ld x1 r0_5) (View.ld x2 r0_6) (View.ld x3 r0_6) (View.ld x4 r0_3) (View.ld x5 r0_3) (View.ld x6 r0_4)⟩,
      ⟨r0_0, rowsBlk (View.ld x0 r0_0) (View.ld x1 r0_2) (View.ld x1 r0_1) (View.ld x1 r0_5) (View.ld x2 r0_6) (View.ld x3 r0_6) (View.ld x4 r0_3) (View.ld x5 r0_3) (View.ld x6 r0_4)⟩] := by
  unfold_out out0_7
  unfold rowsBlk
  rw [pay2_eq, pay3_eq, pay5_eq, pay8_eq, pay12_eq, pay11_eq, pay13_eq, pay14_eq, pay17_eq, pay16_eq, pay1_eq]

theorem meanBlk_apply (z : FVec Ideal S256x1024 .f32) (r : Fin 256) : meanBlk z (ix2 r 0) = mean fun c => at2 z r.val c := by
  unfold mean
  pointwise [meanBlk]
  simp only [at2_ix2 z]
  try rfl

theorem centred_apply (z : FVec Ideal S256x1024 .f32) (r : Fin 256) (c : Fin 1024) :
    centred z (ix2 r c) = at2 z r.val c.val - mean fun c => at2 z r.val c := by
  rw [← meanBlk_apply]
  pointwise [centred]
  rw [at2_ix2 z]

theorem unitBlk_apply (z : FVec Ideal S256x1024 .f32) (r : Fin 256) (c : Fin 1024) :
    unitBlk z (ix2 r c) = (at2 z r.val c.val - mean fun c => at2 z r.val c)
      * Ideal.rsqrt (mean (fun k => (at2 z r.val k - mean fun c => at2 z r.val c) * (at2 z r.val k - mean fun c => at2 z r.val c)) + Ideal.ofBits .f32 925353388#32) := by
  have e : meanBlk (mulf (centred z) (centred z)) (ix2 r 0)
      = mean fun k => (at2 z r.val k - mean fun c => at2 z r.val c) * (at2 z r.val k - mean fun c => at2 z r.val c) := by
    rw [meanBlk_apply]
    unfold mean
    congr 1
    refine Finset.sum_congr rfl fun k _ => ?_
    refine (at2_ix2 (mulf (centred z) (centred z) : FVec Ideal S256x1024 .f32) r k).symm.trans ?_
    show centred z (ix2 r k) * centred z (ix2 r k) = _
    rw [centred_apply]; rfl
  rw [← e]
  pointwise [unitBlk]
  rw [centred_apply]

theorem modBlk_apply (x : FVec Ideal S256x1024 .f32) (sc sh : Vec Ideal S1x1x1024 .f32) (r : Fin 256) (c : Fin 1024) :
    modBlk x sc sh (ix2 r c) = modAt (fun c => at2 x r.val c) (fun c => at3 sc 0 0 c) (fun c => at3 sh 0 0 c) c.val := by
  have hs := at3_ix3 sc 0 0 c
  have hh := at3_ix3 sh 0 0 c
  unfold modAt
  pointwise [modBlk]
  simp only [unitBlk_apply, hs, hh]
  rfl

theorem projBlk_apply (h : FVec Ideal S256x1024 .bf16) (w : Vec Ideal S1024x2816 .bf16) (r : Fin 256) (j : Fin 2816) :
    projBlk h w (ix2 r j) = projAt (fun k => at2 h r.val k) (at2 w) j.val := by
  unfold projAt
  have hs (k : Fin 1024) : h (ix2 r k) * w (ix2 k j) = at2 h r.val k.val * at2 w k.val j.val := by
    rw [at2_ix2 h r k, at2_ix2 w k j]
  pointwise [projBlk]
  simp only [hs]

theorem actBlk_apply (h : FVec Ideal S256x1024 .bf16) (w1 w3 : Vec Ideal S1024x2816 .bf16) (r : Fin 256) (j : Fin 2816) :
    actBlk h w1 w3 (ix2 r j) = actAt (fun k => at2 h r.val k) (at2 w1) (at2 w3) j.val := by
  unfold actAt
  pointwise [actBlk]
  simp only [projBlk_apply]

theorem stepBlk_apply (x : FVec Ideal S256x1024 .f32) (gt : Vec Ideal S1x1x1024 .f32) (act : FVec Ideal S256x2816 .bf16) (w2 : Vec Ideal S2816x1024 .bf16)
    (r : Fin 256) (c : Fin 1024) :
    stepBlk x gt act w2 (ix2 r c) = stepAt (fun c => at2 x r.val c) (fun c => at3 gt 0 0 c) (fun j => at2 act r.val j) (at2 w2) c.val := by
  unfold stepAt
  have hx := at2_ix2 x r c
  have hg := at3_ix3 gt 0 0 c
  have hs (k : Fin 2816) : act (ix2 r k) * w2 (ix2 k c) = at2 act r.val k.val * at2 w2 k.val c.val := by
    rw [at2_ix2 act r k, at2_ix2 w2 k c]
  pointwise [stepBlk]
  simp only [hx, hg, hs]
  rfl

theorem outBlk_apply (z : FVec Ideal S256x1024 .f32) (g b : Vec Ideal S1x1024 .f32) (r : Fin 256) (c : Fin 1024) :
    outBlk z g b (ix2 r c) = normAt (fun c => at2 z r.val c) (fun c => at2 g 0 c) (fun c => at2 b 0 c) c.val := by
  unfold normAt
  pointwise [outBlk]
  rw [unitBlk_apply, at2_ix2 g, at2_ix2 b]
  rfl

theorem rowsBlk_apply (x : FVec Ideal S256x1024 .f32) (sh sc gt : Vec Ideal S1x1x1024 .f32) (g b : Vec Ideal S1x1024 .f32) (w1 w3 : Vec Ideal S1024x2816 .bf16)
    (w2 : Vec Ideal S2816x1024 .bf16) (r : Fin 256) (c : Fin 1024) : rowsBlk x sh sc gt g b w1 w3 w2 (ix2 r c)
      = rowAt (at2 x r.val) (at3 sh 0 0) (at3 sc 0 0) (at3 gt 0 0) (at2 g 0) (at2 b 0) (at2 w1) (at2 w3) (at2 w2) c.val := by
  unfold rowsBlk rowAt
  rw [outBlk_apply]
  refine normAt_congr _ c.isLt (fun k hk => ?_) rfl rfl
  rw [at2_of _ r.isLt hk]
  refine (stepBlk_apply _ _ _ _ r ⟨k, hk⟩).trans (stepAt_congr rfl rfl (fun j hj => ?_) fun _ _ => rfl)
  rw [at2_of _ r.isLt hj]
  refine (actBlk_apply _ _ _ r ⟨j, hj⟩).trans (actAt_congr (fun q hq => ?_) (fun _ _ => rfl) fun _ _ => rfl)
  rw [at2_of _ r.isLt hq]
  exact modBlk_apply x sc sh r ⟨q, hq⟩

end Cert.Ffn

end
-- ==== Proof.Ffn.Kern.lean ====
/- The feed-forward kernel's result array: the step of its arguments. -/
module

public import proofs.«01_k».proof.Proof.Ffn.Block
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Cert.Mix

section
variable (x0 : Vec Ideal S1024x1024 .f32) (x1 : Vec Ideal S1x3x1024 .f32) (x2 x3 : Vec Ideal S1x1024 .f32) (x4 x5 : Vec Ideal S1024x2816 .bf16)
  (x6 : Vec Ideal S2816x1024 .bf16)

/-- The staged result of a grid point, at a row and a column. -/
theorem out_apply (y : S1024x1024.Idx) : out0_7 x0 x1 x2 x3 x4 x5 x6 y
    = rowAt (at2 x0 (y 0).val) (at3 x1 0 0) (at3 x1 0 1) (at3 x1 0 2) (at2 x2 0) (at2 x3 0) (at2 x4) (at2 x5) (at2 x6) (y 1).val := by
  have hs (k : Fin 3) (inb) (c : ℕ) (hc : c < 1024) : at3 (View.ld x1 (Rect.unit (s := S1x3x1024) ![0, k.val, 0] S1x1x1024.size inb) : Vec Ideal S1x1x1024 .f32) 0 0 c = at3 x1 0 k.val c := by
    refine (at3_ix3 (View.ld x1 (Rect.unit (s := S1x3x1024) ![0, k.val, 0] S1x1x1024.size inb) : Vec Ideal S1x1x1024 .f32) 0 0 ⟨c, hc⟩).symm.trans
      (Eq.trans ?_ (at3_ix3 x1 0 k ⟨c, hc⟩))
    rw [View.ld_apply]
    refine congrArg x1 ?_
    ext a
    fin_cases a <;> simp [Rect.idx_unit_val, ix3]
  have key (o : ℕ) (inb) (r : Fin 256) (c : Fin 1024) (ho : o + 256 ≤ 1024) :
      rowsBlk (View.ld x0 (Rect.unit (s := S1024x1024) ![o, 0] S256x1024.size inb)) (View.ld x1 r0_2) (View.ld x1 r0_1) (View.ld x1 r0_5) (View.ld x2 r0_6) (View.ld x3 r0_6) (View.ld x4 r0_3) (View.ld x5 r0_3) (View.ld x6 r0_4) (ix2 r c)
        = rowAt (at2 x0 (o + 1 * r.val)) (at3 x1 0 0) (at3 x1 0 1) (at3 x1 0 2) (at2 x2 0) (at2 x3 0) (at2 x4) (at2 x5) (at2 x6) (0 + 1 * c.val) := by
    rw [Nat.one_mul, Nat.one_mul, Nat.zero_add, show View.ld x2 r0_6 = x2 from View.ld_unit_lit _ x2 (by decide), show View.ld x3 r0_6 = x3 from View.ld_unit_lit _ x3 (by decide),
      show View.ld x4 r0_3 = x4 from View.ld_unit_lit _ x4 (by decide), show View.ld x5 r0_3 = x5 from View.ld_unit_lit _ x5 (by decide),
      show View.ld x6 r0_4 = x6 from View.ld_unit_lit _ x6 (by decide)]
    refine (rowsBlk_apply _ _ _ _ _ _ _ _ _ r c).trans (rowAt_congr c.isLt (fun k hk => ?_) (fun k hk => hs 0 _ k hk) (fun k hk => hs 1 _ k hk) (fun k hk => hs 2 _ k hk)
      (fun _ _ => rfl) (fun _ _ => rfl) (fun _ _ _ _ => rfl) (fun _ _ _ _ => rfl) fun _ _ _ _ => rfl)
    rw [at2_of _ r.isLt hk, at2_of _ (by omega) hk, View.ld_apply]
    refine congrArg x0 ?_
    ext a
    fin_cases a <;> simp [Rect.idx_unit_val, ix2]
  rw [out_eq]
  refine View.canon_apply_of_pieces (Val := Elt Ideal) (S := S1024x1024) (e := .f32) (fun y : S1024x1024.Idx =>
    (rowAt (at2 x0 (y 0).val) (at3 x1 0 0) (at3 x1 0 1) (at3 x1 0 2) (at2 x2 0) (at2 x3 0) (at2 x4) (at2 x5) (at2 x6) (y 1).val : Elt Ideal .f32)) _ ?_ y (cover0_7 _ _ _ _ y)
  intro p hp x
  simp only [List.mem_cons, List.not_mem_nil, or_false] at hp
  rcases hp with rfl | rfl | rfl | rfl
  · obtain ⟨r, c, rfl⟩ : ∃ (r : Fin 256) (c : Fin 1024), x = ix2 r c := ⟨x 0, x 1, eq_ix2 x⟩
    exact key 768 _ r c (by omega)
  · obtain ⟨r, c, rfl⟩ : ∃ (r : Fin 256) (c : Fin 1024), x = ix2 r c := ⟨x 0, x 1, eq_ix2 x⟩
    exact key 512 _ r c (by omega)
  · obtain ⟨r, c, rfl⟩ : ∃ (r : Fin 256) (c : Fin 1024), x = ix2 r c := ⟨x 0, x 1, eq_ix2 x⟩
    exact key 256 _ r c (by omega)
  · obtain ⟨r, c, rfl⟩ : ∃ (r : Fin 256) (c : Fin 1024), x = ix2 r c := ⟨x 0, x 1, eq_ix2 x⟩
    exact key 0 _ r c (by omega)

end

variable (m : (ℓ : Loc nD τ sig) → Buf (Elt Ideal) ℓ) (c : Dev nD)

/-- Where each staged block sits, at every grid point. -/
theorem index_at : ∀ t : Fin grid0.N,
    win0_0.index t = ![t.val, 0] ∧ win0_1.index t = ![t.val / 8, 0, 0] ∧ win0_2.index t = ![0, 0] ∧ win0_3.index t = ![0, 0] ∧
    win0_4.index t = ![0, 0] ∧ win0_5.index t = ![0, 0] ∧ win0_6.index t = ![0, 0] ∧ win0_7.index t = ![t.val, 0] := by
  decide +kernel

/-- The rows of the input. -/
theorem x_blk (t : Fin cfg0.N) {r k : ℕ} (hr : r < 1024) (hk : k < 1024) :
    at2 (iblk m c 0 t : Vec Ideal S1024x1024 .f32) r k = at2 (m (c.tc.loc main_arg0) : Vec Ideal S65536x1024 .f32) (1024 * t.val + r) k := by
  have ht : t.val < 64 := t.isLt
  obtain ⟨e0, e1, e2, e3, e4, e5, e6, e7⟩ := index_at t
  rw [at2_of _ hr hk, at2_of _ (by omega) hk]
  blk_ext [iblk, V, e0]

/-- The modulation of the sequence. -/
theorem md_blk (t : Fin cfg0.N) (q : Fin 3) {k : ℕ} (hk : k < 1024) :
    at3 (iblk m c 1 t : Vec Ideal S1x3x1024 .f32) 0 q.val k = at3 (m (c.tc.loc main_arg1) : Vec Ideal S8x3x1024 .f32) (t.val / 8) q.val k := by
  have ht : t.val < 64 := t.isLt
  obtain ⟨e0, e1, e2, e3, e4, e5, e6, e7⟩ := index_at t
  have h1 := at3_ix3 (iblk m c 1 t : Vec Ideal S1x3x1024 .f32) 0 q ⟨k, hk⟩
  have h2 := at3_ix3 (m (c.tc.loc main_arg1) : Vec Ideal S8x3x1024 .f32) ⟨t.val / 8, by omega⟩ q ⟨k, hk⟩
  refine h1.symm.trans (Eq.trans ?_ h2)
  blk_ext [iblk, V, e1]

/-- The normalisation's gain. -/
theorem gain_blk (t : Fin cfg0.N) {k : ℕ} (hk : k < 1024) :
    at2 (iblk m c 2 t : Vec Ideal S1x1024 .f32) 0 k = at2 (m (c.tc.loc main_arg2) : Vec Ideal S1x1024 .f32) 0 k := by
  obtain ⟨e0, e1, e2, e3, e4, e5, e6, e7⟩ := index_at t
  rw [at2_of _ (by omega) hk, at2_of _ (by omega) hk]
  blk_ext [iblk, V, e2]

/-- The normalisation's offset. -/
theorem offset_blk (t : Fin cfg0.N) {k : ℕ} (hk : k < 1024) :
    at2 (iblk m c 3 t : Vec Ideal S1x1024 .f32) 0 k = at2 (m (c.tc.loc main_arg3) : Vec Ideal S1x1024 .f32) 0 k := by
  obtain ⟨e0, e1, e2, e3, e4, e5, e6, e7⟩ := index_at t
  rw [at2_of _ (by omega) hk, at2_of _ (by omega) hk]
  blk_ext [iblk, V, e3]

/-- The first projection. -/
theorem w1_blk (t : Fin cfg0.N) {q k : ℕ} (hq : q < 1024) (hk : k < 2816) :
    at2 (iblk m c 4 t : Vec Ideal S1024x2816 .bf16) q k = at2 (m (c.tc.loc main_arg4) : Vec Ideal S1024x2816 .bf16) q k := by
  obtain ⟨e0, e1, e2, e3, e4, e5, e6, e7⟩ := index_at t
  rw [at2_of _ hq hk, at2_of _ hq hk]
  blk_ext [iblk, V, e4]

/-- The second projection. -/
theorem w3_blk (t : Fin cfg0.N) {q k : ℕ} (hq : q < 1024) (hk : k < 2816) :
    at2 (iblk m c 5 t : Vec Ideal S1024x2816 .bf16) q k = at2 (m (c.tc.loc main_arg5) : Vec Ideal S1024x2816 .bf16) q k := by
  obtain ⟨e0, e1, e2, e3, e4, e5, e6, e7⟩ := index_at t
  rw [at2_of _ hq hk, at2_of _ hq hk]
  blk_ext [iblk, V, e5]

/-- The projection back. -/
theorem w2_blk (t : Fin cfg0.N) {q k : ℕ} (hq : q < 2816) (hk : k < 1024) :
    at2 (iblk m c 6 t : Vec Ideal S2816x1024 .bf16) q k = at2 (m (c.tc.loc main_arg6) : Vec Ideal S2816x1024 .bf16) q k := by
  obtain ⟨e0, e1, e2, e3, e4, e5, e6, e7⟩ := index_at t
  rw [at2_of _ hq hk, at2_of _ hq hk]
  blk_ext [iblk, V, e6]

/-- The step of the kernel's arguments. -/
abbrev kernStep : Vec Ideal S65536x1024 .f32 := fun i =>
  step (m (c.tc.loc main_arg0)) (m (c.tc.loc main_arg1)) (m (c.tc.loc main_arg2)) (m (c.tc.loc main_arg3)) (m (c.tc.loc main_arg4))
    (m (c.tc.loc main_arg5)) (m (c.tc.loc main_arg6)) (i 0).val (i 1).val

set_option maxHeartbeats 8000000 in
theorem result_eq : (dats m 0 c).arrAt 7 cfg0.N = kernStep m c := by
  refine (dats m 0 c).arrAt_eq_of_covers 7 _ (by decide +kernel) fun t hf y => ?_
  have ht : t.val < 64 := t.isLt
  rw [after0_7]
  obtain ⟨-, -, -, -, -, -, -, e7⟩ := index_at t
  have hr : (y 0).val < 1024 := (y 0).isLt
  have hk : (y 1).val < 1024 := (y 1).isLt
  have hx : (cfg0.win 7).xinj (cfg0.grid.coords t) y = (ix2 ⟨(y 0).val, hr⟩ ⟨(y 1).val, hk⟩ : S1024x1024.Idx) :=
    funext fun a => match a with
      | 0 => rfl
      | 1 => rfl
  rw [hx]
  refine (out_apply (iblk m c 0 t) (iblk m c 1 t) (iblk m c 2 t) (iblk m c 3 t) (iblk m c 4 t) (iblk m c 5 t) (iblk m c 6 t) (ix2 ⟨(y 0).val, hr⟩ ⟨(y 1).val, hk⟩)).trans ?_
  have h0 : ((((cfg0.win 7).blk t).view.emb y) 0).val = 1024 * t.val + (y 0).val := by
    blk_simp [e7]
    omega
  have h1 : ((((cfg0.win 7).blk t).view.emb y) 1).val = (y 1).val := by
    blk_simp [e7]
  unfold kernStep
  rw [h0, h1]
  unfold step
  rw [show (1024 * t.val + (y 0).val) / 8192 = t.val / 8 by omega]
  exact rowAt_congr hk (fun k hk => x_blk m c t hr hk) (fun k hk => md_blk m c t 0 hk) (fun k hk => md_blk m c t 1 hk) (fun k hk => md_blk m c t 2 hk)
    (fun k hk => gain_blk m c t hk) (fun k hk => offset_blk m c t hk) (fun q j hq hj => w1_blk m c t hq hj) (fun q j hq hj => w3_blk m c t hq hj)
    fun j q hj hq => w2_blk m c t hj hq

end Cert.Ffn

end
-- ==== Proof.Ffn.Ref.lean ====
/- The feed-forward reference's result, read at an index: the step. -/
module

public import proofs.«01_k».proof.Proof.Gen.Reference2Ideal.Read
public import proofs.«01_k».proof.Proof.Ffn.Spec

@[expose] public section

set_option maxRecDepth 16384

noncomputable section

namespace Cert.Ffn

open Cert.Reference2Ideal Cert.Reference2Ideal.Gen Cert.Reference2Ideal.Read Idealize.ShloMosaic Cert.Mix
variable [Facts]
open Facts

variable (x0 : S65536x1024.Idx → EReal) (x1 : S8x3x1024.Idx → EReal) (x2 x3 : S1x1024.Idx → EReal) (x4 x5 : S1024x2816.Idx → EReal)
  (x6 : S2816x1024.Idx → EReal)

theorem ofBits_one : Ideal.ofBits .f32 1065353216#32 = 1 := by
  simp [Ideal.ofBits, Ideal.ieee]
  rw [← EReal.coe_mul]
  norm_num

/-- A row of the input. -/
def xRow (b : Fin 8) (t : Fin 8192) : ℕ → EReal := at2 x0 (8192 * b.val + t.val)

theorem x_at (b : Fin 8) (t : Fin 8192) (c : Fin 1024) : val_main_v0 (F := Ideal) x0 (ix3 b t c) = xRow x0 b t c.val := by
  pointwise [val_main_v0]
  rw [at2_ix2 x0]
  unfold xRow
  congr 1 <;> dsimp only <;> omega

theorem xmean_at (b : Fin 8) (t : Fin 8192) (z : Fin 1) : val_main_v7 (F := Ideal) x0 (ix3 b t z) = mean (xRow x0 b t) := by
  pointwise [val_main_v7, val_main_v6, val_main_cst_0, val_main_v5, val_main_v4, val_main_cst]
  simp only [x_at]
  rfl

theorem xcentre_at (b : Fin 8) (t : Fin 8192) (c : Fin 1024) :
    val_main_v9 (F := Ideal) x0 (ix3 b t c) = xRow x0 b t c.val - mean (xRow x0 b t) := by
  have e : val_main_v8 (F := Ideal) x0 (ix3 b t c) = val_main_v7 (F := Ideal) x0 (ix3 b t 0) := by
    pointwise [val_main_v8]
  rw [val_main_v9_apply, e, xmean_at, x_at]
  rfl

theorem xvar_at (b : Fin 8) (t : Fin 8192) (z : Fin 1) :
    val_main_v14 (F := Ideal) x0 (ix3 b t z) = mean fun k => (xRow x0 b t k - mean (xRow x0 b t)) * (xRow x0 b t k - mean (xRow x0 b t)) := by
  pointwise [val_main_v14, val_main_v13, val_main_cst_2, val_main_v12, val_main_v11, val_main_cst_1, val_main_v10]
  simp only [xcentre_at]
  rfl

/-- A row of the modulated input. -/
def hRow (b : Fin 8) (t : Fin 8192) : ℕ → EReal := modAt (xRow x0 b t) (at3 x1 b.val 1) (at3 x1 b.val 0)

theorem h_at (b : Fin 8) (t : Fin 8192) (c : Fin 1024) : val_main_v27 (F := Ideal) x0 x1 (ix3 b t c) = hRow x0 x1 b t c.val := by
  have e8 : val_main_v15 (F := Ideal) x0 (ix3 b t c) = val_main_v7 (F := Ideal) x0 (ix3 b t 0) := by
    pointwise [val_main_v15]
  have e3 : val_main_v20 (F := Ideal) x0 (ix3 b t c) = Ideal.rsqrt (val_main_v14 (F := Ideal) x0 (ix3 b t 0) + Ideal.ofBits .f32 925353388#32) := by
    pointwise [val_main_v20, val_main_v19, val_main_v18, val_main_v17, val_main_cst_3]
  have es : val_main_v24 (F := Ideal) x1 (ix3 b t c) = Ideal.ofBits .f32 1065353216#32 + at3 x1 b.val 1 c.val := by
    pointwise [val_main_v24, val_main_v23, val_main_v22, val_main_cst_4, val_main_v2]
    rw [at3_ix3 x1]
    rfl
  have eh : val_main_v26 (F := Ideal) x1 (ix3 b t c) = at3 x1 b.val 0 c.val := by
    pointwise [val_main_v26, val_main_v1]
    rw [at3_ix3 x1]
    rfl
  rw [val_main_v27_apply, val_main_v25_apply, val_main_v21_apply, val_main_v16_apply, e8, e3, es, eh, xmean_at, xvar_at, x_at]
  rfl

theorem first_at (b : Fin 8) (t : Fin 8192) (j : Fin 2816) :
    val_main_v29 (F := Ideal) x0 x1 x4 (ix3 b t j) = projAt (hRow x0 x1 b t) (at2 x4) j.val := by
  rw [val_main_v29_apply]
  refine Finset.sum_congr rfl fun k _ => congrArg₂ (· * ·) ((congrArg (val_main_v27 (F := Ideal) x0 x1) (?_ : _ = ix3 b t k)).trans (h_at x0 x1 b t k)) ?_
  · ext a; fin_cases a <;> rfl
  · rw [← at2_ix2 x4, val_main_v28_apply]
    refine congrArg x4 ?_
    ext a; fin_cases a <;> rfl

theorem third_at (b : Fin 8) (t : Fin 8192) (j : Fin 2816) :
    val_main_v32 (F := Ideal) x0 x1 x5 (ix3 b t j) = projAt (hRow x0 x1 b t) (at2 x5) j.val := by
  rw [val_main_v32_apply]
  refine Finset.sum_congr rfl fun k _ => congrArg₂ (· * ·) ((congrArg (val_main_v27 (F := Ideal) x0 x1) (?_ : _ = ix3 b t k)).trans (h_at x0 x1 b t k)) ?_
  · ext a; fin_cases a <;> rfl
  · rw [← at2_ix2 x5, val_main_v31_apply]
    refine congrArg x5 ?_
    ext a; fin_cases a <;> rfl

/-- The logistic function of the first projection, spelt out by the reference. -/
theorem gate_at (b : Fin 8) (t : Fin 8192) (j : Fin 2816) :
    val_main_call0_v5 (F := Ideal) x0 x1 x4 (ix3 b t j) = Ideal.logistic (projAt (hRow x0 x1 b t) (at2 x4) j.val) := by
  rw [← first_at]
  unfold Ideal.logistic
  rw [← ofBits_one]
  pointwise [val_main_call0_v5, val_main_call0_v4, val_main_call0_cst_0, val_main_call0_v3, val_main_call0_v2, val_main_call0_cst, val_main_call0_v1, val_main_call0_v0]

theorem act_at (b : Fin 8) (t : Fin 8192) (j : Fin 2816) :
    val_main_v33 (F := Ideal) x0 x1 x4 x5 (ix3 b t j) = actAt (hRow x0 x1 b t) (at2 x4) (at2 x5) j.val := by
  rw [val_main_v33_apply, val_main_v30_apply, gate_at, first_at, third_at]
  rfl

/-- A row of the residual. -/
def zRow (b : Fin 8) (t : Fin 8192) : ℕ → EReal :=
  stepAt (xRow x0 b t) (at3 x1 b.val 2) (actAt (hRow x0 x1 b t) (at2 x4) (at2 x5)) (at2 x6)

theorem z_at (b : Fin 8) (t : Fin 8192) (c : Fin 1024) : val_main_v42 (F := Ideal) x0 x1 x4 x5 x6 (ix3 b t c) = zRow x0 x1 x4 x5 x6 b t c.val := by
  have e : val_main_v35 (F := Ideal) x0 x1 x4 x5 x6 (ix3 b t c) = ∑ k : Fin 2816, actAt (hRow x0 x1 b t) (at2 x4) (at2 x5) k.val * at2 x6 k.val c.val := by
    rw [val_main_v35_apply]
    refine Finset.sum_congr rfl fun k _ => congrArg₂ (· * ·) ((congrArg (val_main_v33 (F := Ideal) x0 x1 x4 x5) (?_ : _ = ix3 b t k)).trans (act_at x0 x1 x4 x5 b t k)) ?_
    · ext a; fin_cases a <;> rfl
    · rw [← at2_ix2 x6, val_main_v34_apply]
      refine congrArg x6 ?_
      ext a; fin_cases a <;> rfl
  have eg : val_main_v40 (F := Ideal) x1 (ix3 b t c) = Ideal.ofBits .f32 1056964608#32 * at3 x1 b.val 2 c.val := by
    pointwise [val_main_v40, val_main_v39, val_main_v38, val_main_cst_6, val_main_v3]
    rw [at3_ix3 x1]
    rfl
  have ex : val_main_v36 (F := Ideal) (ix3 b t c) = Ideal.ofBits .f32 1068827891#32 := by
    pointwise [val_main_v36, val_main_cst_5]
  rw [val_main_v42_apply, val_main_v41_apply, val_main_v37_apply, e, eg, ex, x_at]
  rfl

theorem mean_at (b : Fin 8) (t : Fin 8192) (z : Fin 1) : val_main_v46 (F := Ideal) x0 x1 x4 x5 x6 (ix3 b t z) = mean (zRow x0 x1 x4 x5 x6 b t) := by
  pointwise [val_main_v46, val_main_v45, val_main_cst_8, val_main_v44, val_main_v43, val_main_cst_7]
  simp only [z_at]
  rfl

theorem centre_at (b : Fin 8) (t : Fin 8192) (c : Fin 1024) :
    val_main_v48 (F := Ideal) x0 x1 x4 x5 x6 (ix3 b t c) = zRow x0 x1 x4 x5 x6 b t c.val - mean (zRow x0 x1 x4 x5 x6 b t) := by
  have e : val_main_v47 (F := Ideal) x0 x1 x4 x5 x6 (ix3 b t c) = val_main_v46 (F := Ideal) x0 x1 x4 x5 x6 (ix3 b t 0) := by
    pointwise [val_main_v47]
  rw [val_main_v48_apply, e, mean_at, z_at]
  rfl

theorem var_at (b : Fin 8) (t : Fin 8192) (z : Fin 1) :
    val_main_v53 (F := Ideal) x0 x1 x4 x5 x6 (ix3 b t z) = mean fun k => (zRow x0 x1 x4 x5 x6 b t k - mean (zRow x0 x1 x4 x5 x6 b t)) * (zRow x0 x1 x4 x5 x6 b t k - mean (zRow x0 x1 x4 x5 x6 b t)) := by
  pointwise [val_main_v53, val_main_v52, val_main_cst_10, val_main_v51, val_main_v50, val_main_cst_9, val_main_v49]
  simp only [centre_at]
  rfl

theorem norm_at (b : Fin 8) (t : Fin 8192) (c : Fin 1024) :
    val_main_v66 (F := Ideal) x0 x1 x2 x3 x4 x5 x6 (ix3 b t c) = normAt (zRow x0 x1 x4 x5 x6 b t) (at2 x2 0) (at2 x3 0) c.val := by
  have e8 : val_main_v54 (F := Ideal) x0 x1 x4 x5 x6 (ix3 b t c) = val_main_v46 (F := Ideal) x0 x1 x4 x5 x6 (ix3 b t 0) := by
    pointwise [val_main_v54]
  have e3 : val_main_v59 (F := Ideal) x0 x1 x4 x5 x6 (ix3 b t c) = Ideal.rsqrt (val_main_v53 (F := Ideal) x0 x1 x4 x5 x6 (ix3 b t 0) + Ideal.ofBits .f32 925353388#32) := by
    pointwise [val_main_v59, val_main_v58, val_main_v57, val_main_v56, val_main_cst_11]
  have eg : val_main_v62 (F := Ideal) x2 (ix3 b t c) = at2 x2 0 c.val := by
    pointwise [val_main_v62, val_main_v61]
    rw [at2_ix2 x2]
    rfl
  have eb : val_main_v65 (F := Ideal) x3 (ix3 b t c) = at2 x3 0 c.val := by
    pointwise [val_main_v65, val_main_v64]
    rw [at2_ix2 x3]
    rfl
  rw [val_main_v66_apply, val_main_v63_apply, val_main_v60_apply, val_main_v55_apply, e8, e3, eg, eb, mean_at, var_at, z_at]
  rfl

/-- What the reference returns. -/
theorem reference_eq : val_main_v67 (F := Ideal) x0 x1 x2 x3 x4 x5 x6 = fun i : S65536x1024.Idx => step x0 x1 x2 x3 x4 x5 x6 (i 0).val (i 1).val := by
  funext i
  have h0 : (i 0).val < 65536 := (i 0).isLt
  have h1 : (i 1).val < 1024 := (i 1).isLt
  have hb : (i 0).val / 8192 < 8 := by omega
  have ht : (i 0).val % 8192 < 8192 := by omega
  have e : idx_main_v67 i = ix3 ⟨(i 0).val / 8192, hb⟩ ⟨(i 0).val % 8192, ht⟩ ⟨(i 1).val, h1⟩ := by
    ext a
    fin_cases a
    · show ((i 0).val * 1024 + (i 1).val) / 8388608 = (i 0).val / 8192
      omega
    · show ((i 0).val * 1024 + (i 1).val) / 1024 % 8192 = (i 0).val % 8192
      omega
    · show ((i 0).val * 1024 + (i 1).val) % 1024 = (i 1).val
      omega
  rw [val_main_v67_apply, e, norm_at]
  unfold step rowAt zRow hRow xRow
  dsimp only
  rw [show 8192 * ((i 0).val / 8192) + (i 0).val % 8192 = (i 0).val by omega]

end Cert.Ffn

end
-- ==== Proof.Proj.Spec.lean ====
/- The input projection with its rotation, row by row, as both programs compute it. -/
module

public import proofs.«01_k».proof.Proof.Ffn.Spec

@[expose] public section

noncomputable section

namespace Cert.Proj

open Idealize.ShloMosaic Cert.Mix Cert.Ffn

/-- The softmax scale over the natural logarithm of two. -/
def qs : EReal := (((Real.log 256)⁻¹ : ℝ) : EReal)

/-- The angle of position `p` at frequency `f`. -/
def angAt (p f : ℕ) : EReal :=
  FloatOps.sitofp (F := Ideal) FTy.f32 (BitVec.ofNat 32 p) *
    Ideal.pow (Ideal.ofBits .f32 1176256512#32)
      (Ideal.div (-(Ideal.ofBits .f32 0#32 + Ideal.ofBits .f32 1073741824#32 * FloatOps.sitofp (F := Ideal) FTy.f32 (BitVec.ofNat 32 f))) (Ideal.ofBits .f32 1107296256#32))

/-- The angle of lane `d` of a head at position `T` of a sequence: the row's for the first half, the column's for the second. -/
def laneAng (T d : ℕ) : EReal := if d < 32 then angAt (T / 64) (d % 16) else angAt (T % 64) (d % 16)

/-- Lane `d` of the head at column `o`, rotated at position `T`. -/
def ropeAt (T : ℕ) (u : ℕ → EReal) (o d : ℕ) : EReal :=
  if d % 32 < 16 then u (o + d) * Ideal.cos (laneAng T d) - u (o + d + 16) * Ideal.sin (laneAng T d)
  else u (o + d - 16) * Ideal.sin (laneAng T d) + u (o + d) * Ideal.cos (laneAng T d)

/-- Query lane: head `h` fills half of its 128 lanes. -/
def queryAt (T : ℕ) (u : ℕ → EReal) (h l : ℕ) : EReal := if l / 64 = h % 2 then ropeAt T u (512 + 64 * h) (l % 64) * qs else 0

/-- A row of the result at position `T`. -/
def outAt (T : ℕ) (u : ℕ → EReal) (c : ℕ) : EReal :=
  if c < 1024 then queryAt T u (c / 128) (c % 128)
  else if c < 1536 then u (c - 1024)
  else if c < 1792 then ropeAt T u (1024 + 64 * ((c - 1536) / 128)) (c % 64)
  else u (1152 + 64 * ((c - 1792) / 128) + c % 64)

/-- The projection of a whole batch of sequences of 8192 rows. -/
def step (x : Shape.Idx ⟨2, ![65536, 1024]⟩ → EReal) (md : Shape.Idx ⟨3, ![8, 3, 1024]⟩ → EReal) (w : Shape.Idx ⟨2, ![1024, 1280]⟩ → EReal) (r c : ℕ) : EReal :=
  outAt (r % 8192) (projAt (modAt (at2 x r) (at3 md (r / 8192) 1) (at3 md (r / 8192) 0)) (at2 w)) c

/-- The table of cosines at lane `l` of 128. -/
def cosT (T l : ℕ) : EReal := Ideal.cos (laneAng T (l % 64))

/-- The table that multiplies the lane sixteen to the right. -/
def saT (T l : ℕ) : EReal := if l % 32 < 16 then -Ideal.sin (laneAng T (l % 64)) else 0

/-- The table that multiplies the lane sixteen to the left. -/
def sbT (T l : ℕ) : EReal := if l % 32 < 16 then 0 else Ideal.sin (laneAng T (l % 64))

/-- The rotation by tables, over two heads side by side, is each head's. -/
theorem rope_lane (T : ℕ) (u : ℕ → EReal) (o l : ℕ) (hl : l < 128) :
    u (o + l) * cosT T l + u (o + (l + 16) % 128) * saT T l + u (o + (l + 112) % 128) * sbT T l = ropeAt T u (o + 64 * (l / 64)) (l % 64) := by
  unfold ropeAt cosT saT sbT
  have e : l % 64 % 32 = l % 32 := by omega
  have e1 : o + 64 * (l / 64) + l % 64 = o + l := by omega
  rw [e, e1]
  by_cases h : l % 32 < 16
  · rw [if_pos h, if_pos h, if_pos h, mul_zero, add_zero, mul_neg, ← sub_eq_add_neg, show o + (l + 16) % 128 = o + l + 16 by omega]
  · rw [if_neg h, if_neg h, if_neg h, mul_zero, add_zero, add_comm, show o + (l + 112) % 128 = o + l - 16 by omega]

theorem ropeAt_congr {T : ℕ} {u u' : ℕ → EReal} {o d : ℕ} (hd : d < 64) (ho : o + 64 ≤ 1280) (h : ∀ j, j < 1280 → u j = u' j) : ropeAt T u o d = ropeAt T u' o d := by
  unfold ropeAt
  split
  · rw [h _ (by omega), h (o + d + 16) (by omega)]
  · rw [h _ (by omega), h (o + d) (by omega)]

theorem outAt_congr {T : ℕ} {u u' : ℕ → EReal} {c : ℕ} (hc : c < 2048) (h : ∀ j, j < 1280 → u j = u' j) : outAt T u c = outAt T u' c := by
  unfold outAt queryAt
  split_ifs
  · rw [ropeAt_congr (by omega) (by omega) h]
  · rfl
  · exact h _ (by omega)
  · exact ropeAt_congr (by omega) (by omega) h
  · exact h _ (by omega)

end Cert.Proj

end
-- ==== Proof.Proj.Block.lean ====
/- The input projection of a block of rows, as the kernel's stores compute it, read at an index. -/
module

public import proofs.«01_k».proof.Proof.Gen.Kernel3Ideal.Value
public import proofs.«01_k».proof.Proof.Proj.Spec
public import Idealize.ShloMosaic.Lib.Pipeline.ValueKit
public import Idealize.ShloMosaic.Lib.Pointwise
public import Idealize.ShloMosaic.Lib.WholeRead

@[expose] public section

set_option maxRecDepth 16384

noncomputable section

namespace Cert.Proj

open Cert.Kernel3Ideal Cert.Kernel3Ideal.Gen Idealize.ShloMosaic Idealize.ShloMosaic.TcCoe Cert.Mix
open Cert.Ffn (modAt modAt_congr projAt projAt_congr)
variable [Facts]
open Facts

/-- The rows' means. -/
def meanBlk (z : FVec Ideal S256x1024 .f32) : FVec Ideal S256x1 .f32 :=
  divf (shapeCast S256x1 (multiReduction .add [1] S256 z 0x00000000#32 reduces_S256x1024_S256 (.inl rfl) rfl : FVec Ideal S256 .f32) shapeCasts_S256_S256x1)
    (broadcast S256x1 (Scalar.ofBits .f32 0x44800000#32 : Ideal .f32))

/-- The rows, centred. -/
def centred (z : FVec Ideal S256x1024 .f32) : FVec Ideal S256x1024 .f32 :=
  subf z (broadcastTo S256x1024 (meanBlk z) broadcasts_S256x1_S256x1024)

/-- The rows, normalised. -/
def unitBlk (z : FVec Ideal S256x1024 .f32) : FVec Ideal S256x1024 .f32 :=
  mulf (centred z) (broadcastTo S256x1024 (rsqrt (addf (meanBlk (mulf (centred z) (centred z)))
    (broadcast S256x1 (Scalar.ofBits .f32 0x3727C5AC#32 : Ideal .f32))) : FVec Ideal S256x1 .f32) broadcasts_S256x1_S256x1024)

/-- The rows, modulated. -/
def modBlk (x : FVec Ideal S256x1024 .f32) (sc sh : Vec Ideal S1x1x1024 .f32) : FVec Ideal S256x1024 .bf16 :=
  truncf .bf16 (addf (mulf (unitBlk x) (broadcastTo S256x1024 (addf (broadcast S1x1024 (Scalar.ofBits .f32 0x3F800000#32 : Ideal .f32))
    (shapeCast S1x1024 sc shapeCasts_S1x1x1024_S1x1024 : FVec Ideal S1x1024 .f32) : FVec Ideal S1x1024 .f32) broadcasts_S1x1024_S256x1024))
    (broadcastTo S256x1024 (shapeCast S1x1024 sh shapeCasts_S1x1x1024_S1x1024 : FVec Ideal S1x1024 .f32) broadcasts_S1x1024_S256x1024)) bitsLt_bf16_f32

/-- The rows' projection. -/
def projBlk (h : FVec Ideal S256x1024 .bf16) (w : Vec Ideal S1024x1280 .bf16) : FVec Ideal S256x1280 .f32 :=
  matmul (φ₂ := .bf16) dot_S256x1024_S1024x1280_S256x1280_1_0_0_1_n_n none h w (constant S256x1280 .f32 0x00000000#32)

/-- Two heads side by side, rotated by the tables. -/
def ropeBlk (t cs sa sb : FVec Ideal S256x128 .f32) : FVec Ideal S256x128 .f32 :=
  addf (addf (mulf t cs) (mulf (dynamicRotate 1 112#32 none t rotates_S256x128_d1) sa)) (mulf (dynamicRotate 1 16#32 none t rotates_S256x128_d1) sb)

/-- A table's rows. -/
def tabBlk (t : Vec Ideal S256x128 .f32) : FVec Ideal S256x128 .f32 := shapeCast S256x128 t shapeCasts_S256x128_S256x128

/-- 128 columns of the projection. -/
def cols (u : FVec Ideal S256x1280 .f32) (o : ℕ) (ho : S256x1280.Slices ![0, o] S256x128) : FVec Ideal S256x128 .f32 := extractStridedSlice S256x128 ![0, o] u ho

/-- Is a lane in the first half? -/
def lowLane : IVec S256x128 1 := cmpi .slt (iota .tc S256x128 32 [1] iota_S256x128_d1_w32) (broadcast S256x128 64#32)

/-- Two query heads, scaled. -/
def queries (t cs sa sb : FVec Ideal S256x128 .f32) : FVec Ideal S256x128 .f32 :=
  mulf (ropeBlk t cs sa sb) (broadcast S256x128 (Named.named κ "qscale" 0x3E38AA3B#32 : Ideal .f32))

/-- The first of two query heads, the other half of the lanes zero. -/
def queryLow (t : FVec Ideal S256x128 .f32) : FVec Ideal S256x128 .bf16 :=
  truncf .bf16 (select lowLane t (broadcast S256x128 (Scalar.ofBits .f32 0x00000000#32 : Ideal .f32))) bitsLt_bf16_f32

/-- The second of two query heads, the other half of the lanes zero. -/
def queryHigh (t : FVec Ideal S256x128 .f32) : FVec Ideal S256x128 .bf16 :=
  truncf .bf16 (select lowLane (broadcast S256x128 (Scalar.ofBits .f32 0x00000000#32 : Ideal .f32)) t) bitsLt_bf16_f32

/-- The first of two heads, in both halves of the lanes. -/
def twiceLow (t : FVec Ideal S256x128 .f32) : FVec Ideal S256x128 .bf16 :=
  truncf .bf16 (select lowLane t (dynamicRotate 1 64#32 none t rotates_S256x128_d1)) bitsLt_bf16_f32

/-- The second of two heads, in both halves of the lanes. -/
def twiceHigh (t : FVec Ideal S256x128 .f32) : FVec Ideal S256x128 .bf16 :=
  truncf .bf16 (select lowLane (dynamicRotate 1 64#32 none t rotates_S256x128_d1) t) bitsLt_bf16_f32

/-- The pooled columns. -/
def poolCols (u : FVec Ideal S256x1280 .f32) : FVec Ideal S256x512 .bf16 :=
  truncf .bf16 (extractStridedSlice S256x512 ![0, 0] u slices_S256x1280_o0_0_S256x512) bitsLt_bf16_f32

theorem meanBlk_apply (z : FVec Ideal S256x1024 .f32) (r : Fin 256) : meanBlk z (ix2 r 0) = mean fun c => at2 z r.val c := by
  unfold mean
  pointwise [meanBlk]
  simp only [at2_ix2 z]
  try rfl

theorem centred_apply (z : FVec Ideal S256x1024 .f32) (r : Fin 256) (c : Fin 1024) :
    centred z (ix2 r c) = at2 z r.val c.val - mean fun c => at2 z r.val c := by
  rw [← meanBlk_apply]
  pointwise [centred]
  rw [at2_ix2 z]

theorem unitBlk_apply (z : FVec Ideal S256x1024 .f32) (r : Fin 256) (c : Fin 1024) :
    unitBlk z (ix2 r c) = (at2 z r.val c.val - mean fun c => at2 z r.val c)
      * Ideal.rsqrt (mean (fun k => (at2 z r.val k - mean fun c => at2 z r.val c) * (at2 z r.val k - mean fun c => at2 z r.val c)) + Ideal.ofBits .f32 925353388#32) := by
  have e : meanBlk (mulf (centred z) (centred z)) (ix2 r 0)
      = mean fun k => (at2 z r.val k - mean fun c => at2 z r.val c) * (at2 z r.val k - mean fun c => at2 z r.val c) := by
    rw [meanBlk_apply]
    unfold mean
    congr 1
    refine Finset.sum_congr rfl fun k _ => ?_
    refine (at2_ix2 (mulf (centred z) (centred z) : FVec Ideal S256x1024 .f32) r k).symm.trans ?_
    show centred z (ix2 r k) * centred z (ix2 r k) = _
    rw [centred_apply]; rfl
  rw [← e]
  pointwise [unitBlk]
  rw [centred_apply]

theorem modBlk_apply (x : FVec Ideal S256x1024 .f32) (sc sh : Vec Ideal S1x1x1024 .f32) (r : Fin 256) (c : Fin 1024) :
    modBlk x sc sh (ix2 r c) = modAt (fun c => at2 x r.val c) (fun c => at3 sc 0 0 c) (fun c => at3 sh 0 0 c) c.val := by
  have hs := at3_ix3 sc 0 0 c
  have hh := at3_ix3 sh 0 0 c
  unfold modAt
  pointwise [modBlk]
  simp only [unitBlk_apply, hs, hh]
  rfl

theorem projBlk_apply (h : FVec Ideal S256x1024 .bf16) (w : Vec Ideal S1024x1280 .bf16) (r : Fin 256) (j : Fin 1280) :
    projBlk h w (ix2 r j) = projAt (fun k => at2 h r.val k) (at2 w) j.val := by
  unfold projAt
  have hs (k : Fin 1024) : h (ix2 r k) * w (ix2 k j) = at2 h r.val k.val * at2 w k.val j.val := by
    rw [at2_ix2 h r k, at2_ix2 w k j]
  pointwise [projBlk]
  simp only [hs]

theorem low_lane (l : Fin 128) : IntOp.cmpi .slt (BitVec.ofNat 32 l.val) 64#32 = if l.val < 64 then 1#1 else 0#1 :=
  (by decide : ∀ l : Fin 128, IntOp.cmpi .slt (BitVec.ofNat 32 l.val) 64#32 = if l.val < 64 then 1#1 else 0#1) l

theorem select_lane {α : Type} (l : Fin 128) (x y : α) : Scalar.select (IntOp.cmpi .slt (BitVec.ofNat 32 l.val) 64#32) x y = if l.val < 64 then x else y := by
  rw [low_lane]
  split_ifs <;> rfl

section
variable (t cs sa sb : FVec Ideal S256x128 .f32) (r : Fin 256) (l : Fin 128)

theorem ropeBlk_apply (T : ℕ) (u : ℕ → EReal) (o : ℕ) (ht : ∀ l, t (ix2 r l) = u (o + l.val)) (hc : cs (ix2 r l) = cosT T l.val)
    (ha : sa (ix2 r l) = saT T l.val) (hb : sb (ix2 r l) = sbT T l.val) :
    ropeBlk t cs sa sb (ix2 r l) = ropeAt T u (o + 64 * (l.val / 64)) (l.val % 64) := by
  rw [← rope_lane T u o l.val l.isLt]
  pointwise [ropeBlk]
  simp only [ht, hc, ha, hb]
  try rfl

theorem queryLow_apply : queryLow t (ix2 r l) = if l.val < 64 then t (ix2 r l) else 0 := by
  pointwise [queryLow, lowLane]
  rw [select_lane]

theorem queryHigh_apply : queryHigh t (ix2 r l) = if l.val < 64 then 0 else t (ix2 r l) := by
  pointwise [queryHigh, lowLane]
  rw [select_lane]

theorem twiceLow_apply (h : (l.val % 64) < 128) : twiceLow t (ix2 r l) = t (ix2 r ⟨l.val % 64, h⟩) := by
  pointwise [twiceLow, lowLane]
  rw [select_lane]
  have hl := l.isLt
  split
  · exact congrArg (fun k => t (ix2 r k)) (Fin.ext (by dsimp only; omega))
  · exact congrArg (fun k => t (ix2 r k)) (Fin.ext (by dsimp only; omega))

theorem twiceHigh_apply (h : 64 + l.val % 64 < 128) : twiceHigh t (ix2 r l) = t (ix2 r ⟨64 + l.val % 64, h⟩) := by
  pointwise [twiceHigh, lowLane]
  rw [select_lane]
  have hl := l.isLt
  split
  · exact congrArg (fun k => t (ix2 r k)) (Fin.ext (by dsimp only; omega))
  · exact congrArg (fun k => t (ix2 r k)) (Fin.ext (by dsimp only; omega))

theorem queries_apply (T : ℕ) (u : ℕ → EReal) (o : ℕ) (ht : ∀ l, t (ix2 r l) = u (o + l.val)) (hc : cs (ix2 r l) = cosT T l.val)
    (ha : sa (ix2 r l) = saT T l.val) (hb : sb (ix2 r l) = sbT T l.val) :
    queries t cs sa sb (ix2 r l) = ropeAt T u (o + 64 * (l.val / 64)) (l.val % 64) * qs := by
  have hn : (Named.named κ "qscale" (0x3E38AA3B#32 : BitVec (FTy.f32).bits) : Ideal .f32) = qs := rfl
  rw [← ropeBlk_apply t cs sa sb r l T u o ht hc ha hb, ← hn]
  pointwise [queries]

theorem tabBlk_apply (t : Vec Ideal S256x128 .f32) : tabBlk t (ix2 r l) = t (ix2 r l) := by
  pointwise [tabBlk]

theorem cols_apply (u : FVec Ideal S256x1280 .f32) (o : ℕ) (ho : S256x1280.Slices ![0, o] S256x128) (h : o + l.val < 1280) : cols u o ho (ix2 r l) = u (ix2 r ⟨o + l.val, h⟩) := by
  pointwise [cols]

theorem poolCols_apply (u : FVec Ideal S256x1280 .f32) (c : Fin 512) (h : c.val < 1280) : poolCols u (ix2 r c) = u (ix2 r ⟨c.val, h⟩) := by
  pointwise [poolCols]

end

end Cert.Proj

end
-- ==== Proof.Proj.Pieces.lean ====
/- The tile's projected rows, block by block, as the stores that fill them. -/
module

public import proofs.«01_k».proof.Proof.Proj.Block

@[expose] public section

set_option maxRecDepth 16384

noncomputable section

namespace Cert.Proj

open Cert.Kernel3Ideal Cert.Kernel3Ideal.Gen Idealize.ShloMosaic Idealize.ShloMosaic.TcCoe
variable [Facts]
open Facts

theorem fits2 {a b c d p q : ℕ} (h₁ : a + p ≤ c) (h₂ : b + q ≤ d) :
    ∀ i : Fin 2, (![a, b] : Fin 2 → ℕ) i + (![p, q] : Fin 2 → ℕ) i ≤ (![c, d] : Fin 2 → ℕ) i :=
  Fin.forall_fin_two.mpr ⟨h₁, h₂⟩

theorem fits3 {a b c d p q e f g : ℕ} (h₁ : a + p ≤ e) (h₂ : b + q ≤ f) (h₃ : c + d ≤ g) :
    ∀ i : Fin 3, (![a, b, c] : Fin 3 → ℕ) i + (![p, q, d] : Fin 3 → ℕ) i ≤ (![e, f, g] : Fin 3 → ℕ) i :=
  Fin.forall_fin_succ.mpr ⟨h₁, Fin.forall_fin_two.mpr ⟨h₂, h₃⟩⟩

theorem slices2 {a b c d p q : ℕ} (h₁ : a + p ≤ c) (h₂ : b + q ≤ d) : Shape.Slices (s := ⟨2, ![c, d]⟩) ![a, b] ⟨2, ![p, q]⟩ :=
  ⟨rfl, Fin.forall_fin_two.mpr ⟨h₁, h₂⟩⟩

/-- What a load through a rectangle of a staged block reads. -/
abbrev rd {sp : Space} {S : Shape} {e : EltTy} {arg : Memref sig .tc sp S e} (h : arg.IsWhole) (x : Vec Ideal S e)
    (off size : Fin S.rank → ℕ) (inb : ∀ a, off a + size a ≤ S.size a) :=
  View.readAt (Elt Ideal) arg.view (Rect.unit off size inb).toLoadRect (h.unread x)

/-! ### The printed payloads, by name -/

private theorem p11 (x : Vec Ideal S256x1024 .f32) (sc sh : Vec Ideal S1x1x1024 .f32) (w : Vec Ideal S1024x1280 .bf16) :
    k0_pay11 x sc sh w = projBlk (modBlk x sc sh) w := rfl
private theorem p38 (x : Vec Ideal S256x1024 .f32) (sc sh : Vec Ideal S1x1x1024 .f32) (w : Vec Ideal S1024x1280 .bf16) :
    k0_pay38 (k0_pay36 x) (k0_pay37 x) sc sh w = projBlk (modBlk x sc sh) w := rfl
private theorem p66 (x : Vec Ideal S256x1024 .f32) (sc sh : Vec Ideal S1x1x1024 .f32) (w : Vec Ideal S1024x1280 .bf16) :
    k0_pay66 (k0_pay65 x sc) sh w = projBlk (modBlk x sc sh) w := rfl
private theorem p97 (x : Vec Ideal S256x1024 .f32) (sc sh : Vec Ideal S1x1x1024 .f32) (w : Vec Ideal S1024x1280 .bf16) :
    k0_pay97 x sc sh w = projBlk (modBlk x sc sh) w := rfl
private theorem p12 (t : Vec Ideal S256x128 .f32) :
    k0_pay12 t = tabBlk t := rfl
private theorem p13 (t : Vec Ideal S256x128 .f32) :
    k0_pay13 t = tabBlk t := rfl
private theorem p14 (t : Vec Ideal S256x128 .f32) :
    k0_pay14 t = tabBlk t := rfl
private theorem p39 (t : Vec Ideal S256x128 .f32) :
    k0_pay39 t = tabBlk t := rfl
private theorem p40 (t : Vec Ideal S256x128 .f32) :
    k0_pay40 t = tabBlk t := rfl
private theorem p41 (t : Vec Ideal S256x128 .f32) :
    k0_pay41 t = tabBlk t := rfl
private theorem p67 (t : Vec Ideal S256x128 .f32) :
    k0_pay67 t = tabBlk t := rfl
private theorem p68 (t : Vec Ideal S256x128 .f32) :
    k0_pay68 t = tabBlk t := rfl
private theorem p69 (t : Vec Ideal S256x128 .f32) :
    k0_pay69 t = tabBlk t := rfl
private theorem p98 (t : Vec Ideal S256x128 .f32) :
    k0_pay98 t = tabBlk t := rfl
private theorem p99 (t : Vec Ideal S256x128 .f32) :
    k0_pay99 t = tabBlk t := rfl
private theorem p100 (t : Vec Ideal S256x128 .f32) :
    k0_pay100 t = tabBlk t := rfl
private theorem p16 (u : FVec Ideal S256x1280 .f32) (c a b : FVec Ideal S256x128 .f32) :
    k0_pay16 lowLane u c a b = queryLow (queries (cols u 512 (slices2 (by decide) (by decide))) c a (tabBlk b)) := rfl
private theorem p17 (u : FVec Ideal S256x1280 .f32) (c a b : FVec Ideal S256x128 .f32) :
    k0_pay17 lowLane u c a b = queryHigh (queries (cols u 512 (slices2 (by decide) (by decide))) c a (tabBlk b)) := rfl
private theorem p19 (u : FVec Ideal S256x1280 .f32) (c a b : FVec Ideal S256x128 .f32) :
    k0_pay19 lowLane u c a b = queryLow (queries (cols u 640 (slices2 (by decide) (by decide))) c a (tabBlk b)) := rfl
private theorem p20 (u : FVec Ideal S256x1280 .f32) (c a b : FVec Ideal S256x128 .f32) :
    k0_pay20 lowLane u c a b = queryHigh (queries (cols u 640 (slices2 (by decide) (by decide))) c a (tabBlk b)) := rfl
private theorem p22 (u : FVec Ideal S256x1280 .f32) (c a b : FVec Ideal S256x128 .f32) :
    k0_pay22 lowLane u c a b = queryLow (queries (cols u 768 (slices2 (by decide) (by decide))) c a b) := rfl
private theorem p23 (u : FVec Ideal S256x1280 .f32) (c a b : FVec Ideal S256x128 .f32) :
    k0_pay23 lowLane u c a b = queryHigh (queries (cols u 768 (slices2 (by decide) (by decide))) c a b) := rfl
private theorem p25 (u : FVec Ideal S256x1280 .f32) (c a b : FVec Ideal S256x128 .f32) :
    k0_pay25 lowLane u c a b = queryLow (queries (cols u 896 (slices2 (by decide) (by decide))) c a b) := rfl
private theorem p26 (u : FVec Ideal S256x1280 .f32) (c a b : FVec Ideal S256x128 .f32) :
    k0_pay26 lowLane u c a b = queryHigh (queries (cols u 896 (slices2 (by decide) (by decide))) c a b) := rfl
private theorem p47 (u : FVec Ideal S256x1280 .f32) (c a b : FVec Ideal S256x128 .f32) :
    k0_pay47 lowLane u c a b = queryLow (queries (cols u 640 (slices2 (by decide) (by decide))) c a b) := rfl
private theorem p48 (u : FVec Ideal S256x1280 .f32) (c a b : FVec Ideal S256x128 .f32) :
    k0_pay48 lowLane u c a b = queryHigh (queries (cols u 640 (slices2 (by decide) (by decide))) c a b) := rfl
private theorem p50 (u : FVec Ideal S256x1280 .f32) (c a b : FVec Ideal S256x128 .f32) :
    k0_pay50 lowLane u c a b = queryLow (queries (cols u 768 (slices2 (by decide) (by decide))) c a b) := rfl
private theorem p53 (u : FVec Ideal S256x1280 .f32) (c a b : FVec Ideal S256x128 .f32) :
    k0_pay53 lowLane u c a b = queryLow (queries (cols u 896 (slices2 (by decide) (by decide))) c a b) := rfl
private theorem p54 (u : FVec Ideal S256x1280 .f32) (c a b : FVec Ideal S256x128 .f32) :
    k0_pay54 lowLane u c a b = queryHigh (queries (cols u 896 (slices2 (by decide) (by decide))) c a b) := rfl
private theorem p79 (u : FVec Ideal S256x1280 .f32) (c a b : FVec Ideal S256x128 .f32) :
    k0_pay79 lowLane u c a b = queryLow (queries (cols u 768 (slices2 (by decide) (by decide))) c a b) := rfl
private theorem p80 (u : FVec Ideal S256x1280 .f32) (c a b : FVec Ideal S256x128 .f32) :
    k0_pay80 lowLane u c a b = queryHigh (queries (cols u 768 (slices2 (by decide) (by decide))) c a b) := rfl
private theorem p102 (u : FVec Ideal S256x1280 .f32) (c a b : FVec Ideal S256x128 .f32) :
    k0_pay102 lowLane u c a b = queryLow (queries (cols u 512 (slices2 (by decide) (by decide))) c a (tabBlk b)) := rfl
private theorem p103 (u : FVec Ideal S256x1280 .f32) (c a b : FVec Ideal S256x128 .f32) :
    k0_pay103 lowLane u c a b = queryHigh (queries (cols u 512 (slices2 (by decide) (by decide))) c a (tabBlk b)) := rfl
private theorem p105 (u : FVec Ideal S256x1280 .f32) (c a b : FVec Ideal S256x128 .f32) :
    k0_pay105 lowLane u c a b = queryLow (queries (cols u 640 (slices2 (by decide) (by decide))) c a (tabBlk b)) := rfl
private theorem p106 (u : FVec Ideal S256x1280 .f32) (c a b : FVec Ideal S256x128 .f32) :
    k0_pay106 lowLane u c a b = queryHigh (queries (cols u 640 (slices2 (by decide) (by decide))) c a (tabBlk b)) := rfl
private theorem p108 (u : FVec Ideal S256x1280 .f32) (c a b : FVec Ideal S256x128 .f32) :
    k0_pay108 lowLane u c a b = queryLow (queries (cols u 768 (slices2 (by decide) (by decide))) c a b) := rfl
private theorem p109 (u : FVec Ideal S256x1280 .f32) (c a b : FVec Ideal S256x128 .f32) :
    k0_pay109 lowLane u c a b = queryHigh (queries (cols u 768 (slices2 (by decide) (by decide))) c a b) := rfl
private theorem p111 (u : FVec Ideal S256x1280 .f32) (c a b : FVec Ideal S256x128 .f32) :
    k0_pay111 lowLane u c a b = queryLow (queries (cols u 896 (slices2 (by decide) (by decide))) c a b) := rfl
private theorem p112 (u : FVec Ideal S256x1280 .f32) (c a b : FVec Ideal S256x128 .f32) :
    k0_pay112 lowLane u c a b = queryHigh (queries (cols u 896 (slices2 (by decide) (by decide))) c a b) := rfl
private theorem p51 (u : FVec Ideal S256x1280 .f32) (c a b : FVec Ideal S256x128 .f32) :
    k0_pay51 lowLane (k0_pay49 u c a b) = queryHigh (queries (cols u 768 (slices2 (by decide) (by decide))) c a b) := rfl
private theorem p45 (h : FVec Ideal S256x1024 .f32) (h1 : FVec Ideal S256x1 .f32) (sc sh : Vec Ideal S1x1x1024 .f32) (w : Vec Ideal S1024x1280 .bf16) (c a b : Vec Ideal S256x128 .f32) :
    k0_pay45 lowLane (k0_pay42 h h1 sc sh w c a b) = queryHigh (queries (cols (k0_pay38 h h1 sc sh w) 512 (slices2 (by decide) (by decide))) (tabBlk c) (tabBlk a) (tabBlk b)) := rfl
private theorem p44 (h : FVec Ideal S256x1024 .f32) (h1 : FVec Ideal S256x1 .f32) (sc sh : Vec Ideal S1x1x1024 .f32) (w : Vec Ideal S1024x1280 .bf16) (c a b : Vec Ideal S256x128 .f32) :
    k0_pay44 (k0_pay43 lowLane h h1 sc sh w c a b) = queryLow (queries (cols (k0_pay38 h h1 sc sh w) 512 (slices2 (by decide) (by decide))) (tabBlk c) (tabBlk a) (tabBlk b)) := rfl
private theorem p71 (h : FVec Ideal S256x1024 .f32) (sh : Vec Ideal S1x1x1024 .f32) (w : Vec Ideal S1024x1280 .bf16) (c a : Vec Ideal S256x128 .f32) (b : Vec Ideal S256x128 .f32) :
    k0_pay71 lowLane h sh w c a b = queryLow (queries (cols (k0_pay66 h sh w) 512 (slices2 (by decide) (by decide))) (tabBlk c) (tabBlk a) (tabBlk b)) := rfl
private theorem p72 (h : FVec Ideal S256x1024 .f32) (sh : Vec Ideal S1x1x1024 .f32) (w : Vec Ideal S1024x1280 .bf16) (c a : Vec Ideal S256x128 .f32) (b : Vec Ideal S256x128 .f32) :
    k0_pay72 lowLane h sh w c a b = queryHigh (queries (cols (k0_pay66 h sh w) 512 (slices2 (by decide) (by decide))) (tabBlk c) (tabBlk a) (tabBlk b)) := rfl
private theorem p76 (h : FVec Ideal S256x1024 .f32) (sh : Vec Ideal S1x1x1024 .f32) (w : Vec Ideal S1024x1280 .bf16) (c a : Vec Ideal S256x128 .f32) (b : FVec Ideal S256x128 .f32) :
    k0_pay76 lowLane b (k0_pay73 h sh w) (k0_pay74 h sh w c a) 16#32 = queryLow (queries (cols (k0_pay66 h sh w) 640 (slices2 (by decide) (by decide))) (tabBlk c) (tabBlk a) b) := rfl
private theorem p77 (h : FVec Ideal S256x1024 .f32) (sh : Vec Ideal S1x1x1024 .f32) (w : Vec Ideal S1024x1280 .bf16) (c a : Vec Ideal S256x128 .f32) (b : FVec Ideal S256x128 .f32) :
    k0_pay77 lowLane b (k0_pay73 h sh w) (k0_pay74 h sh w c a) 16#32 = queryHigh (queries (cols (k0_pay66 h sh w) 640 (slices2 (by decide) (by decide))) (tabBlk c) (tabBlk a) b) := rfl
private theorem p85 (u : FVec Ideal S256x1280 .f32) (c a b : FVec Ideal S256x128 .f32) :
    k0_pay85 lowLane (k0_pay82 u c a) (k0_pay83 u b) = queryLow (queries (cols u 896 (slices2 (by decide) (by decide))) c a b) := rfl
private theorem p86 (u : FVec Ideal S256x1280 .f32) (c a b : FVec Ideal S256x128 .f32) :
    k0_pay86 lowLane (k0_pay82 u c a) (k0_pay83 u b) = queryHigh (queries (cols u 896 (slices2 (by decide) (by decide))) c a b) := rfl
private theorem p1 (u : FVec Ideal S256x1280 .f32) :
    k0_pay1 u = poolCols u := rfl
private theorem p27 (u : FVec Ideal S256x1280 .f32) :
    k0_pay27 u = poolCols u := rfl
private theorem p55 (u : FVec Ideal S256x1280 .f32) :
    k0_pay55 u = poolCols u := rfl
private theorem p87 (u : FVec Ideal S256x1280 .f32) :
    k0_pay87 u = poolCols u := rfl
private theorem p31 (u : FVec Ideal S256x1280 .f32) (c a b : FVec Ideal S256x128 .f32) :
    k0_pay31 lowLane u c a b = twiceLow (ropeBlk (cols u 1024 (slices2 (by decide) (by decide))) c a b) := rfl
private theorem p32 (u : FVec Ideal S256x1280 .f32) (c a b : FVec Ideal S256x128 .f32) :
    k0_pay32 lowLane u c a b = twiceHigh (ropeBlk (cols u 1024 (slices2 (by decide) (by decide))) c a b) := rfl
private theorem p91 (u : FVec Ideal S256x1280 .f32) (c a b : FVec Ideal S256x128 .f32) :
    k0_pay91 lowLane u c a b = twiceLow (ropeBlk (cols u 1024 (slices2 (by decide) (by decide))) c a b) := rfl
private theorem p92 (u : FVec Ideal S256x1280 .f32) (c a b : FVec Ideal S256x128 .f32) :
    k0_pay92 lowLane u c a b = twiceHigh (ropeBlk (cols u 1024 (slices2 (by decide) (by decide))) c a b) := rfl
private theorem p5 (u : FVec Ideal S256x1280 .f32) (c a b : FVec Ideal S256x128 .f32) :
    k0_pay5 lowLane u c a b = twiceLow (ropeBlk (cols u 1024 (slices2 (by decide) (by decide))) c a b) := rfl
private theorem p6 (u : FVec Ideal S256x1280 .f32) (c a b : FVec Ideal S256x128 .f32) :
    k0_pay6 lowLane u c a b = twiceHigh (ropeBlk (cols u 1024 (slices2 (by decide) (by decide))) c a b) := rfl
private theorem p60 (u : FVec Ideal S256x1280 .f32) (c a b : FVec Ideal S256x128 .f32) :
    k0_pay60 (k0_pay59 lowLane u c a b) = twiceLow (ropeBlk (cols u 1024 (slices2 (by decide) (by decide))) c a b) := rfl
private theorem p61 (u : FVec Ideal S256x1280 .f32) (c a b : FVec Ideal S256x128 .f32) :
    k0_pay61 lowLane (k0_pay56 u c a b) (k0_pay58 u c a b) = twiceHigh (ropeBlk (cols u 1024 (slices2 (by decide) (by decide))) c a b) := rfl
private theorem p34 (u : FVec Ideal S256x1280 .f32) :
    k0_pay34 lowLane u = twiceLow (cols u 1152 (slices2 (by decide) (by decide))) := rfl
private theorem p35 (u : FVec Ideal S256x1280 .f32) :
    k0_pay35 lowLane u = twiceHigh (cols u 1152 (slices2 (by decide) (by decide))) := rfl
private theorem p8 (u : FVec Ideal S256x1280 .f32) :
    k0_pay8 lowLane u = twiceLow (cols u 1152 (slices2 (by decide) (by decide))) := rfl
private theorem p9 (u : FVec Ideal S256x1280 .f32) :
    k0_pay9 lowLane u = twiceHigh (cols u 1152 (slices2 (by decide) (by decide))) := rfl
private theorem p63 (u : FVec Ideal S256x1280 .f32) :
    k0_pay63 lowLane (k0_pay57 u) = twiceLow (cols u 1152 (slices2 (by decide) (by decide))) := rfl
private theorem p64 (u : FVec Ideal S256x1280 .f32) :
    k0_pay64 lowLane (k0_pay57 u) = twiceHigh (cols u 1152 (slices2 (by decide) (by decide))) := rfl
private theorem p94 (u : FVec Ideal S256x1280 .f32) :
    k0_pay94 lowLane u = twiceLow (cols u 1152 (slices2 (by decide) (by decide))) := rfl
private theorem p96 (u : FVec Ideal S256x1280 .f32) :
    k0_pay96 (k0_pay95 lowLane u) = twiceHigh (cols u 1152 (slices2 (by decide) (by decide))) := rfl

section blocks

variable {arg1 : Memref sig .tc .vmem S1024x1024 .f32} (harg1 : arg1.IsWhole) {arg2 : Memref sig .tc .vmem S1x3x1024 .f32} (harg2 : arg2.IsWhole)
  {arg3 : Memref sig .tc .vmem S1024x1280 .bf16} (harg3 : arg3.IsWhole) {arg4 : Memref sig .tc .vmem S1024x128 .f32} (harg4 : arg4.IsWhole)
  {arg5 : Memref sig .tc .vmem S1024x128 .f32} (harg5 : arg5.IsWhole) {arg6 : Memref sig .tc .vmem S1024x128 .f32} (harg6 : arg6.IsWhole)
  {arg7 : Memref sig .tc .vmem S1024x2048 .bf16} (harg7 : arg7.IsWhole)
  (x0 : Vec Ideal S1024x1024 .f32) (x1 : Vec Ideal S1x3x1024 .f32) (x2 : Vec Ideal S1024x1280 .bf16) (x3 x4 x5 : Vec Ideal S1024x128 .f32)

/-- The projection of block `s` of the tile. -/
def uBlk (s : Fin 4) : FVec Ideal S256x1280 .f32 :=
  projBlk (modBlk (rd harg1 x0 ![256 * s.val, 0] S256x1024.size (fits2 (by omega) (by decide)))
    (rd harg2 x1 ![0, 1, 0] S1x1x1024.size (fits3 (by decide) (by decide) (by decide)))
    (rd harg2 x1 ![0, 0, 0] S1x1x1024.size (fits3 (by decide) (by decide) (by decide))))
    (rd harg3 x2 ![0, 0] S1024x1280.size (fits2 (by decide) (by decide)))

/-- Block `s` of a table. -/
def tBlk {arg : Memref sig .tc .vmem S1024x128 .f32} (harg : arg.IsWhole) (x : Vec Ideal S1024x128 .f32) (s : Fin 4) : FVec Ideal S256x128 .f32 :=
  tabBlk (rd harg x ![256 * s.val, 0] S256x128.size (fits2 (by omega) (by decide)))

/-- Pair `c` of query heads of block `s`. -/
def qBlk (s c : Fin 4) : FVec Ideal S256x128 .f32 :=
  queries (cols (uBlk harg1 harg2 harg3 x0 x1 x2 s) (512 + 128 * c.val) (slices2 (by omega) (by omega))) (tBlk harg4 x3 s) (tBlk harg5 x4 s) (tBlk harg6 x5 s)

/-- The keys of block `s`. -/
def kBlk (s : Fin 4) : FVec Ideal S256x128 .f32 :=
  ropeBlk (cols (uBlk harg1 harg2 harg3 x0 x1 x2 s) 1024 (slices2 (by omega) (by omega))) (tBlk harg4 x3 s) (tBlk harg5 x4 s) (tBlk harg6 x5 s)

/-- The values of block `s`. -/
def vBlk (s : Fin 4) : FVec Ideal S256x128 .f32 := cols (uBlk harg1 harg2 harg3 x0 x1 x2 s) 1152 (slices2 (by omega) (by omega))

/-- The store of 128 columns of block `s`. -/
def at128 (s : Fin 4) (o : ℕ) (ho : o + 128 ≤ 2048) (v : FVec Ideal S256x128 .bf16) : View.Piece (Elt Ideal) S1024x2048 .bf16 :=
  ⟨Rect.unit ![256 * s.val, o] S256x128.size (fits2 (by omega) (by omega)), v⟩

private theorem cols_congr {u u' : FVec Ideal S256x1280 .f32} {o o' : ℕ} {h : S256x1280.Slices ![0, o] S256x128} {h' : S256x1280.Slices ![0, o'] S256x128}
    (hu : u = u') (ho : o = o') : cols u o h = cols u' o' h' := by
  subst hu ho
  rfl

private theorem piece_eq {P : View.Piece (Elt Ideal) S1024x2048 .bf16} {s : Fin 4} {o : ℕ} {ho : o + 128 ≤ 2048} {w w' v : FVec Ideal S256x128 .bf16}
    (hP : P = at128 s o ho w) (h : w = w') (h' : w' = v) : P = at128 s o ho v := by rw [hP, h, h']

/-- The store of the pooled columns of block `s`. -/
def poolPiece (s : Fin 4) : View.Piece (Elt Ideal) S1024x2048 .bf16 :=
  ⟨Rect.unit ![256 * s.val, 1024] S256x512.size (fits2 (by omega) (by omega)), poolCols (uBlk harg1 harg2 harg3 x0 x1 x2 s)⟩

/-- The stores of block `s`, last first. -/
def blkPieces (s : Fin 4) : List (View.Piece (Elt Ideal) S1024x2048 .bf16) :=
  [at128 s 1920 (by decide) (twiceHigh (vBlk harg1 harg2 harg3 x0 x1 x2 s)),
   at128 s 1792 (by decide) (twiceLow (vBlk harg1 harg2 harg3 x0 x1 x2 s)),
   at128 s 1664 (by decide) (twiceHigh (kBlk harg1 harg2 harg3 harg4 harg5 harg6 x0 x1 x2 x3 x4 x5 s)),
   at128 s 1536 (by decide) (twiceLow (kBlk harg1 harg2 harg3 harg4 harg5 harg6 x0 x1 x2 x3 x4 x5 s)),
   poolPiece harg1 harg2 harg3 x0 x1 x2 s,
   at128 s 896 (by decide) (queryHigh (qBlk harg1 harg2 harg3 harg4 harg5 harg6 x0 x1 x2 x3 x4 x5 s 3)),
   at128 s 768 (by decide) (queryLow (qBlk harg1 harg2 harg3 harg4 harg5 harg6 x0 x1 x2 x3 x4 x5 s 3)),
   at128 s 640 (by decide) (queryHigh (qBlk harg1 harg2 harg3 harg4 harg5 harg6 x0 x1 x2 x3 x4 x5 s 2)),
   at128 s 512 (by decide) (queryLow (qBlk harg1 harg2 harg3 harg4 harg5 harg6 x0 x1 x2 x3 x4 x5 s 2)),
   at128 s 384 (by decide) (queryHigh (qBlk harg1 harg2 harg3 harg4 harg5 harg6 x0 x1 x2 x3 x4 x5 s 1)),
   at128 s 256 (by decide) (queryLow (qBlk harg1 harg2 harg3 harg4 harg5 harg6 x0 x1 x2 x3 x4 x5 s 1)),
   at128 s 128 (by decide) (queryHigh (qBlk harg1 harg2 harg3 harg4 harg5 harg6 x0 x1 x2 x3 x4 x5 s 0)),
   at128 s 0 (by decide) (queryLow (qBlk harg1 harg2 harg3 harg4 harg5 harg6 x0 x1 x2 x3 x4 x5 s 0))]

/-- The stores of a whole tile, last first. -/
def pieces : List (View.Piece (Elt Ideal) S1024x2048 .bf16) :=
  blkPieces harg1 harg2 harg3 harg4 harg5 harg6 x0 x1 x2 x3 x4 x5 3 ++ (blkPieces harg1 harg2 harg3 harg4 harg5 harg6 x0 x1 x2 x3 x4 x5 2
    ++ (blkPieces harg1 harg2 harg3 harg4 harg5 harg6 x0 x1 x2 x3 x4 x5 1 ++ (blkPieces harg1 harg2 harg3 harg4 harg5 harg6 x0 x1 x2 x3 x4 x5 0 ++ [])))

private theorem block_eq {α : Type} {a0 b0 a1 b1 a2 b2 a3 b3 a4 b4 a5 b5 a6 b6 a7 b7 a8 b8 a9 b9 a10 b10 a11 b11 a12 b12 : α} {l l' : List α} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (hl : l = l') :
    a0 :: a1 :: a2 :: a3 :: a4 :: a5 :: a6 :: a7 :: a8 :: a9 :: a10 :: a11 :: a12 :: l = [b0, b1, b2, b3, b4, b5, b6, b7, b8, b9, b10, b11, b12] ++ l' := by
  rw [h0, h1, h2, h3, h4, h5, h6, h7, h8, h9, h10, h11, h12, hl]
  rfl

private theorem rope_congr {t t' c c' a a' b b' : FVec Ideal S256x128 .f32} (ht : t = t') (hc : c = c') (ha : a = a') (hb : b = b') :
    ropeBlk t c a b = ropeBlk t' c' a' b' := by rw [ht, hc, ha, hb]

private theorem queries_congr {t t' c c' a a' b b' : FVec Ideal S256x128 .f32} (ht : t = t') (hc : c = c') (ha : a = a') (hb : b = b') :
    queries t c a b = queries t' c' a' b' := by rw [ht, hc, ha, hb]

private theorem pool_eq {P : View.Piece (Elt Ideal) S1024x2048 .bf16} {s : Fin 4} {w w' v : FVec Ideal S256x512 .bf16}
    (hP : P = ⟨Rect.unit ![256 * s.val, 1024] S256x512.size (fits2 (by omega) (by omega)), w⟩) (h : w = w') (h' : w' = v) :
    P = ⟨Rect.unit ![256 * s.val, 1024] S256x512.size (fits2 (by omega) (by omega)), v⟩ := by rw [hP, h, h']

set_option maxHeartbeats 10000000 in
/-- The stores the kernel makes are the pieces, in order. -/
theorem pieces_eq (c : Dev nD) (i : grid0.Coords) : (kernelRun0_A c i arg1 harg1 arg2 harg2 arg3 harg3 arg4 harg4 arg5 harg5 arg6 harg6 arg7 harg7 x0 x1 x2 x3 x4 x5).1
    = pieces harg1 harg2 harg3 harg4 harg5 harg6 x0 x1 x2 x3 x4 x5 := by
  unfold kernelRun0_A pieces
  dsimp only
  refine block_eq
    (piece_eq (s := 3) (o := 1920) (ho := by decide) rfl (p9 _) (congrArg twiceHigh (cols_congr (p97 _ _ _ _) rfl)))
    (piece_eq (s := 3) (o := 1792) (ho := by decide) rfl (p8 _) (congrArg twiceLow (cols_congr (p97 _ _ _ _) rfl)))
    (piece_eq (s := 3) (o := 1664) (ho := by decide) rfl (p6 _ _ _ _) (congrArg twiceHigh (rope_congr (cols_congr (p97 _ _ _ _) rfl) (p98 _) (p99 _) (p100 _))))
    (piece_eq (s := 3) (o := 1536) (ho := by decide) rfl (p5 _ _ _ _) (congrArg twiceLow (rope_congr (cols_congr (p97 _ _ _ _) rfl) (p98 _) (p99 _) (p100 _))))
    (pool_eq (s := 3) rfl (p1 _) (congrArg poolCols (p97 _ _ _ _)))
    (piece_eq (s := 3) (o := 896) (ho := by decide) rfl (p112 _ _ _ _) (congrArg queryHigh (queries_congr (cols_congr (p97 _ _ _ _) rfl) (p98 _) (p99 _) (p100 _))))
    (piece_eq (s := 3) (o := 768) (ho := by decide) rfl (p111 _ _ _ _) (congrArg queryLow (queries_congr (cols_congr (p97 _ _ _ _) rfl) (p98 _) (p99 _) (p100 _))))
    (piece_eq (s := 3) (o := 640) (ho := by decide) rfl (p109 _ _ _ _) (congrArg queryHigh (queries_congr (cols_congr (p97 _ _ _ _) rfl) (p98 _) (p99 _) (p100 _))))
    (piece_eq (s := 3) (o := 512) (ho := by decide) rfl (p108 _ _ _ _) (congrArg queryLow (queries_congr (cols_congr (p97 _ _ _ _) rfl) (p98 _) (p99 _) (p100 _))))
    (piece_eq (s := 3) (o := 384) (ho := by decide) rfl (p106 _ _ _ _) (congrArg queryHigh (queries_congr (cols_congr (p97 _ _ _ _) rfl) (p98 _) (p99 _) rfl)))
    (piece_eq (s := 3) (o := 256) (ho := by decide) rfl (p105 _ _ _ _) (congrArg queryLow (queries_congr (cols_congr (p97 _ _ _ _) rfl) (p98 _) (p99 _) rfl)))
    (piece_eq (s := 3) (o := 128) (ho := by decide) rfl (p103 _ _ _ _) (congrArg queryHigh (queries_congr (cols_congr (p97 _ _ _ _) rfl) (p98 _) (p99 _) rfl)))
    (piece_eq (s := 3) (o := 0) (ho := by decide) rfl (p102 _ _ _ _) (congrArg queryLow (queries_congr (cols_congr (p97 _ _ _ _) rfl) (p98 _) (p99 _) rfl)))
    ?_
  refine block_eq
    (piece_eq (s := 2) (o := 1920) (ho := by decide) rfl (p96 _) (congrArg twiceHigh (cols_congr (p66 _ _ _ _) rfl)))
    (piece_eq (s := 2) (o := 1792) (ho := by decide) rfl (p94 _) (congrArg twiceLow (cols_congr (p66 _ _ _ _) rfl)))
    (piece_eq (s := 2) (o := 1664) (ho := by decide) rfl (p92 _ _ _ _) (congrArg twiceHigh (rope_congr (cols_congr (p66 _ _ _ _) rfl) (p67 _) (p68 _) (p69 _))))
    (piece_eq (s := 2) (o := 1536) (ho := by decide) rfl (p91 _ _ _ _) (congrArg twiceLow (rope_congr (cols_congr (p66 _ _ _ _) rfl) (p67 _) (p68 _) (p69 _))))
    (pool_eq (s := 2) rfl (p87 _) (congrArg poolCols (p66 _ _ _ _)))
    (piece_eq (s := 2) (o := 896) (ho := by decide) rfl (p86 _ _ _ _) (congrArg queryHigh (queries_congr (cols_congr (p66 _ _ _ _) rfl) (p67 _) (p68 _) (p69 _))))
    (piece_eq (s := 2) (o := 768) (ho := by decide) rfl (p85 _ _ _ _) (congrArg queryLow (queries_congr (cols_congr (p66 _ _ _ _) rfl) (p67 _) (p68 _) (p69 _))))
    (piece_eq (s := 2) (o := 640) (ho := by decide) rfl (p80 _ _ _ _) (congrArg queryHigh (queries_congr (cols_congr (p66 _ _ _ _) rfl) (p67 _) (p68 _) (p69 _))))
    (piece_eq (s := 2) (o := 512) (ho := by decide) rfl (p79 _ _ _ _) (congrArg queryLow (queries_congr (cols_congr (p66 _ _ _ _) rfl) (p67 _) (p68 _) (p69 _))))
    (piece_eq (s := 2) (o := 384) (ho := by decide) rfl (p77 _ _ _ _ _ _) (congrArg queryHigh (queries_congr (cols_congr (p66 _ _ _ _) rfl) rfl rfl (p69 _))))
    (piece_eq (s := 2) (o := 256) (ho := by decide) rfl (p76 _ _ _ _ _ _) (congrArg queryLow (queries_congr (cols_congr (p66 _ _ _ _) rfl) rfl rfl (p69 _))))
    (piece_eq (s := 2) (o := 128) (ho := by decide) rfl (p72 _ _ _ _ _ _) (congrArg queryHigh (queries_congr (cols_congr (p66 _ _ _ _) rfl) rfl rfl rfl)))
    (piece_eq (s := 2) (o := 0) (ho := by decide) rfl (p71 _ _ _ _ _ _) (congrArg queryLow (queries_congr (cols_congr (p66 _ _ _ _) rfl) rfl rfl rfl)))
    ?_
  refine block_eq
    (piece_eq (s := 1) (o := 1920) (ho := by decide) rfl (p64 _) (congrArg twiceHigh (cols_congr (p38 _ _ _ _) rfl)))
    (piece_eq (s := 1) (o := 1792) (ho := by decide) rfl (p63 _) (congrArg twiceLow (cols_congr (p38 _ _ _ _) rfl)))
    (piece_eq (s := 1) (o := 1664) (ho := by decide) rfl (p61 _ _ _ _) (congrArg twiceHigh (rope_congr (cols_congr (p38 _ _ _ _) rfl) (p39 _) (p40 _) (p41 _))))
    (piece_eq (s := 1) (o := 1536) (ho := by decide) rfl (p60 _ _ _ _) (congrArg twiceLow (rope_congr (cols_congr (p38 _ _ _ _) rfl) (p39 _) (p40 _) (p41 _))))
    (pool_eq (s := 1) rfl (p55 _) (congrArg poolCols (p38 _ _ _ _)))
    (piece_eq (s := 1) (o := 896) (ho := by decide) rfl (p54 _ _ _ _) (congrArg queryHigh (queries_congr (cols_congr (p38 _ _ _ _) rfl) (p39 _) (p40 _) (p41 _))))
    (piece_eq (s := 1) (o := 768) (ho := by decide) rfl (p53 _ _ _ _) (congrArg queryLow (queries_congr (cols_congr (p38 _ _ _ _) rfl) (p39 _) (p40 _) (p41 _))))
    (piece_eq (s := 1) (o := 640) (ho := by decide) rfl (p51 _ _ _ _) (congrArg queryHigh (queries_congr (cols_congr (p38 _ _ _ _) rfl) (p39 _) (p40 _) (p41 _))))
    (piece_eq (s := 1) (o := 512) (ho := by decide) rfl (p50 _ _ _ _) (congrArg queryLow (queries_congr (cols_congr (p38 _ _ _ _) rfl) (p39 _) (p40 _) (p41 _))))
    (piece_eq (s := 1) (o := 384) (ho := by decide) rfl (p48 _ _ _ _) (congrArg queryHigh (queries_congr (cols_congr (p38 _ _ _ _) rfl) (p39 _) (p40 _) (p41 _))))
    (piece_eq (s := 1) (o := 256) (ho := by decide) rfl (p47 _ _ _ _) (congrArg queryLow (queries_congr (cols_congr (p38 _ _ _ _) rfl) (p39 _) (p40 _) (p41 _))))
    (piece_eq (s := 1) (o := 128) (ho := by decide) rfl (p45 _ _ _ _ _ _ _ _) (congrArg queryHigh (queries_congr (cols_congr (p38 _ _ _ _) rfl) rfl rfl rfl)))
    (piece_eq (s := 1) (o := 0) (ho := by decide) rfl (p44 _ _ _ _ _ _ _ _) (congrArg queryLow (queries_congr (cols_congr (p38 _ _ _ _) rfl) rfl rfl rfl)))
    ?_
  refine block_eq
    (piece_eq (s := 0) (o := 1920) (ho := by decide) rfl (p35 _) (congrArg twiceHigh (cols_congr (p11 _ _ _ _) rfl)))
    (piece_eq (s := 0) (o := 1792) (ho := by decide) rfl (p34 _) (congrArg twiceLow (cols_congr (p11 _ _ _ _) rfl)))
    (piece_eq (s := 0) (o := 1664) (ho := by decide) rfl (p32 _ _ _ _) (congrArg twiceHigh (rope_congr (cols_congr (p11 _ _ _ _) rfl) (p12 _) (p13 _) (p14 _))))
    (piece_eq (s := 0) (o := 1536) (ho := by decide) rfl (p31 _ _ _ _) (congrArg twiceLow (rope_congr (cols_congr (p11 _ _ _ _) rfl) (p12 _) (p13 _) (p14 _))))
    (pool_eq (s := 0) rfl (p27 _) (congrArg poolCols (p11 _ _ _ _)))
    (piece_eq (s := 0) (o := 896) (ho := by decide) rfl (p26 _ _ _ _) (congrArg queryHigh (queries_congr (cols_congr (p11 _ _ _ _) rfl) (p12 _) (p13 _) (p14 _))))
    (piece_eq (s := 0) (o := 768) (ho := by decide) rfl (p25 _ _ _ _) (congrArg queryLow (queries_congr (cols_congr (p11 _ _ _ _) rfl) (p12 _) (p13 _) (p14 _))))
    (piece_eq (s := 0) (o := 640) (ho := by decide) rfl (p23 _ _ _ _) (congrArg queryHigh (queries_congr (cols_congr (p11 _ _ _ _) rfl) (p12 _) (p13 _) (p14 _))))
    (piece_eq (s := 0) (o := 512) (ho := by decide) rfl (p22 _ _ _ _) (congrArg queryLow (queries_congr (cols_congr (p11 _ _ _ _) rfl) (p12 _) (p13 _) (p14 _))))
    (piece_eq (s := 0) (o := 384) (ho := by decide) rfl (p20 _ _ _ _) (congrArg queryHigh (queries_congr (cols_congr (p11 _ _ _ _) rfl) (p12 _) (p13 _) rfl)))
    (piece_eq (s := 0) (o := 256) (ho := by decide) rfl (p19 _ _ _ _) (congrArg queryLow (queries_congr (cols_congr (p11 _ _ _ _) rfl) (p12 _) (p13 _) rfl)))
    (piece_eq (s := 0) (o := 128) (ho := by decide) rfl (p17 _ _ _ _) (congrArg queryHigh (queries_congr (cols_congr (p11 _ _ _ _) rfl) (p12 _) (p13 _) rfl)))
    (piece_eq (s := 0) (o := 0) (ho := by decide) rfl (p16 _ _ _ _) (congrArg queryLow (queries_congr (cols_congr (p11 _ _ _ _) rfl) (p12 _) (p13 _) rfl)))
    ?_
  rfl

end blocks

theorem rd2_apply {sp : Space} {n m p q a b : ℕ} {e : EltTy} {arg : Memref sig .tc sp ⟨2, ![n, m]⟩ e} (h : arg.IsWhole)
    (x : Vec Ideal ⟨2, ![n, m]⟩ e) (inb : ∀ k, (![a, b] : Fin 2 → ℕ) k + (![p, q] : Fin 2 → ℕ) k ≤ (![n, m] : Fin 2 → ℕ) k)
    (i : Fin p) (j : Fin q) (hi : a + i.val < n) (hj : b + j.val < m) :
    rd h x ![a, b] ![p, q] inb (ix2 i j) = x (ix2 ⟨a + i.val, hi⟩ ⟨b + j.val, hj⟩) := by
  refine (Memref.IsWhole.readAt_unread h x _ _).trans (congrArg x (funext fun k => Fin.ext ?_))
  match k with
  | 0 => exact congrArg (a + ·) (Nat.one_mul _)
  | 1 => exact congrArg (b + ·) (Nat.one_mul _)

theorem rd3_apply {sp : Space} {l n m r p q a b c : ℕ} {e : EltTy} {arg : Memref sig .tc sp ⟨3, ![l, n, m]⟩ e} (h : arg.IsWhole)
    (x : Vec Ideal ⟨3, ![l, n, m]⟩ e)
    (inb : ∀ k, (![a, b, c] : Fin 3 → ℕ) k + (![r, p, q] : Fin 3 → ℕ) k ≤ (![l, n, m] : Fin 3 → ℕ) k)
    (u : Fin r) (i : Fin p) (j : Fin q) (hu : a + u.val < l) (hi : b + i.val < n) (hj : c + j.val < m) :
    rd h x ![a, b, c] ![r, p, q] inb (ix3 u i j) = x (ix3 ⟨a + u.val, hu⟩ ⟨b + i.val, hi⟩ ⟨c + j.val, hj⟩) := by
  refine (Memref.IsWhole.readAt_unread h x _ _).trans (congrArg x (funext fun k => Fin.ext ?_))
  match k with
  | 0 => exact congrArg (a + ·) (Nat.one_mul _)
  | 1 => exact congrArg (b + ·) (Nat.one_mul _)
  | 2 => exact congrArg (c + ·) (Nat.one_mul _)

end Cert.Proj

end
-- ==== Proof.Proj.Tables.lean ====
/- The three rotation tables that the host computes before the launch. -/
module

public import proofs.«01_k».proof.Proof.Proj.Spec
public import proofs.«01_k».proof.Proof.Gen.Kernel3Ideal.Value
public import Idealize.ShloMosaic.Lib.Claim
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Proj

open Cert.Kernel3Ideal Cert.Kernel3Ideal.Gen Idealize.ShloMosaic Idealize.ShloMosaic.TcCoe

variable (m : (ℓ : Loc nD τ sig) → Buf (Elt Ideal) ℓ) (c : Dev nD)

set_option maxHeartbeats 4000000 in
/-- The table of cosines. -/
theorem cos_table (T : Fin 8192) (l : Fin 128) : (V (F := Ideal) m c main_v41 : Vec Ideal S8192x128 .f32) (ix2 T l) = cosT T.val l.val := by
  have hT := T.isLt
  have hl := l.isLt
  unfold V
  after_reads_at
  unfold cosT laneAng angAt
  rw [show l.val % 64 % 16 = (if l.val % 64 < 16 then l.val % 64 else if l.val % 64 - 16 < 16 then l.val % 64 - 16 else if l.val % 64 - 16 - 16 < 16 then l.val % 64 - 16 - 16 else l.val % 64 - 16 - 16 - 16) by split_ifs <;> omega]
  split_ifs
  all_goals first | omega | (after_reads_at <;> (try split_ifs) <;> first | omega | rfl)

set_option maxHeartbeats 4000000 in
/-- The table that multiplies the lane sixteen to the right. -/
theorem sa_table (T : Fin 8192) (l : Fin 128) : (V (F := Ideal) m c main_v44 : Vec Ideal S8192x128 .f32) (ix2 T l) = saT T.val l.val := by
  have hT := T.isLt
  have hl := l.isLt
  unfold V
  after_reads_at
  unfold saT laneAng angAt
  rw [show l.val % 64 % 16 = (if l.val % 64 < 16 then l.val % 64 else if l.val % 64 - 16 < 16 then l.val % 64 - 16 else if l.val % 64 - 16 - 16 < 16 then l.val % 64 - 16 - 16 else l.val % 64 - 16 - 16 - 16) by split_ifs <;> omega]
  split_ifs
  all_goals first | omega | (after_reads_at <;> (try split_ifs) <;> first | omega | rfl)

set_option maxHeartbeats 4000000 in
/-- The table that multiplies the lane sixteen to the left. -/
theorem sb_table (T : Fin 8192) (l : Fin 128) : (V (F := Ideal) m c main_v47 : Vec Ideal S8192x128 .f32) (ix2 T l) = sbT T.val l.val := by
  have hT := T.isLt
  have hl := l.isLt
  unfold V
  after_reads_at
  unfold sbT laneAng angAt
  rw [show l.val % 64 % 16 = (if l.val % 64 < 16 then l.val % 64 else if l.val % 64 - 16 < 16 then l.val % 64 - 16 else if l.val % 64 - 16 - 16 < 16 then l.val % 64 - 16 - 16 else l.val % 64 - 16 - 16 - 16) by split_ifs <;> omega]
  split_ifs
  all_goals first | omega | (after_reads_at <;> (try split_ifs) <;> first | omega | rfl)

end Cert.Proj

end
-- ==== Proof.Proj.Kern.lean ====
/- The projection kernel's result array: the step of its arguments. -/
module

public import proofs.«01_k».proof.Proof.Proj.Pieces
public import proofs.«01_k».proof.Proof.Proj.Tables

@[expose] public section

set_option maxRecDepth 16384

noncomputable section

namespace Cert.Proj

open Cert.Kernel3Ideal Cert.Kernel3Ideal.Gen Idealize.ShloMosaic Idealize.ShloMosaic.TcCoe Cert.Mix Cert.Ffn
open Facts

section tile

variable [Facts]

variable {arg1 : Memref sig .tc .vmem S1024x1024 .f32} (harg1 : arg1.IsWhole) {arg2 : Memref sig .tc .vmem S1x3x1024 .f32} (harg2 : arg2.IsWhole)
  {arg3 : Memref sig .tc .vmem S1024x1280 .bf16} (harg3 : arg3.IsWhole) {arg4 : Memref sig .tc .vmem S1024x128 .f32} (harg4 : arg4.IsWhole)
  {arg5 : Memref sig .tc .vmem S1024x128 .f32} (harg5 : arg5.IsWhole) {arg6 : Memref sig .tc .vmem S1024x128 .f32} (harg6 : arg6.IsWhole)
  {arg7 : Memref sig .tc .vmem S1024x2048 .bf16} (harg7 : arg7.IsWhole)
  (x0 : Vec Ideal S1024x1024 .f32) (x1 : Vec Ideal S1x3x1024 .f32) (x2 : Vec Ideal S1024x1280 .bf16) (x3 x4 x5 : Vec Ideal S1024x128 .f32)

/-- The projection of row `r` of the tile. -/
def tileRow (r : ℕ) : ℕ → EReal := projAt (modAt (at2 x0 r) (at3 x1 0 1) (at3 x1 0 0)) (at2 x2)

theorem uBlk_apply (s : Fin 4) (r : Fin 256) (j : Fin 1280) : uBlk harg1 harg2 harg3 x0 x1 x2 s (ix2 r j) = tileRow x0 x1 x2 (256 * s.val + r.val) j.val := by
  have hrow (q : Fin 3) (inb) (c : ℕ) (hc : c < 1024) :
      at3 (rd harg2 x1 ![0, q.val, 0] S1x1x1024.size inb : Vec Ideal S1x1x1024 .f32) 0 0 c = at3 x1 0 q.val c := by
    refine (at3_ix3 (rd harg2 x1 ![0, q.val, 0] S1x1x1024.size inb : Vec Ideal S1x1x1024 .f32) 0 0 ⟨c, hc⟩).symm.trans (Eq.trans ?_ (at3_ix3 x1 0 q ⟨c, hc⟩))
    refine (rd3_apply harg2 x1 inb 0 0 ⟨c, hc⟩ (by decide) (by have := q.isLt; omega) (by simpa using hc)).trans (congrArg x1 ?_)
    ext a
    fin_cases a <;> simp [ix3]
  unfold uBlk tileRow
  refine (projBlk_apply _ _ r j).trans (projAt_congr (fun c hc => ?_) fun k hk => ?_)
  · rw [at2_of _ r.isLt hc]
    refine (modBlk_apply _ _ _ r ⟨c, hc⟩).trans (modAt_congr hc (fun k hk => ?_) (hrow 1 _ c hc) (hrow 0 _ c hc))
    rw [at2_of _ r.isLt hk, at2_of _ (by omega) hk]
    refine (rd2_apply harg1 x0 _ r ⟨k, hk⟩ (by omega) (by simpa using hk)).trans (congrArg x0 ?_)
    ext a
    fin_cases a <;> simp [ix2]
  · rw [at2_of _ hk j.isLt, at2_of _ hk j.isLt]
    refine (rd2_apply harg3 x2 _ ⟨k, hk⟩ j (by simpa using hk) (by simp)).trans (congrArg x2 ?_)
    ext a
    fin_cases a <;> simp [ix2]

theorem tBlk_apply {arg : Memref sig .tc .vmem S1024x128 .f32} (harg : arg.IsWhole) (x : Vec Ideal S1024x128 .f32) (s : Fin 4) (r : Fin 256) (l : Fin 128)
    (h : 256 * s.val + r.val < 1024) : tBlk harg x s (ix2 r l) = x (ix2 ⟨256 * s.val + r.val, h⟩ l) := by
  unfold tBlk
  refine (tabBlk_apply r l _).trans ((rd2_apply harg x _ r l h (by simp)).trans (congrArg x ?_))
  ext a
  fin_cases a <;> simp [ix2]

variable (T0 : ℕ) (hc : ∀ (ρ : Fin 1024) (l : Fin 128), x3 (ix2 ρ l) = cosT (T0 + ρ.val) l.val)
  (ha : ∀ (ρ : Fin 1024) (l : Fin 128), x4 (ix2 ρ l) = saT (T0 + ρ.val) l.val)
  (hb : ∀ (ρ : Fin 1024) (l : Fin 128), x5 (ix2 ρ l) = sbT (T0 + ρ.val) l.val)

include hc ha hb

/-- Pair `c` of query heads. -/
theorem qBlk_apply (s c : Fin 4) (r : Fin 256) (l : Fin 128) : qBlk harg1 harg2 harg3 harg4 harg5 harg6 x0 x1 x2 x3 x4 x5 s c (ix2 r l)
    = ropeAt (T0 + (256 * s.val + r.val)) (tileRow x0 x1 x2 (256 * s.val + r.val)) (512 + 128 * c.val + 64 * (l.val / 64)) (l.val % 64) * qs := by
  have h : 256 * s.val + r.val < 1024 := by omega
  unfold qBlk
  refine queries_apply _ _ _ _ r l _ _ _ (fun l => ?_) ?_ ?_ ?_
  · have hl := l.isLt
    exact (cols_apply r l _ _ _ (by omega)).trans (uBlk_apply harg1 harg2 harg3 x0 x1 x2 s r _)
  · exact (tBlk_apply harg4 x3 s r l h).trans (hc _ l)
  · exact (tBlk_apply harg5 x4 s r l h).trans (ha _ l)
  · exact (tBlk_apply harg6 x5 s r l h).trans (hb _ l)

/-- The keys. -/
theorem kBlk_apply (s : Fin 4) (r : Fin 256) (l : Fin 128) : kBlk harg1 harg2 harg3 harg4 harg5 harg6 x0 x1 x2 x3 x4 x5 s (ix2 r l)
    = ropeAt (T0 + (256 * s.val + r.val)) (tileRow x0 x1 x2 (256 * s.val + r.val)) (1024 + 64 * (l.val / 64)) (l.val % 64) := by
  have h : 256 * s.val + r.val < 1024 := by omega
  unfold kBlk
  refine ropeBlk_apply _ _ _ _ r l _ _ _ (fun l => ?_) ?_ ?_ ?_
  · have hl := l.isLt
    exact (cols_apply r l _ _ _ (by omega)).trans (uBlk_apply harg1 harg2 harg3 x0 x1 x2 s r _)
  · exact (tBlk_apply harg4 x3 s r l h).trans (hc _ l)
  · exact (tBlk_apply harg5 x4 s r l h).trans (ha _ l)
  · exact (tBlk_apply harg6 x5 s r l h).trans (hb _ l)

omit hc ha hb in
/-- The values. -/
theorem vBlk_apply (s : Fin 4) (r : Fin 256) (l : Fin 128) : vBlk harg1 harg2 harg3 x0 x1 x2 s (ix2 r l) = tileRow x0 x1 x2 (256 * s.val + r.val) (1152 + l.val) := by
  have hl := l.isLt
  unfold vBlk
  exact (cols_apply r l _ _ _ (by omega)).trans (uBlk_apply harg1 harg2 harg3 x0 x1 x2 s r _)

/-- A row of the tile's result. -/
abbrev tileAt (ρ c : ℕ) : EReal := outAt (T0 + ρ) (tileRow x0 x1 x2 ρ) c

/-- The first query head of a pair. -/
theorem low_at (s c : Fin 4) (r : Fin 256) (l : Fin 128) : queryLow (qBlk harg1 harg2 harg3 harg4 harg5 harg6 x0 x1 x2 x3 x4 x5 s c) (ix2 r l)
    = tileAt x0 x1 x2 T0 (256 * s.val + r.val) (256 * c.val + l.val) := by
  have hl := l.isLt
  have h4 := c.isLt
  rw [queryLow_apply, qBlk_apply harg1 harg2 harg3 harg4 harg5 harg6 x0 x1 x2 x3 x4 x5 T0 hc ha hb]
  unfold tileAt outAt queryAt
  rw [if_pos (show 256 * c.val + l.val < 1024 by omega), show (256 * c.val + l.val) / 128 = 2 * c.val by omega, show (256 * c.val + l.val) % 128 = l.val by omega]
  by_cases h : l.val < 64
  · rw [if_pos h, if_pos (show l.val / 64 = 2 * c.val % 2 by omega), show 512 + 128 * c.val + 64 * (l.val / 64) = 512 + 64 * (2 * c.val) by omega]
  · rw [if_neg h, if_neg (show ¬ l.val / 64 = 2 * c.val % 2 by omega)]

/-- The second query head of a pair. -/
theorem high_at (s c : Fin 4) (r : Fin 256) (l : Fin 128) : queryHigh (qBlk harg1 harg2 harg3 harg4 harg5 harg6 x0 x1 x2 x3 x4 x5 s c) (ix2 r l)
    = tileAt x0 x1 x2 T0 (256 * s.val + r.val) (256 * c.val + 128 + l.val) := by
  have hl := l.isLt
  have h4 := c.isLt
  rw [queryHigh_apply, qBlk_apply harg1 harg2 harg3 harg4 harg5 harg6 x0 x1 x2 x3 x4 x5 T0 hc ha hb]
  unfold tileAt outAt queryAt
  rw [if_pos (show 256 * c.val + 128 + l.val < 1024 by omega), show (256 * c.val + 128 + l.val) / 128 = 2 * c.val + 1 by omega,
    show (256 * c.val + 128 + l.val) % 128 = l.val by omega]
  by_cases h : l.val < 64
  · rw [if_pos h, if_neg (show ¬ l.val / 64 = (2 * c.val + 1) % 2 by omega)]
  · rw [if_neg h, if_pos (show l.val / 64 = (2 * c.val + 1) % 2 by omega), show 512 + 128 * c.val + 64 * (l.val / 64) = 512 + 64 * (2 * c.val + 1) by omega]

/-- The keys' columns. -/
theorem keys_at (s : Fin 4) (r : Fin 256) (l : Fin 128) :
    twiceLow (kBlk harg1 harg2 harg3 harg4 harg5 harg6 x0 x1 x2 x3 x4 x5 s) (ix2 r l) = tileAt x0 x1 x2 T0 (256 * s.val + r.val) (1536 + l.val)
    ∧ twiceHigh (kBlk harg1 harg2 harg3 harg4 harg5 harg6 x0 x1 x2 x3 x4 x5 s) (ix2 r l) = tileAt x0 x1 x2 T0 (256 * s.val + r.val) (1664 + l.val) := by
  have hl := l.isLt
  rw [twiceLow_apply _ r l (by omega), twiceHigh_apply _ r l (by omega), kBlk_apply harg1 harg2 harg3 harg4 harg5 harg6 x0 x1 x2 x3 x4 x5 T0 hc ha hb,
    kBlk_apply harg1 harg2 harg3 harg4 harg5 harg6 x0 x1 x2 x3 x4 x5 T0 hc ha hb]
  unfold tileAt outAt
  dsimp only
  constructor
  · rw [if_neg (by omega), if_neg (by omega), if_pos (show 1536 + l.val < 1792 by omega)]
    congr 1 <;> omega
  · rw [if_neg (by omega), if_neg (by omega), if_pos (show 1664 + l.val < 1792 by omega)]
    congr 1 <;> omega

omit hc ha hb in
/-- The values' columns. -/
theorem values_at (s : Fin 4) (r : Fin 256) (l : Fin 128) :
    twiceLow (vBlk harg1 harg2 harg3 x0 x1 x2 s) (ix2 r l) = tileAt x0 x1 x2 T0 (256 * s.val + r.val) (1792 + l.val)
    ∧ twiceHigh (vBlk harg1 harg2 harg3 x0 x1 x2 s) (ix2 r l) = tileAt x0 x1 x2 T0 (256 * s.val + r.val) (1920 + l.val) := by
  have hl := l.isLt
  rw [twiceLow_apply _ r l (by omega), twiceHigh_apply _ r l (by omega), vBlk_apply, vBlk_apply]
  unfold tileAt outAt
  dsimp only
  constructor
  · rw [if_neg (by omega), if_neg (by omega), if_neg (by omega)]
    congr 1
    omega
  · rw [if_neg (by omega), if_neg (by omega), if_neg (by omega)]
    congr 1
    omega

omit hc ha hb in
/-- The pooled columns. -/
theorem pool_at (s : Fin 4) (r : Fin 256) (l : Fin 512) :
    poolCols (uBlk harg1 harg2 harg3 x0 x1 x2 s) (ix2 r l) = tileAt x0 x1 x2 T0 (256 * s.val + r.val) (1024 + l.val) := by
  have hl := l.isLt
  rw [poolCols_apply _ _ _ (by omega), uBlk_apply]
  unfold tileAt outAt
  rw [if_neg (by omega), if_pos (by omega), Nat.add_sub_cancel_left]

/-- The tile's rows, at a place of the tile. -/
abbrev tileOut : S1024x2048.Idx → Elt Ideal .bf16 := fun y => tileAt x0 x1 x2 T0 (y 0).val (y 1).val

omit hc ha hb in
theorem piece128_at (s : Fin 4) (o : ℕ) (ho : o + 128 ≤ 2048) (v : FVec Ideal S256x128 .bf16)
    (h : ∀ (r : Fin 256) (l : Fin 128), v (ix2 r l) = tileAt x0 x1 x2 T0 (256 * s.val + r.val) (o + l.val)) :
    ∀ x : (at128 s o ho v).1.shape.Idx, (at128 s o ho v).2 x = tileOut x0 x1 x2 T0 ((at128 s o ho v).1.emb x) := by
  intro x
  obtain ⟨r, l, rfl⟩ : ∃ (r : Fin 256) (l : Fin 128), x = ix2 r l := ⟨x 0, x 1, eq_ix2 x⟩
  refine (h r l).trans ?_
  show tileAt x0 x1 x2 T0 (256 * s.val + r.val) (o + l.val) = tileAt x0 x1 x2 T0 (256 * s.val + 1 * r.val) (o + 1 * l.val)
  rw [Nat.one_mul, Nat.one_mul]

omit hc ha hb in
theorem poolPiece_at (s : Fin 4) : ∀ x : (poolPiece harg1 harg2 harg3 x0 x1 x2 s).1.shape.Idx,
    (poolPiece harg1 harg2 harg3 x0 x1 x2 s).2 x = tileOut x0 x1 x2 T0 ((poolPiece harg1 harg2 harg3 x0 x1 x2 s).1.emb x) := by
  intro x
  obtain ⟨r, l, rfl⟩ : ∃ (r : Fin 256) (l : Fin 512), x = ix2 r l := ⟨x 0, x 1, eq_ix2 x⟩
  refine (pool_at harg1 harg2 harg3 x0 x1 x2 T0 s r l).trans ?_
  show tileAt x0 x1 x2 T0 (256 * s.val + r.val) (1024 + l.val) = tileAt x0 x1 x2 T0 (256 * s.val + 1 * r.val) (1024 + 1 * l.val)
  rw [Nat.one_mul, Nat.one_mul]

theorem blkPieces_at (s : Fin 4) : ∀ p ∈ blkPieces harg1 harg2 harg3 harg4 harg5 harg6 x0 x1 x2 x3 x4 x5 s,
    ∀ x : p.1.shape.Idx, p.2 x = tileOut x0 x1 x2 T0 (p.1.emb x) := by
  have hq (c : Fin 4) := high_at harg1 harg2 harg3 harg4 harg5 harg6 x0 x1 x2 x3 x4 x5 T0 hc ha hb s c
  have hl (c : Fin 4) := low_at harg1 harg2 harg3 harg4 harg5 harg6 x0 x1 x2 x3 x4 x5 T0 hc ha hb s c
  have hk := keys_at harg1 harg2 harg3 harg4 harg5 harg6 x0 x1 x2 x3 x4 x5 T0 hc ha hb s
  have hv := values_at harg1 harg2 harg3 x0 x1 x2 T0 s
  intro p hp
  simp only [blkPieces, List.mem_cons, List.not_mem_nil, or_false] at hp
  rcases hp with rfl | rfl | rfl | rfl | rfl | rfl | rfl | rfl | rfl | rfl | rfl | rfl | rfl
  · exact piece128_at x0 x1 x2 T0 s 1920 _ _ fun r l => (hv r l).2
  · exact piece128_at x0 x1 x2 T0 s 1792 _ _ fun r l => (hv r l).1
  · exact piece128_at x0 x1 x2 T0 s 1664 _ _ fun r l => (hk r l).2
  · exact piece128_at x0 x1 x2 T0 s 1536 _ _ fun r l => (hk r l).1
  · exact poolPiece_at harg1 harg2 harg3 x0 x1 x2 T0 s
  · exact piece128_at x0 x1 x2 T0 s 896 _ _ (hq 3)
  · exact piece128_at x0 x1 x2 T0 s 768 _ _ (hl 3)
  · exact piece128_at x0 x1 x2 T0 s 640 _ _ (hq 2)
  · exact piece128_at x0 x1 x2 T0 s 512 _ _ (hl 2)
  · exact piece128_at x0 x1 x2 T0 s 384 _ _ (hq 1)
  · exact piece128_at x0 x1 x2 T0 s 256 _ _ (hl 1)
  · exact piece128_at x0 x1 x2 T0 s 128 _ _ (hq 0)
  · exact piece128_at x0 x1 x2 T0 s 0 _ _ (hl 0)

/-- A tile's result, from its staged blocks. -/
theorem out_apply (c : Dev nD) (i : grid0.Coords) (y : S1024x2048.Idx) :
    out0_A_6 c i arg1 harg1 arg2 harg2 arg3 harg3 arg4 harg4 arg5 harg5 arg6 harg6 arg7 harg7 x0 x1 x2 x3 x4 x5 y = tileOut x0 x1 x2 T0 y := by
  unfold out0_A_6
  rw [View.read_writes_junk_apply_eq_canon]
  have hcov := cover0_A_6 c i arg1 harg1 arg2 harg2 arg3 harg3 arg4 harg4 arg5 harg5 arg6 harg6 arg7 harg7 x0 x1 x2 x3 x4 x5 y
  rw [pieces_eq] at hcov ⊢
  have hb (s : Fin 4) := blkPieces_at harg1 harg2 harg3 harg4 harg5 harg6 x0 x1 x2 x3 x4 x5 T0 hc ha hb s
  refine View.canon_apply_of_pieces (Val := Elt Ideal) (S := S1024x2048) (e := .bf16) (tileOut x0 x1 x2 T0) _ ?_ y hcov
  intro p hp
  simp only [pieces, List.mem_append, List.not_mem_nil, or_false] at hp
  rcases hp with hp | hp | hp | hp
  · exact hb 3 p hp
  · exact hb 2 p hp
  · exact hb 1 p hp
  · exact hb 0 p hp

end tile

variable (m : (ℓ : Loc nD τ sig) → Buf (Elt Ideal) ℓ) (c : Dev nD)

/-- Where each staged block sits, at every grid point. -/
theorem index_at : ∀ t : Fin grid0.N,
    win0_0.index t = ![t.val, 0] ∧ win0_1.index t = ![t.val / 8, 0, 0] ∧ win0_2.index t = ![0, 0] ∧ win0_3.index t = ![t.val % 8, 0] ∧
    win0_4.index t = ![t.val % 8, 0] ∧ win0_5.index t = ![t.val % 8, 0] ∧ win0_6.index t = ![t.val, 0] := by
  decide +kernel

/-- The rows of the input. -/
theorem x_blk (t : Fin cfg0.N) {r k : ℕ} (hr : r < 1024) (hk : k < 1024) :
    at2 (iblk m c 0 t : Vec Ideal S1024x1024 .f32) r k = at2 (m (c.tc.loc main_arg0) : Vec Ideal S65536x1024 .f32) (1024 * t.val + r) k := by
  have ht : t.val < 64 := t.isLt
  obtain ⟨e0, e1, e2, e3, e4, e5, e6⟩ := index_at t
  rw [at2_of _ hr hk, at2_of _ (by omega) hk]
  blk_ext [iblk, V, e0]

/-- The modulation of the sequence. -/
theorem md_blk (t : Fin cfg0.N) (q : Fin 3) {k : ℕ} (hk : k < 1024) :
    at3 (iblk m c 1 t : Vec Ideal S1x3x1024 .f32) 0 q.val k = at3 (m (c.tc.loc main_arg1) : Vec Ideal S8x3x1024 .f32) (t.val / 8) q.val k := by
  have ht : t.val < 64 := t.isLt
  obtain ⟨e0, e1, e2, e3, e4, e5, e6⟩ := index_at t
  have h1 := at3_ix3 (iblk m c 1 t : Vec Ideal S1x3x1024 .f32) 0 q ⟨k, hk⟩
  have h2 := at3_ix3 (m (c.tc.loc main_arg1) : Vec Ideal S8x3x1024 .f32) ⟨t.val / 8, by omega⟩ q ⟨k, hk⟩
  refine h1.symm.trans (Eq.trans ?_ h2)
  blk_ext [iblk, V, e1]

/-- The projection. -/
theorem w_blk (t : Fin cfg0.N) {q k : ℕ} (hq : q < 1024) (hk : k < 1280) :
    at2 (iblk m c 2 t : Vec Ideal S1024x1280 .bf16) q k = at2 (m (c.tc.loc main_arg2) : Vec Ideal S1024x1280 .bf16) q k := by
  obtain ⟨e0, e1, e2, e3, e4, e5, e6⟩ := index_at t
  rw [at2_of _ hq hk, at2_of _ hq hk]
  blk_ext [iblk, V, e2]

/-- The table of cosines. -/
theorem cos_blk (t : Fin cfg0.N) (ρ : Fin 1024) (l : Fin 128) : (iblk m c 3 t : Vec Ideal S1024x128 .f32) (ix2 ρ l) = cosT (1024 * (t.val % 8) + ρ.val) l.val := by
  obtain ⟨e0, e1, e2, e3, e4, e5, e6⟩ := index_at t
  refine Eq.trans ?_ (cos_table m c ⟨1024 * (t.val % 8) + ρ.val, by omega⟩ l)
  blk_ext [iblk, e3]

/-- The table for the lane sixteen to the right. -/
theorem sa_blk (t : Fin cfg0.N) (ρ : Fin 1024) (l : Fin 128) : (iblk m c 4 t : Vec Ideal S1024x128 .f32) (ix2 ρ l) = saT (1024 * (t.val % 8) + ρ.val) l.val := by
  obtain ⟨e0, e1, e2, e3, e4, e5, e6⟩ := index_at t
  refine Eq.trans ?_ (sa_table m c ⟨1024 * (t.val % 8) + ρ.val, by omega⟩ l)
  blk_ext [iblk, e4]

/-- The table for the lane sixteen to the left. -/
theorem sb_blk (t : Fin cfg0.N) (ρ : Fin 1024) (l : Fin 128) : (iblk m c 5 t : Vec Ideal S1024x128 .f32) (ix2 ρ l) = sbT (1024 * (t.val % 8) + ρ.val) l.val := by
  obtain ⟨e0, e1, e2, e3, e4, e5, e6⟩ := index_at t
  refine Eq.trans ?_ (sb_table m c ⟨1024 * (t.val % 8) + ρ.val, by omega⟩ l)
  blk_ext [iblk, e5]

/-- The step of the kernel's arguments. -/
abbrev kernStep : Vec Ideal S65536x2048 .bf16 := fun i =>
  step (m (c.tc.loc main_arg0)) (m (c.tc.loc main_arg1)) (m (c.tc.loc main_arg2)) (i 0).val (i 1).val

set_option maxHeartbeats 8000000 in
theorem result_eq : (dats m 0 c).arrAt 6 cfg0.N = kernStep m c := by
  refine (dats m 0 c).arrAt_eq_of_covers 6 _ (by decide +kernel) fun t hf y => ?_
  have ht : t.val < 64 := t.isLt
  rw [after0_6]
  unfold outsAt0
  obtain ⟨-, -, -, -, -, -, e6⟩ := index_at t
  have hr : (y 0).val < 1024 := (y 0).isLt
  have hk : (y 1).val < 2048 := (y 1).isLt
  have hx : (cfg0.win 6).xinj (cfg0.grid.coords t) y = (ix2 ⟨(y 0).val, hr⟩ ⟨(y 1).val, hk⟩ : S1024x2048.Idx) :=
    funext fun a => match a with
      | 0 => rfl
      | 1 => rfl
  rw [hx]
  refine (out_apply _ _ _ _ _ _ _ (iblk m c 0 t) (iblk m c 1 t) (iblk m c 2 t) (iblk m c 3 t) (iblk m c 4 t) (iblk m c 5 t) (1024 * (t.val % 8))
    (cos_blk m c t) (sa_blk m c t) (sb_blk m c t) c (grid0.coords t) (ix2 ⟨(y 0).val, hr⟩ ⟨(y 1).val, hk⟩)).trans ?_
  have h0 : ((((cfg0.win 6).blk t).view.emb y) 0).val = 1024 * t.val + (y 0).val := by
    blk_simp [e6]
    omega
  have h1 : ((((cfg0.win 6).blk t).view.emb y) 1).val = (y 1).val := by
    blk_simp [e6]
  unfold kernStep
  rw [h0, h1]
  unfold step
  rw [show (1024 * t.val + (y 0).val) / 8192 = t.val / 8 by omega, show (1024 * t.val + (y 0).val) % 8192 = 1024 * (t.val % 8) + (y 0).val by omega]
  exact outAt_congr hk fun j hj => projAt_congr (fun q hq => modAt_congr hq (fun k hk => x_blk m c t hr hk) (md_blk m c t 1 hq) (md_blk m c t 0 hq))
    fun k hk => w_blk m c t hk hj

end Cert.Proj

end
-- ==== Proof.Proj.Ref.lean ====
/- The projection reference's result, read at an index: the step. -/
module

public import proofs.«01_k».proof.Proof.Gen.Reference3Ideal.Read
public import proofs.«01_k».proof.Proof.Proj.Spec
public import proofs.«01_k».proof.Proof.Mix.RefParts

@[expose] public section

set_option maxRecDepth 16384

noncomputable section

namespace Cert.Proj

open Cert.Reference3Ideal Cert.Reference3Ideal.Gen Cert.Reference3Ideal.Read Idealize.ShloMosaic Cert.Mix
open Cert.Ffn (modAt modAt_congr projAt projAt_congr)
variable [Facts]
open Facts

variable (x0 : S65536x1024.Idx → EReal) (x1 : S8x3x1024.Idx → EReal) (x2 : S1024x1280.Idx → EReal)

/-- A row of the input. -/
def xRow (b : Fin 8) (t : Fin 8192) : ℕ → EReal := at2 x0 (8192 * b.val + t.val)

theorem x_at (b : Fin 8) (t : Fin 8192) (c : Fin 1024) : val_main_v29 (F := Ideal) x0 (ix3 b t c) = xRow x0 b t c.val := by
  pointwise [val_main_v29]
  rw [at2_ix2 x0]
  unfold xRow
  congr 1 <;> dsimp only <;> omega

theorem xmean_at (b : Fin 8) (t : Fin 8192) (z : Fin 1) : val_main_v33 (F := Ideal) x0 (ix3 b t z) = mean (xRow x0 b t) := by
  pointwise [val_main_v33, val_main_v32, val_main_cst_4, val_main_v31, val_main_v30, val_main_cst_3]
  simp only [x_at]
  rfl

theorem xcentre_at (b : Fin 8) (t : Fin 8192) (c : Fin 1024) :
    val_main_v35 (F := Ideal) x0 (ix3 b t c) = xRow x0 b t c.val - mean (xRow x0 b t) := by
  have e : val_main_v34 (F := Ideal) x0 (ix3 b t c) = val_main_v33 (F := Ideal) x0 (ix3 b t 0) := by
    pointwise [val_main_v34]
  rw [val_main_v35_apply, e, xmean_at, x_at]
  rfl

theorem xvar_at (b : Fin 8) (t : Fin 8192) (z : Fin 1) :
    val_main_v40 (F := Ideal) x0 (ix3 b t z) = mean fun k => (xRow x0 b t k - mean (xRow x0 b t)) * (xRow x0 b t k - mean (xRow x0 b t)) := by
  pointwise [val_main_v40, val_main_v39, val_main_cst_6, val_main_v38, val_main_v37, val_main_cst_5, val_main_v36]
  simp only [xcentre_at]
  rfl

/-- A row of the modulated input. -/
def hRow (b : Fin 8) (t : Fin 8192) : ℕ → EReal := modAt (xRow x0 b t) (at3 x1 b.val 1) (at3 x1 b.val 0)

theorem h_at (b : Fin 8) (t : Fin 8192) (c : Fin 1024) : val_main_v55 (F := Ideal) x0 x1 (ix3 b t c) = hRow x0 x1 b t c.val := by
  have e8 : val_main_v41 (F := Ideal) x0 (ix3 b t c) = val_main_v33 (F := Ideal) x0 (ix3 b t 0) := by
    pointwise [val_main_v41]
  have e3 : val_main_v46 (F := Ideal) x0 (ix3 b t c) = Ideal.rsqrt (val_main_v40 (F := Ideal) x0 (ix3 b t 0) + Ideal.ofBits .f32 925353388#32) := by
    pointwise [val_main_v46, val_main_v45, val_main_v44, val_main_v43, val_main_cst_7]
  have es : val_main_v51 (F := Ideal) x1 (ix3 b t c) = Ideal.ofBits .f32 1065353216#32 + at3 x1 b.val 1 c.val := by
    pointwise [val_main_v51, val_main_v50, val_main_v49, val_main_cst_8, val_main_v48]
    rw [at3_ix3 x1]
    rfl
  have eh : val_main_v54 (F := Ideal) x1 (ix3 b t c) = at3 x1 b.val 0 c.val := by
    pointwise [val_main_v54, val_main_v53]
    rw [at3_ix3 x1]
    rfl
  rw [val_main_v55_apply, val_main_v52_apply, val_main_v47_apply, val_main_v42_apply, e8, e3, es, eh, xmean_at, xvar_at, x_at]
  rfl

/-- A row of the projection. -/
def uRow (b : Fin 8) (t : Fin 8192) : ℕ → EReal := projAt (hRow x0 x1 b t) (at2 x2)

theorem u_at (b : Fin 8) (t : Fin 8192) (j : Fin 1280) : val_main_v57 (F := Ideal) x0 x1 x2 (ix3 b t j) = uRow x0 x1 x2 b t j.val := by
  rw [val_main_v57_apply]
  unfold uRow projAt
  refine Finset.sum_congr rfl fun k _ => congrArg₂ (· * ·) ((congrArg (val_main_v55 (F := Ideal) x0 x1) (?_ : _ = ix3 b t k)).trans (h_at x0 x1 b t k)) ?_
  · ext a; fin_cases a <;> rfl
  · rw [← at2_ix2 x2, val_main_v56_apply]
    refine congrArg x2 ?_
    ext a; fin_cases a <;> rfl

theorem ang_row (T : Fin 8192) (f : Fin 16) : val_main_v23 (F := Ideal) (ix2 T f) = angAt (T.val / 64) f.val := by
  unfold angAt
  pointwise [val_main_v23, val_main_v21, val_main_v19, val_main_v3, val_main_v2, val_main_v1, val_main_v0, val_main_v22, val_main_v20, val_main_v18, val_main_v17, val_main_cst_2,
    val_main_v16, val_main_v15, val_main_cst_1, val_main_v14, val_main_v13, val_main_v12, val_main_cst_0, val_main_v11, val_main_v10, val_main_cst, val_main_v9]

theorem ang_col (T : Fin 8192) (f : Fin 16) : val_main_v28 (F := Ideal) (ix2 T f) = angAt (T.val % 64) f.val := by
  unfold angAt
  pointwise [val_main_v28, val_main_v26, val_main_v24, val_main_v8, val_main_v7, val_main_v6, val_main_v5, val_main_v4, val_main_v27, val_main_v25, val_main_v18, val_main_v17, val_main_cst_2,
    val_main_v16, val_main_v15, val_main_cst_1, val_main_v14, val_main_v13, val_main_v12, val_main_cst_0, val_main_v11, val_main_v10, val_main_cst, val_main_v9]

theorem qrow_at (b : Fin 8) (t : Fin 8192) (h : Fin 8) (d : Fin 32) :
    val_main_v81 (F := Ideal) x0 x1 x2 (ix4 b t h d) = ropeAt t.val (uRow x0 x1 x2 b t) (512 + 64 * h.val) d.val := by
  have hd := d.isLt
  unfold ropeAt laneAng
  pointwise [val_main_v81, val_main_v80, val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61, val_main_v60, val_main_v59, val_main_v58]
  simp only [u_at, ang_row]
  split_ifs
  all_goals first | omega | (congr 1 <;> congr 1 <;> first | (congr 1 <;> omega) | (congr 2 <;> omega))

theorem qcol_at (b : Fin 8) (t : Fin 8192) (h : Fin 8) (d : Fin 32) :
    val_main_v103 (F := Ideal) x0 x1 x2 (ix4 b t h d) = ropeAt t.val (uRow x0 x1 x2 b t) (512 + 64 * h.val) (32 + d.val) := by
  have hd := d.isLt
  unfold ropeAt laneAng
  pointwise [val_main_v103, val_main_v102, val_main_v101, val_main_v100, val_main_v99, val_main_v98, val_main_v97, val_main_v96, val_main_v95, val_main_v94, val_main_v93, val_main_v92,
    val_main_v91, val_main_v90, val_main_v89, val_main_v88, val_main_v87, val_main_v86, val_main_v85, val_main_v84, val_main_v83, val_main_v82, val_main_v59, val_main_v58]
  simp only [u_at, ang_col]
  split_ifs
  all_goals first | omega | (congr 1 <;> congr 1 <;> first | (congr 1 <;> omega) | (congr 2 <;> omega))

theorem ofBits_eighth : Ideal.ofBits .f32 1040187392#32 = ((1 / 8 : ℝ) : EReal) := by
  simp [Ideal.ofBits, Ideal.ieee]
  rw [← EReal.coe_mul]
  norm_num

/-- The softmax scale, an eighth, over the logarithm of two. -/
theorem eighth_over_log : Ideal.div (Ideal.ofBits .f32 1040187392#32) (Ideal.log (Ideal.ofBits .f32 1073741824#32)) = qs := by
  have h2 : Real.log 2 ≠ 0 := (Real.log_pos (by norm_num)).ne'
  have h8 : Real.log 256 = 8 * Real.log 2 := by
    rw [show (256 : ℝ) = 2 ^ 8 by norm_num, Real.log_pow]
    norm_num
  rw [ofBits_eighth, log_two]
  unfold qs
  rw [h8, Ideal.div_coe h2, ← EReal.coe_mul]
  congr 1
  rw [mul_inv]
  norm_num

theorem q_at (b : Fin 8) (t : Fin 8192) (h : Fin 8) (d : Fin 64) :
    val_main_v108 (F := Ideal) x0 x1 x2 (ix4 b t h d) = ropeAt t.val (uRow x0 x1 x2 b t) (512 + 64 * h.val) d.val * qs := by
  have hd := d.isLt
  have hs : val_main_v107 (F := Ideal) (ix4 b t h d) = qs := by
    pointwise [val_main_v107, val_main_v106, val_main_cst_10, val_main_v105, val_main_cst_9]
    exact eighth_over_log
  rw [val_main_v108_apply, hs]
  refine congrArg (· * qs) ?_
  pointwise [val_main_v104]
  simp only [qrow_at, qcol_at]
  split_ifs
  · rfl
  · congr 1
    omega

theorem krow_at (b : Fin 8) (t : Fin 8192) (h : Fin 2) (d : Fin 32) :
    val_main_v132 (F := Ideal) x0 x1 x2 (ix4 b t h d) = ropeAt t.val (uRow x0 x1 x2 b t) (1024 + 64 * h.val) d.val := by
  have hd := d.isLt
  unfold ropeAt laneAng
  pointwise [val_main_v132, val_main_v131, val_main_v130, val_main_v129, val_main_v128, val_main_v127, val_main_v126, val_main_v125, val_main_v124, val_main_v123, val_main_v122, val_main_v121,
    val_main_v120, val_main_v119, val_main_v118, val_main_v117, val_main_v116, val_main_v115, val_main_v114, val_main_v113, val_main_v112, val_main_v111, val_main_v110, val_main_v109]
  simp only [u_at, ang_row]
  split_ifs
  all_goals first | omega | (congr 1 <;> congr 1 <;> first | (congr 1 <;> omega) | (congr 2 <;> omega))

theorem kcol_at (b : Fin 8) (t : Fin 8192) (h : Fin 2) (d : Fin 32) :
    val_main_v154 (F := Ideal) x0 x1 x2 (ix4 b t h d) = ropeAt t.val (uRow x0 x1 x2 b t) (1024 + 64 * h.val) (32 + d.val) := by
  have hd := d.isLt
  unfold ropeAt laneAng
  pointwise [val_main_v154, val_main_v153, val_main_v152, val_main_v151, val_main_v150, val_main_v149, val_main_v148, val_main_v147, val_main_v146, val_main_v145, val_main_v144, val_main_v143,
    val_main_v142, val_main_v141, val_main_v140, val_main_v139, val_main_v138, val_main_v137, val_main_v136, val_main_v135, val_main_v134, val_main_v133, val_main_v110, val_main_v109]
  simp only [u_at, ang_col]
  split_ifs
  all_goals first | omega | (congr 1 <;> congr 1 <;> first | (congr 1 <;> omega) | (congr 2 <;> omega))

theorem k_at (b : Fin 8) (t : Fin 8192) (h : Fin 2) (d : Fin 64) :
    val_main_v155 (F := Ideal) x0 x1 x2 (ix4 b t h d) = ropeAt t.val (uRow x0 x1 x2 b t) (1024 + 64 * h.val) d.val := by
  have hd := d.isLt
  pointwise [val_main_v155]
  simp only [krow_at, kcol_at]
  split_ifs
  · rfl
  · congr 1
    omega

theorem pairs_at (b : Fin 8) (t : Fin 8192) (p : Fin 4) (c : Fin 256) :
    val_main_v164 (F := Ideal) x0 x1 x2 (ix4 b t p c) = queryAt t.val (uRow x0 x1 x2 b t) (2 * p.val + c.val / 128) (c.val % 128) := by
  have hc := c.isLt
  unfold queryAt
  pointwise [val_main_v164, val_main_v163, val_main_v162, val_main_v161, val_main_v160, val_main_v159, val_main_cst_11, val_main_v158]
  simp only [q_at]
  split_ifs
  all_goals first | omega | rfl | (congr 1; congr 1 <;> omega)

set_option maxHeartbeats 4000000 in
theorem row_at (b : Fin 8) (t : Fin 8192) (c : Fin 2048) :
    val_main_v171 (F := Ideal) x0 x1 x2 (ix3 b t c) = outAt t.val (uRow x0 x1 x2 b t) c.val := by
  have hc := c.isLt
  unfold outAt
  pointwise [val_main_v171, val_main_v170, val_main_v169, val_main_v168, val_main_v167, val_main_v166, val_main_v165, val_main_v157, val_main_v156]
  simp only [pairs_at, k_at, u_at]
  split_ifs
  all_goals first | omega | (congr 1 <;> omega)

/-- What the reference returns. -/
theorem reference_eq : val_main_v173 (F := Ideal) x0 x1 x2 = fun i : S65536x2048.Idx => step x0 x1 x2 (i 0).val (i 1).val := by
  funext i
  have h0 : (i 0).val < 65536 := (i 0).isLt
  have h1 : (i 1).val < 2048 := (i 1).isLt
  have hb : (i 0).val / 8192 < 8 := by omega
  have ht : (i 0).val % 8192 < 8192 := by omega
  have e : idx_main_v172 i = ix3 ⟨(i 0).val / 8192, hb⟩ ⟨(i 0).val % 8192, ht⟩ ⟨(i 1).val, h1⟩ := by
    ext a
    fin_cases a
    · show ((i 0).val * 2048 + (i 1).val) / 16777216 = (i 0).val / 8192
      omega
    · show ((i 0).val * 2048 + (i 1).val) / 2048 % 8192 = (i 0).val % 8192
      omega
    · show ((i 0).val * 2048 + (i 1).val) % 2048 = (i 1).val
      omega
  rw [show val_main_v173 (F := Ideal) x0 x1 x2 i = val_main_v172 (F := Ideal) x0 x1 x2 i from rfl, val_main_v172_apply, e, row_at]
  unfold step uRow hRow xRow
  dsimp only
  rw [show 8192 * ((i 0).val / 8192) + (i 0).val % 8192 = (i 0).val by omega]

end Cert.Proj

end
-- ==== Proof.Ctx.Spec.lean ====
/- The feed-forward step of the context rows: the latent rows' own, with one modulation for all. -/
module

public import proofs.«01_k».proof.Proof.Ffn.Spec

@[expose] public section

noncomputable section

namespace Cert.Ctx

open Idealize.ShloMosaic Cert.Mix Cert.Ffn

/-- The step of all context rows. -/
def step (x : Shape.Idx ⟨2, ![2048, 1024]⟩ → EReal) (md : Shape.Idx ⟨3, ![1, 3, 1024]⟩ → EReal) (g b : Shape.Idx ⟨2, ![1, 1024]⟩ → EReal)
    (w1 w3 : Shape.Idx ⟨2, ![1024, 2816]⟩ → EReal) (w2 : Shape.Idx ⟨2, ![2816, 1024]⟩ → EReal) (r c : ℕ) : EReal :=
  rowAt (at2 x r) (at3 md 0 0) (at3 md 0 1) (at3 md 0 2) (at2 g 0) (at2 b 0) (at2 w1) (at2 w3) (at2 w2) c

end Cert.Ctx

end
-- ==== Proof.Ctx.Kern.lean ====
/- The context rows' result array: the step of the kernel's arguments. -/
module

public import proofs.«01_k».proof.Proof.Ffn.Block
public import proofs.«01_k».proof.Proof.Ctx.Spec
public import proofs.«01_k».proof.Proof.Gen.Kernel2Ideal.Value
public import proofs.«01_k».proof.Proof.Gen.Kernel4Ideal.Value
public import Idealize.ShloMosaic.Lib.Claim

@[expose] public section

set_option maxRecDepth 16384

noncomputable section

namespace Cert.Ctx

open Cert.Kernel4Ideal Cert.Kernel4Ideal.Gen Idealize.ShloMosaic Idealize.ShloMosaic.TcCoe Cert.Mix Cert.Ffn

local instance : Cert.Kernel2Ideal.Facts := Cert.Kernel2Ideal.Gen.facts

section
variable (x0 : Vec Ideal S256x1024 .f32) (x1 : Vec Ideal S1x3x1024 .f32) (x2 x3 : Vec Ideal S1x1024 .f32) (x4 x5 : Vec Ideal S1024x2816 .bf16)
  (x6 : Vec Ideal S2816x1024 .bf16)

/-- The kernel's one store is the step of its rows. -/
theorem out_eq : out0_7 x0 x1 x2 x3 x4 x5 x6 = View.canon [⟨r0_0, rowsBlk (View.ld x0 r0_0) (View.ld x1 r0_2) (View.ld x1 r0_1) (View.ld x1 r0_5) (View.ld x2 r0_6) (View.ld x3 r0_6) (View.ld x4 r0_3) (View.ld x5 r0_3) (View.ld x6 r0_4)⟩] := rfl

/-- The staged result of a grid point, at a row and a column. -/
theorem out_apply (y : S256x1024.Idx) : out0_7 x0 x1 x2 x3 x4 x5 x6 y
    = rowAt (at2 x0 (y 0).val) (at3 x1 0 0) (at3 x1 0 1) (at3 x1 0 2) (at2 x2 0) (at2 x3 0) (at2 x4) (at2 x5) (at2 x6) (y 1).val := by
  have hs (k : Fin 3) (inb) (c : ℕ) (hc : c < 1024) : at3 (View.ld x1 (Rect.unit (s := S1x3x1024) ![0, k.val, 0] S1x1x1024.size inb) : Vec Ideal S1x1x1024 .f32) 0 0 c = at3 x1 0 k.val c := by
    refine (at3_ix3 (View.ld x1 (Rect.unit (s := S1x3x1024) ![0, k.val, 0] S1x1x1024.size inb) : Vec Ideal S1x1x1024 .f32) 0 0 ⟨c, hc⟩).symm.trans
      (Eq.trans ?_ (at3_ix3 x1 0 k ⟨c, hc⟩))
    rw [View.ld_apply]
    refine congrArg x1 ?_
    ext a
    fin_cases a <;> simp [Rect.idx_unit_val, ix3]
  rw [out_eq]
  refine View.canon_apply_of_pieces (Val := Elt Ideal) (S := S256x1024) (e := .f32) (fun y : S256x1024.Idx =>
    (rowAt (at2 x0 (y 0).val) (at3 x1 0 0) (at3 x1 0 1) (at3 x1 0 2) (at2 x2 0) (at2 x3 0) (at2 x4) (at2 x5) (at2 x6) (y 1).val : Elt Ideal .f32)) _ ?_ y (cover0_7 _ y)
  intro p hp x
  simp only [List.mem_cons, List.not_mem_nil, or_false] at hp
  subst hp
  obtain ⟨r, c, rfl⟩ : ∃ (r : Fin 256) (c : Fin 1024), x = ix2 r c := ⟨x 0, x 1, eq_ix2 x⟩
  show rowsBlk (View.ld x0 r0_0) (View.ld x1 r0_2) (View.ld x1 r0_1) (View.ld x1 r0_5) (View.ld x2 r0_6) (View.ld x3 r0_6) (View.ld x4 r0_3) (View.ld x5 r0_3) (View.ld x6 r0_4) (ix2 r c)
    = rowAt (at2 x0 (0 + 1 * r.val)) (at3 x1 0 0) (at3 x1 0 1) (at3 x1 0 2) (at2 x2 0) (at2 x3 0) (at2 x4) (at2 x5) (at2 x6) (0 + 1 * c.val)
  rw [Nat.one_mul, Nat.one_mul, Nat.zero_add, Nat.zero_add, show View.ld x0 r0_0 = x0 from View.ld_unit_lit _ x0 (by decide), show View.ld x2 r0_6 = x2 from View.ld_unit_lit _ x2 (by decide), show View.ld x3 r0_6 = x3 from View.ld_unit_lit _ x3 (by decide),
    show View.ld x4 r0_3 = x4 from View.ld_unit_lit _ x4 (by decide), show View.ld x5 r0_3 = x5 from View.ld_unit_lit _ x5 (by decide),
    show View.ld x6 r0_4 = x6 from View.ld_unit_lit _ x6 (by decide)]
  exact (rowsBlk_apply _ _ _ _ _ _ _ _ _ r c).trans (rowAt_congr c.isLt (fun _ _ => rfl) (fun k hk => hs 0 _ k hk) (fun k hk => hs 1 _ k hk) (fun k hk => hs 2 _ k hk)
    (fun _ _ => rfl) (fun _ _ => rfl) (fun _ _ _ _ => rfl) (fun _ _ _ _ => rfl) fun _ _ _ _ => rfl)

end

variable (m : (ℓ : Loc nD τ sig) → Buf (Elt Ideal) ℓ) (c : Dev nD)

/-- Where each staged block sits, at every grid point. -/
theorem index_at : ∀ t : Fin grid0.N,
    win0_0.index t = ![t.val, 0] ∧ win0_1.index t = ![0, 0, 0] ∧ win0_2.index t = ![0, 0] ∧ win0_3.index t = ![0, 0] ∧
    win0_4.index t = ![0, 0] ∧ win0_5.index t = ![0, 0] ∧ win0_6.index t = ![0, 0] ∧ win0_7.index t = ![t.val, 0] := by
  decide +kernel

/-- The rows of the input. -/
theorem x_blk (t : Fin cfg0.N) {r k : ℕ} (hr : r < 256) (hk : k < 1024) :
    at2 (iblk m c 0 t : Vec Ideal S256x1024 .f32) r k = at2 (m (c.tc.loc main_arg0) : Vec Ideal S2048x1024 .f32) (256 * t.val + r) k := by
  have ht : t.val < 8 := t.isLt
  obtain ⟨e0, e1, e2, e3, e4, e5, e6, e7⟩ := index_at t
  rw [at2_of _ hr hk, at2_of _ (by omega) hk]
  blk_ext [iblk, V, e0]

/-- The modulation. -/
theorem md_blk (t : Fin cfg0.N) (q : Fin 3) {k : ℕ} (hk : k < 1024) :
    at3 (iblk m c 1 t : Vec Ideal S1x3x1024 .f32) 0 q.val k = at3 (m (c.tc.loc main_arg1) : Vec Ideal S1x3x1024 .f32) 0 q.val k := by
  have ht : t.val < 8 := t.isLt
  obtain ⟨e0, e1, e2, e3, e4, e5, e6, e7⟩ := index_at t
  have h1 := at3_ix3 (iblk m c 1 t : Vec Ideal S1x3x1024 .f32) 0 q ⟨k, hk⟩
  have h2 := at3_ix3 (m (c.tc.loc main_arg1) : Vec Ideal S1x3x1024 .f32) 0 q ⟨k, hk⟩
  refine h1.symm.trans (Eq.trans ?_ h2)
  blk_ext [iblk, V, e1]

/-- The normalisation's gain. -/
theorem gain_blk (t : Fin cfg0.N) {k : ℕ} (hk : k < 1024) :
    at2 (iblk m c 2 t : Vec Ideal S1x1024 .f32) 0 k = at2 (m (c.tc.loc main_arg2) : Vec Ideal S1x1024 .f32) 0 k := by
  obtain ⟨e0, e1, e2, e3, e4, e5, e6, e7⟩ := index_at t
  rw [at2_of _ (by omega) hk, at2_of _ (by omega) hk]
  blk_ext [iblk, V, e2]

/-- The normalisation's offset. -/
theorem offset_blk (t : Fin cfg0.N) {k : ℕ} (hk : k < 1024) :
    at2 (iblk m c 3 t : Vec Ideal S1x1024 .f32) 0 k = at2 (m (c.tc.loc main_arg3) : Vec Ideal S1x1024 .f32) 0 k := by
  obtain ⟨e0, e1, e2, e3, e4, e5, e6, e7⟩ := index_at t
  rw [at2_of _ (by omega) hk, at2_of _ (by omega) hk]
  blk_ext [iblk, V, e3]

/-- The first projection. -/
theorem w1_blk (t : Fin cfg0.N) {q k : ℕ} (hq : q < 1024) (hk : k < 2816) :
    at2 (iblk m c 4 t : Vec Ideal S1024x2816 .bf16) q k = at2 (m (c.tc.loc main_arg4) : Vec Ideal S1024x2816 .bf16) q k := by
  obtain ⟨e0, e1, e2, e3, e4, e5, e6, e7⟩ := index_at t
  rw [at2_of _ hq hk, at2_of _ hq hk]
  blk_ext [iblk, V, e4]

/-- The second projection. -/
theorem w3_blk (t : Fin cfg0.N) {q k : ℕ} (hq : q < 1024) (hk : k < 2816) :
    at2 (iblk m c 5 t : Vec Ideal S1024x2816 .bf16) q k = at2 (m (c.tc.loc main_arg5) : Vec Ideal S1024x2816 .bf16) q k := by
  obtain ⟨e0, e1, e2, e3, e4, e5, e6, e7⟩ := index_at t
  rw [at2_of _ hq hk, at2_of _ hq hk]
  blk_ext [iblk, V, e5]

/-- The projection back. -/
theorem w2_blk (t : Fin cfg0.N) {q k : ℕ} (hq : q < 2816) (hk : k < 1024) :
    at2 (iblk m c 6 t : Vec Ideal S2816x1024 .bf16) q k = at2 (m (c.tc.loc main_arg6) : Vec Ideal S2816x1024 .bf16) q k := by
  obtain ⟨e0, e1, e2, e3, e4, e5, e6, e7⟩ := index_at t
  rw [at2_of _ hq hk, at2_of _ hq hk]
  blk_ext [iblk, V, e6]

/-- The step of the kernel's arguments. -/
abbrev kernStep : Vec Ideal S2048x1024 .f32 := fun i =>
  step (m (c.tc.loc main_arg0)) (m (c.tc.loc main_arg1)) (m (c.tc.loc main_arg2)) (m (c.tc.loc main_arg3)) (m (c.tc.loc main_arg4))
    (m (c.tc.loc main_arg5)) (m (c.tc.loc main_arg6)) (i 0).val (i 1).val

set_option maxHeartbeats 8000000 in
theorem result_eq : (dats m 0 c).arrAt 7 cfg0.N = kernStep m c := by
  refine (dats m 0 c).arrAt_eq_of_covers 7 _ (by decide +kernel) fun t hf y => ?_
  have ht : t.val < 8 := t.isLt
  rw [after0_7]
  obtain ⟨-, -, -, -, -, -, -, e7⟩ := index_at t
  have hr : (y 0).val < 256 := (y 0).isLt
  have hk : (y 1).val < 1024 := (y 1).isLt
  have hx : (cfg0.win 7).xinj (cfg0.grid.coords t) y = (ix2 ⟨(y 0).val, hr⟩ ⟨(y 1).val, hk⟩ : S256x1024.Idx) :=
    funext fun a => match a with
      | 0 => rfl
      | 1 => rfl
  rw [hx]
  refine (out_apply (iblk m c 0 t) (iblk m c 1 t) (iblk m c 2 t) (iblk m c 3 t) (iblk m c 4 t) (iblk m c 5 t) (iblk m c 6 t) (ix2 ⟨(y 0).val, hr⟩ ⟨(y 1).val, hk⟩)).trans ?_
  have h0 : ((((cfg0.win 7).blk t).view.emb y) 0).val = 256 * t.val + (y 0).val := by
    blk_simp [e7]
    omega
  have h1 : ((((cfg0.win 7).blk t).view.emb y) 1).val = (y 1).val := by
    blk_simp [e7]
  unfold kernStep
  rw [h0, h1]
  unfold step
  exact rowAt_congr hk (fun k hk => x_blk m c t hr hk) (fun k hk => md_blk m c t 0 hk) (fun k hk => md_blk m c t 1 hk) (fun k hk => md_blk m c t 2 hk)
    (fun k hk => gain_blk m c t hk) (fun k hk => offset_blk m c t hk) (fun q j hq hj => w1_blk m c t hq hj) (fun q j hq hj => w3_blk m c t hq hj)
    fun j q hj hq => w2_blk m c t hj hq

end Cert.Ctx

end
-- ==== Proof.Ctx.Ref.lean ====
/- The context rows' reference, read at an index: the step. -/
module

public import proofs.«01_k».proof.Proof.Gen.Reference4Ideal.Read
public import proofs.«01_k».proof.Proof.Ctx.Spec

@[expose] public section

set_option maxRecDepth 16384

noncomputable section

namespace Cert.Ctx

open Cert.Reference4Ideal Cert.Reference4Ideal.Gen Cert.Reference4Ideal.Read Idealize.ShloMosaic Cert.Mix Cert.Ffn
variable [Facts]
open Facts

variable (x0 : S2048x1024.Idx → EReal) (x1 : S1x3x1024.Idx → EReal) (x2 x3 : S1x1024.Idx → EReal) (x4 x5 : S1024x2816.Idx → EReal)
  (x6 : S2816x1024.Idx → EReal)

theorem ofBits_unit : Ideal.ofBits .f32 1065353216#32 = 1 := by
  simp [Ideal.ofBits, Ideal.ieee]
  rw [← EReal.coe_mul]
  norm_num

/-- A row of the input. -/
def xRow (t : Fin 2048) : ℕ → EReal := at2 x0 t.val

theorem x_at (t : Fin 2048) (c : Fin 1024) : val_main_v0 (F := Ideal) x0 (ix3 (0 : Fin 1) t c) = xRow x0 t c.val := by
  pointwise [val_main_v0]
  rw [at2_ix2 x0]
  unfold xRow
  congr 1 <;> dsimp only <;> omega

theorem xmean_at (t : Fin 2048) (z : Fin 1) : val_main_v7 (F := Ideal) x0 (ix3 (0 : Fin 1) t z) = mean (xRow x0 t) := by
  pointwise [val_main_v7, val_main_v6, val_main_cst_0, val_main_v5, val_main_v4, val_main_cst]
  simp only [x_at]
  rfl

theorem xcentre_at (t : Fin 2048) (c : Fin 1024) :
    val_main_v9 (F := Ideal) x0 (ix3 (0 : Fin 1) t c) = xRow x0 t c.val - mean (xRow x0 t) := by
  have e : val_main_v8 (F := Ideal) x0 (ix3 (0 : Fin 1) t c) = val_main_v7 (F := Ideal) x0 (ix3 (0 : Fin 1) t 0) := by
    pointwise [val_main_v8]
  rw [val_main_v9_apply, e, xmean_at, x_at]
  rfl

theorem xvar_at (t : Fin 2048) (z : Fin 1) :
    val_main_v14 (F := Ideal) x0 (ix3 (0 : Fin 1) t z) = mean fun k => (xRow x0 t k - mean (xRow x0 t)) * (xRow x0 t k - mean (xRow x0 t)) := by
  pointwise [val_main_v14, val_main_v13, val_main_cst_2, val_main_v12, val_main_v11, val_main_cst_1, val_main_v10]
  simp only [xcentre_at]
  rfl

/-- A row of the modulated input. -/
def hRow (t : Fin 2048) : ℕ → EReal := modAt (xRow x0 t) (at3 x1 0 1) (at3 x1 0 0)

theorem h_at (t : Fin 2048) (c : Fin 1024) : val_main_v27 (F := Ideal) x0 x1 (ix3 (0 : Fin 1) t c) = hRow x0 x1 t c.val := by
  have e8 : val_main_v15 (F := Ideal) x0 (ix3 (0 : Fin 1) t c) = val_main_v7 (F := Ideal) x0 (ix3 (0 : Fin 1) t 0) := by
    pointwise [val_main_v15]
  have e3 : val_main_v20 (F := Ideal) x0 (ix3 (0 : Fin 1) t c) = Ideal.rsqrt (val_main_v14 (F := Ideal) x0 (ix3 (0 : Fin 1) t 0) + Ideal.ofBits .f32 925353388#32) := by
    pointwise [val_main_v20, val_main_v19, val_main_v18, val_main_v17, val_main_cst_3]
  have es : val_main_v24 (F := Ideal) x1 (ix3 (0 : Fin 1) t c) = Ideal.ofBits .f32 1065353216#32 + at3 x1 0 1 c.val := by
    pointwise [val_main_v24, val_main_v23, val_main_v22, val_main_cst_4, val_main_v2]
    rw [at3_ix3 x1]
    rfl
  have eh : val_main_v26 (F := Ideal) x1 (ix3 (0 : Fin 1) t c) = at3 x1 0 0 c.val := by
    pointwise [val_main_v26, val_main_v1]
    rw [at3_ix3 x1]
    rfl
  rw [val_main_v27_apply, val_main_v25_apply, val_main_v21_apply, val_main_v16_apply, e8, e3, es, eh, xmean_at, xvar_at, x_at]
  rfl

theorem first_at (t : Fin 2048) (j : Fin 2816) :
    val_main_v29 (F := Ideal) x0 x1 x4 (ix3 (0 : Fin 1) t j) = projAt (hRow x0 x1 t) (at2 x4) j.val := by
  rw [val_main_v29_apply]
  refine Finset.sum_congr rfl fun k _ => congrArg₂ (· * ·) ((congrArg (val_main_v27 (F := Ideal) x0 x1) (?_ : _ = ix3 (0 : Fin 1) t k)).trans (h_at x0 x1 t k)) ?_
  · ext a; fin_cases a <;> rfl
  · rw [← at2_ix2 x4, val_main_v28_apply]
    refine congrArg x4 ?_
    ext a; fin_cases a <;> rfl

theorem third_at (t : Fin 2048) (j : Fin 2816) :
    val_main_v32 (F := Ideal) x0 x1 x5 (ix3 (0 : Fin 1) t j) = projAt (hRow x0 x1 t) (at2 x5) j.val := by
  rw [val_main_v32_apply]
  refine Finset.sum_congr rfl fun k _ => congrArg₂ (· * ·) ((congrArg (val_main_v27 (F := Ideal) x0 x1) (?_ : _ = ix3 (0 : Fin 1) t k)).trans (h_at x0 x1 t k)) ?_
  · ext a; fin_cases a <;> rfl
  · rw [← at2_ix2 x5, val_main_v31_apply]
    refine congrArg x5 ?_
    ext a; fin_cases a <;> rfl

/-- The logistic function of the first projection, spelt out by the reference. -/
theorem gate_at (t : Fin 2048) (j : Fin 2816) :
    val_main_call0_v5 (F := Ideal) x0 x1 x4 (ix3 (0 : Fin 1) t j) = Ideal.logistic (projAt (hRow x0 x1 t) (at2 x4) j.val) := by
  rw [← first_at]
  unfold Ideal.logistic
  rw [← ofBits_unit]
  pointwise [val_main_call0_v5, val_main_call0_v4, val_main_call0_cst_0, val_main_call0_v3, val_main_call0_v2, val_main_call0_cst, val_main_call0_v1, val_main_call0_v0]

theorem act_at (t : Fin 2048) (j : Fin 2816) :
    val_main_v33 (F := Ideal) x0 x1 x4 x5 (ix3 (0 : Fin 1) t j) = actAt (hRow x0 x1 t) (at2 x4) (at2 x5) j.val := by
  rw [val_main_v33_apply, val_main_v30_apply, gate_at, first_at, third_at]
  rfl

/-- A row of the residual. -/
def zRow (t : Fin 2048) : ℕ → EReal :=
  stepAt (xRow x0 t) (at3 x1 0 2) (actAt (hRow x0 x1 t) (at2 x4) (at2 x5)) (at2 x6)

theorem z_at (t : Fin 2048) (c : Fin 1024) : val_main_v42 (F := Ideal) x0 x1 x4 x5 x6 (ix3 (0 : Fin 1) t c) = zRow x0 x1 x4 x5 x6 t c.val := by
  have e : val_main_v35 (F := Ideal) x0 x1 x4 x5 x6 (ix3 (0 : Fin 1) t c) = ∑ k : Fin 2816, actAt (hRow x0 x1 t) (at2 x4) (at2 x5) k.val * at2 x6 k.val c.val := by
    rw [val_main_v35_apply]
    refine Finset.sum_congr rfl fun k _ => congrArg₂ (· * ·) ((congrArg (val_main_v33 (F := Ideal) x0 x1 x4 x5) (?_ : _ = ix3 (0 : Fin 1) t k)).trans (act_at x0 x1 x4 x5 t k)) ?_
    · ext a; fin_cases a <;> rfl
    · rw [← at2_ix2 x6, val_main_v34_apply]
      refine congrArg x6 ?_
      ext a; fin_cases a <;> rfl
  have eg : val_main_v40 (F := Ideal) x1 (ix3 (0 : Fin 1) t c) = Ideal.ofBits .f32 1056964608#32 * at3 x1 0 2 c.val := by
    pointwise [val_main_v40, val_main_v39, val_main_v38, val_main_cst_6, val_main_v3]
    rw [at3_ix3 x1]
    rfl
  have ex : val_main_v36 (F := Ideal) (ix3 (0 : Fin 1) t c) = Ideal.ofBits .f32 1068827891#32 := by
    pointwise [val_main_v36, val_main_cst_5]
  rw [val_main_v42_apply, val_main_v41_apply, val_main_v37_apply, e, eg, ex, x_at]
  rfl

theorem mean_at (t : Fin 2048) (z : Fin 1) : val_main_v46 (F := Ideal) x0 x1 x4 x5 x6 (ix3 (0 : Fin 1) t z) = mean (zRow x0 x1 x4 x5 x6 t) := by
  pointwise [val_main_v46, val_main_v45, val_main_cst_8, val_main_v44, val_main_v43, val_main_cst_7]
  simp only [z_at]
  rfl

theorem centre_at (t : Fin 2048) (c : Fin 1024) :
    val_main_v48 (F := Ideal) x0 x1 x4 x5 x6 (ix3 (0 : Fin 1) t c) = zRow x0 x1 x4 x5 x6 t c.val - mean (zRow x0 x1 x4 x5 x6 t) := by
  have e : val_main_v47 (F := Ideal) x0 x1 x4 x5 x6 (ix3 (0 : Fin 1) t c) = val_main_v46 (F := Ideal) x0 x1 x4 x5 x6 (ix3 (0 : Fin 1) t 0) := by
    pointwise [val_main_v47]
  rw [val_main_v48_apply, e, mean_at, z_at]
  rfl

theorem var_at (t : Fin 2048) (z : Fin 1) :
    val_main_v53 (F := Ideal) x0 x1 x4 x5 x6 (ix3 (0 : Fin 1) t z) = mean fun k => (zRow x0 x1 x4 x5 x6 t k - mean (zRow x0 x1 x4 x5 x6 t)) * (zRow x0 x1 x4 x5 x6 t k - mean (zRow x0 x1 x4 x5 x6 t)) := by
  pointwise [val_main_v53, val_main_v52, val_main_cst_10, val_main_v51, val_main_v50, val_main_cst_9, val_main_v49]
  simp only [centre_at]
  rfl

theorem norm_at (t : Fin 2048) (c : Fin 1024) :
    val_main_v66 (F := Ideal) x0 x1 x2 x3 x4 x5 x6 (ix3 (0 : Fin 1) t c) = normAt (zRow x0 x1 x4 x5 x6 t) (at2 x2 0) (at2 x3 0) c.val := by
  have e8 : val_main_v54 (F := Ideal) x0 x1 x4 x5 x6 (ix3 (0 : Fin 1) t c) = val_main_v46 (F := Ideal) x0 x1 x4 x5 x6 (ix3 (0 : Fin 1) t 0) := by
    pointwise [val_main_v54]
  have e3 : val_main_v59 (F := Ideal) x0 x1 x4 x5 x6 (ix3 (0 : Fin 1) t c) = Ideal.rsqrt (val_main_v53 (F := Ideal) x0 x1 x4 x5 x6 (ix3 (0 : Fin 1) t 0) + Ideal.ofBits .f32 925353388#32) := by
    pointwise [val_main_v59, val_main_v58, val_main_v57, val_main_v56, val_main_cst_11]
  have eg : val_main_v62 (F := Ideal) x2 (ix3 (0 : Fin 1) t c) = at2 x2 0 c.val := by
    pointwise [val_main_v62, val_main_v61]
    rw [at2_ix2 x2]
    rfl
  have eb : val_main_v65 (F := Ideal) x3 (ix3 (0 : Fin 1) t c) = at2 x3 0 c.val := by
    pointwise [val_main_v65, val_main_v64]
    rw [at2_ix2 x3]
    rfl
  rw [val_main_v66_apply, val_main_v63_apply, val_main_v60_apply, val_main_v55_apply, e8, e3, eg, eb, mean_at, var_at, z_at]
  rfl

/-- What the reference returns. -/
theorem reference_eq : val_main_v67 (F := Ideal) x0 x1 x2 x3 x4 x5 x6 = fun i : S2048x1024.Idx => step x0 x1 x2 x3 x4 x5 x6 (i 0).val (i 1).val := by
  funext i
  have h0 : (i 0).val < 2048 := (i 0).isLt
  have h1 : (i 1).val < 1024 := (i 1).isLt
  have e : idx_main_v67 i = ix3 (0 : Fin 1) ⟨(i 0).val, h0⟩ ⟨(i 1).val, h1⟩ := by
    ext a
    fin_cases a
    · rfl
    · show ((i 0).val * 1024 + (i 1).val) / 1024 % 2048 = (i 0).val
      omega
    · show ((i 0).val * 1024 + (i 1).val) % 1024 = (i 1).val
      omega
  rw [val_main_v67_apply, e, norm_at]
  rfl

end Cert.Ctx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Mix.Kern
public import proofs.«01_k».proof.Proof.Mix.RefOut
public import proofs.«01_k».proof.Proof.Ffn.Kern
public import proofs.«01_k».proof.Proof.Ffn.Ref
public import proofs.«01_k».proof.Proof.Proj.Kern
public import proofs.«01_k».proof.Proof.Proj.Ref
public import proofs.«01_k».proof.Proof.Ctx.Kern
public import proofs.«01_k».proof.Proof.Ctx.Ref
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference ends and leaves its arguments alone. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

theorem layer_args {x x' : Shape.Idx ⟨2, ![65536, 1024]⟩ → EReal} {u u' : Shape.Idx ⟨2, ![65536, 2048]⟩ → EReal}
    {uc uc' : Shape.Idx ⟨2, ![2048, 2048]⟩ → EReal} {md md' : Shape.Idx ⟨3, ![8, 3, 1024]⟩ → EReal} {sk sk' : Shape.Idx ⟨1, ![8]⟩ → EReal}
    {wp wp' : Shape.Idx ⟨3, ![4, 128, 128]⟩ → EReal} {ps ps' : Shape.Idx ⟨2, ![1, 512]⟩ → EReal} {wo wo' : Shape.Idx ⟨2, ![1024, 1024]⟩ → EReal}
    {g g' b b' : Shape.Idx ⟨2, ![1, 1024]⟩ → EReal} (h0 : x = x') (h1 : u = u') (h2 : uc = uc') (h3 : md = md') (h4 : sk = sk') (h5 : wp = wp')
    (h6 : ps = ps') (h7 : wo = wo') (h8 : g = g') (h9 : b = b') (r c : ℕ) :
    Cert.Mix.layer x u uc md sk wp ps wo g b r c = Cert.Mix.layer x' u' uc' md' sk' wp' ps' wo' g' b' r c := by
  rw [h0, h1, h2, h3, h4, h5, h6, h7, h8, h9]

/-- The two programs return the same layer. -/
theorem same_layer : Cert.algebraic_KernelIdeal_ReferenceIdeal (hKernelIdeal := Cert.KernelIdeal.Gen.facts)
    (hReferenceIdeal := Cert.ReferenceIdeal.Gen.facts) := by
  intro m g m' g' _ hagree
  refine ⟨fun c => Cert.Mix.kernLayer m c, ?_, ?_⟩
  · exact (θ_run _ _ _).mono (fun r h c => ⟨(h c).1.trans (Cert.Mix.result_eq m c), (h c).2⟩) (Cert.KernelIdeal.Value.run_blocks (F := Ideal) m g)
  · refine (θ_run _ _ _).mono (fun r h c => ⟨(h c).1.trans ?_, (h c).2⟩) (Cert.ReferenceIdeal.Value.run (F := Ideal) m' g')
    refine (Cert.ReferenceIdeal.Read.val_main_v151_eq (F := Ideal) (StableHlo.launchContents m' c)).trans ((Cert.Mix.reference_eq _ _ _ _ _ _ _ _ _ _).trans ?_)
    obtain ⟨h0, h1, h2, h3, h4, h5, h6, h7, h8, h9⟩ := hagree c
    exact funext fun i => layer_args h0 h1 h2 h3 h4 h5 h6 h7 h8 h9 (i 0).val (i 1).val

/-- The second reference leaves its arguments as they were. -/
theorem reference2_frame : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run (F := Ideal) m g)

theorem step_args {x x' : Shape.Idx ⟨2, ![65536, 1024]⟩ → EReal} {md md' : Shape.Idx ⟨3, ![8, 3, 1024]⟩ → EReal}
    {g g' b b' : Shape.Idx ⟨2, ![1, 1024]⟩ → EReal} {w1 w1' w3 w3' : Shape.Idx ⟨2, ![1024, 2816]⟩ → EReal}
    {w2 w2' : Shape.Idx ⟨2, ![2816, 1024]⟩ → EReal} (h0 : x = x') (h1 : md = md') (h2 : g = g') (h3 : b = b') (h4 : w1 = w1')
    (h5 : w3 = w3') (h6 : w2 = w2') (r c : ℕ) :
    Cert.Ffn.step x md g b w1 w3 w2 r c = Cert.Ffn.step x' md' g' b' w1' w3' w2' r c := by
  rw [h0, h1, h2, h3, h4, h5, h6]

/-- The two programs return the same feed-forward step. -/
theorem same_step : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Ffn.kernStep m c, ?_, ?_⟩
  · exact (θ_run _ _ _).mono (fun r h c => ⟨(h c).1.trans (Cert.Ffn.result_eq m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    refine (Cert.Reference2Ideal.Read.val_main_v67_eq (F := Ideal) m' c).trans ((Cert.Ffn.reference_eq _ _ _ _ _ _ _).trans ?_)
    obtain ⟨h0, h1, h2, h3, h4, h5, h6⟩ := hagree c
    exact funext fun i => step_args h0 h1 h2 h3 h4 h5 h6 (i 0).val (i 1).val

/-- The third reference leaves its arguments as they were. -/
theorem reference3_frame : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run (F := Ideal) m g)

theorem proj_args {x x' : Shape.Idx ⟨2, ![65536, 1024]⟩ → EReal} {md md' : Shape.Idx ⟨3, ![8, 3, 1024]⟩ → EReal}
    {w w' : Shape.Idx ⟨2, ![1024, 1280]⟩ → EReal} (h0 : x = x') (h1 : md = md') (h2 : w = w') (r c : ℕ) :
    Cert.Proj.step x md w r c = Cert.Proj.step x' md' w' r c := by
  rw [h0, h1, h2]

/-- The two programs return the same projection. -/
theorem same_proj : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Proj.kernStep m c, ?_, ?_⟩
  · exact (θ_run _ _ _).mono (fun r h c => ⟨(h c).1.trans (Cert.Proj.result_eq m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    refine (Cert.Reference3Ideal.Read.val_main_v173_eq (F := Ideal) (StableHlo.launchContents m' c)).trans ((Cert.Proj.reference_eq _ _ _).trans ?_)
    obtain ⟨h0, h1, h2⟩ := hagree c
    exact funext fun i => proj_args h0 h1 h2 (i 0).val (i 1).val

/-- The fourth reference leaves its arguments as they were. -/
theorem reference4_frame : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run (F := Ideal) m g)

theorem ctx_args {x x' : Shape.Idx ⟨2, ![2048, 1024]⟩ → EReal} {md md' : Shape.Idx ⟨3, ![1, 3, 1024]⟩ → EReal}
    {g g' b b' : Shape.Idx ⟨2, ![1, 1024]⟩ → EReal} {w1 w1' w3 w3' : Shape.Idx ⟨2, ![1024, 2816]⟩ → EReal}
    {w2 w2' : Shape.Idx ⟨2, ![2816, 1024]⟩ → EReal} (h0 : x = x') (h1 : md = md') (h2 : g = g') (h3 : b = b') (h4 : w1 = w1')
    (h5 : w3 = w3') (h6 : w2 = w2') (r c : ℕ) :
    Cert.Ctx.step x md g b w1 w3 w2 r c = Cert.Ctx.step x' md' g' b' w1' w3' w2' r c := by
  rw [h0, h1, h2, h3, h4, h5, h6]

/-- The two programs return the same feed-forward step of the context rows. -/
theorem same_ctx : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Ctx.kernStep m c, ?_, ?_⟩
  · exact (θ_run _ _ _).mono (fun r h c => ⟨(h c).1.trans (Cert.Ctx.result_eq m c), (h c).2⟩) (Cert.Kernel4Ideal.Value.run_blocks (F := Ideal) m g)
  · refine (θ_run _ _ _).mono (fun r h c => ⟨(h c).1.trans ?_, (h c).2⟩) (Cert.Reference4Ideal.Value.run (F := Ideal) m' g')
    refine (Cert.Reference4Ideal.Read.val_main_v67_eq (F := Ideal) m' c).trans ((Cert.Ctx.reference_eq _ _ _ _ _ _ _).trans ?_)
    obtain ⟨h0, h1, h2, h3, h4, h5, h6⟩ := hagree c
    exact funext fun i => ctx_args h0 h1 h2 h3 h4 h5 h6 (i 0).val (i 1).val

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ,
  fun m ρ _ => Cert.KernelIdeal.Gen.frame m ρ,
  reference_frame,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩,
  same_layer,
  trivial,
  same_step,
  IdealRules.named_const.statement Cert.Kernel3Ideal.κ "qscale" .f32 0x3E38AA3B#32 (((Real.log 256)⁻¹ : ℝ) : EReal) rfl,
  same_proj,
  trivial,
  same_ctx⟩

end Cert.Proof

end
